-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S32768x1536 : Shape := ⟨2, ![32768, 1536]⟩
abbrev S32768x2048 : Shape := ⟨2, ![32768, 2048]⟩
abbrev S32768x64 : Shape := ⟨2, ![32768, 64]⟩
abbrev S16x2048 : Shape := ⟨2, ![16, 2048]⟩
abbrev S32768x3648 : Shape := ⟨2, ![32768, 3648]⟩
abbrev S_ : Shape := ⟨0, ![]⟩

class Facts : Prop where
  concatenates_S32768x1536_S32768x2048_S32768x64_S32768x3648_d1 : Shape.Concatenates [S32768x1536, S32768x2048, S32768x64] S32768x3648 1
  bcast_S_S32768x3648 : S_.BroadcastsInDim S32768x3648 (![] : Fin 0 → Fin S32768x3648.rank)

variable [Facts]

def fn {F : FTy → Type} [FloatOps F] (main_arg0 : FVec F S32768x1536 .f32) (main_arg1 : FVec F S32768x2048 .f32) (main_arg2 : FVec F S32768x64 .f32) (main_arg3 : IVec S16x2048 32) : IVec S32768x3648 1 :=
  let main_v0 : FVec F S32768x3648 .f32 := concatenate S32768x3648 1 [⟨S32768x1536, main_arg0⟩, ⟨S32768x2048, main_arg1⟩, ⟨S32768x64, main_arg2⟩] concatenates_S32768x1536_S32768x2048_S32768x64_S32768x3648_d1
  let main_v1 : FVec F S32768x3648 .f32 := Host.absf main_v0
  let main_cst : FVec F S_ .f32 := constant S_ .f32 0x7F800000#32
  let main_v2 : FVec F S32768x3648 .f32 := broadcastInDim S32768x3648 ![] bcast_S_S32768x3648 main_cst
  let main_v3 : IVec S32768x3648 1 := cmpf .olt main_v1 main_v2
  main_v3
-- ==== Kernel.lean ====
abbrev S32768x1536 : Shape := ⟨2, ![32768, 1536]⟩
abbrev S32768x2048 : Shape := ⟨2, ![32768, 2048]⟩
abbrev S32768x64 : Shape := ⟨2, ![32768, 64]⟩
abbrev S16x2048 : Shape := ⟨2, ![16, 2048]⟩
abbrev S32768x8x192 : Shape := ⟨3, ![32768, 8, 192]⟩
abbrev S_ : Shape := ⟨0, ![]⟩
abbrev S32768x8x64 : Shape := ⟨3, ![32768, 8, 64]⟩
abbrev S32768x8x32 : Shape := ⟨3, ![32768, 8, 32]⟩
abbrev S32768x8x128 : Shape := ⟨3, ![32768, 8, 128]⟩
abbrev S32768x1024 : Shape := ⟨2, ![32768, 1024]⟩
abbrev S32768x512 : Shape := ⟨2, ![32768, 512]⟩
abbrev S32768x32 : Shape := ⟨2, ![32768, 32]⟩
abbrev S32768x8192 : Shape := ⟨2, ![32768, 8192]⟩
abbrev S32768x8448 : Shape := ⟨2, ![32768, 8448]⟩
abbrev S32 : Shape := ⟨1, ![32]⟩
abbrev S64 : Shape := ⟨1, ![64]⟩
abbrev S1x64 : Shape := ⟨2, ![1, 64]⟩
abbrev S2x64 : Shape := ⟨2, ![2, 64]⟩
abbrev S128 : Shape := ⟨1, ![128]⟩
abbrev S32768x1 : Shape := ⟨2, ![32768, 1]⟩
abbrev S1x32 : Shape := ⟨2, ![1, 32]⟩
abbrev S4x32 : Shape := ⟨2, ![4, 32]⟩
abbrev S1x128 : Shape := ⟨2, ![1, 128]⟩
abbrev S32768x128 : Shape := ⟨2, ![32768, 128]⟩
abbrev S256x1024 : Shape := ⟨2, ![256, 1024]⟩
abbrev S256x512 : Shape := ⟨2, ![256, 512]⟩
abbrev S256x128 : Shape := ⟨2, ![256, 128]⟩
abbrev S2048x2048 : Shape := ⟨2, ![2048, 2048]⟩
abbrev S2048x128 : Shape := ⟨2, ![2048, 128]⟩
abbrev S256x256 : Shape := ⟨2, ![256, 256]⟩
abbrev S1x256 : Shape := ⟨2, ![1, 256]⟩
abbrev S128x256 : Shape := ⟨2, ![128, 256]⟩
abbrev S256 : Shape := ⟨1, ![256]⟩

abbrev nBuf : Space → Nat
  | .hbm => 58
  | .vmem => 23
  | .smem => 0
  | _ => 0

abbrev bufTy : (tb : Table) → Fin (tcTables nBuf tb) → BufTy
  | .hbm, ⟨0, _⟩ => ⟨S32768x1536, .f32⟩
  | .hbm, ⟨1, _⟩ => ⟨S32768x2048, .f32⟩
  | .hbm, ⟨2, _⟩ => ⟨S32768x64, .f32⟩
  | .hbm, ⟨3, _⟩ => ⟨S16x2048, .i32⟩
  | .hbm, ⟨4, _⟩ => ⟨S32768x8x192, .f32⟩
  | .hbm, ⟨5, _⟩ => ⟨S_, .f32⟩
  | .hbm, ⟨6, _⟩ => ⟨S32768x8x192, .f32⟩
  | .hbm, ⟨7, _⟩ => ⟨S32768x8x192, .f32⟩
  | .hbm, ⟨8, _⟩ => ⟨S32768x8x64, .f32⟩
  | .hbm, ⟨9, _⟩ => ⟨S32768x8x32, .f32⟩
  | .hbm, ⟨10, _⟩ => ⟨S32768x8x32, .f32⟩
  | .hbm, ⟨11, _⟩ => ⟨S32768x8x64, .f32⟩
  | .hbm, ⟨12, _⟩ => ⟨S32768x8x128, .f32⟩
  | .hbm, ⟨13, _⟩ => ⟨S32768x1024, .f32⟩
  | .hbm, ⟨14, _⟩ => ⟨S32768x512, .f32⟩
  | .hbm, ⟨15, _⟩ => ⟨S32768x512, .f32⟩
  | .hbm, ⟨16, _⟩ => ⟨S32768x2048, .f32⟩
  | .hbm, ⟨17, _⟩ => ⟨S32768x2048, .bf16⟩
  | .hbm, ⟨18, _⟩ => ⟨S32768x32, .f32⟩
  | .hbm, ⟨19, _⟩ => ⟨S32768x32, .f32⟩
  | .hbm, ⟨20, _⟩ => ⟨S32768x64, .f32⟩
  | .hbm, ⟨21, _⟩ => ⟨S_, .f32⟩
  | .hbm, ⟨22, _⟩ => ⟨S32768x8192, .f32⟩
  | .hbm, ⟨23, _⟩ => ⟨S32768x8448, .f32⟩
  | .hbm, ⟨24, _⟩ => ⟨S32768x8448, .bf16⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S64, .f32⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S16x2048, .f32⟩
  | .hbm, ⟨43, _⟩ => ⟨S32768x1, .f32⟩
  | .hbm, ⟨44, _⟩ => ⟨S1x32, .f32⟩
  | .hbm, ⟨45, _⟩ => ⟨S4x32, .f32⟩
  | .hbm, ⟨46, _⟩ => ⟨S128, .f32⟩
  | .hbm, ⟨47, _⟩ => ⟨S1x128, .f32⟩
  | .hbm, ⟨48, _⟩ => ⟨S32768x128, .f32⟩
  | .hbm, ⟨49, _⟩ => ⟨S32768x128, .f32⟩
  | .hbm, ⟨50, _⟩ => ⟨S32768x128, .f32⟩
  | .hbm, ⟨51, _⟩ => ⟨S32768x128, .f32⟩
  | .hbm, ⟨52, _⟩ => ⟨S32768x128, .f32⟩
  | .hbm, ⟨53, _⟩ => ⟨S1x128, .f32⟩
  | .hbm, ⟨54, _⟩ => ⟨S32768x128, .f32⟩
  | .hbm, ⟨55, _⟩ => ⟨S32768x128, .f32⟩
  | .hbm, ⟨56, _⟩ => ⟨S32768x2048, .bf16⟩
  | .hbm, ⟨57, _⟩ => ⟨S32768x1024, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2048x2048, .bf16⟩
  | .local _ .vmem, ⟨11, _⟩ => ⟨S2048x2048, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S256x1024, .bf16⟩
  | .local _ .vmem, ⟨21, _⟩ => ⟨S256x1024, .bf16⟩
  | .local _ .vmem, ⟨22, _⟩ => ⟨S2048x128, .bf16⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![16, 1, 8], ![false, false, false]⟩

@[reducible] def k0_t1_loop (i : grid0.Coords) : Scf.Loop 32 :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_63 : BitVec 32 := 1#32
  ⟨c0_i32_61, v125, c1_i32_63⟩
def k0_mult1 (i : grid0.Coords) (k0_t1 : Fin (k0_t1_loop i).trips) : BitVec 32 :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  v442
def k0_off1 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v444 : Index := Scalar.indexCast v443
  let c0_147 : Index := 0#32
  ![v444.toNat, 0]
def k0_off2 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v446 : Index := Scalar.indexCast v443
  let c0_148 : Index := 0#32
  ![v446.toNat, 0]
def k0_off3 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v451 : Index := Scalar.indexCast v443
  let c256_150 : Index := 256#32
  ![v451.toNat, 256]
def k0_off4 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v456 : Index := Scalar.indexCast v443
  let c512_152 : Index := 512#32
  ![v456.toNat, 512]
def k0_off5 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v461 : Index := Scalar.indexCast v443
  let c768_154 : Index := 768#32
  ![v461.toNat, 768]
def k0_off6 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v466 : Index := Scalar.indexCast v443
  let c1024_156 : Index := 1024#32
  ![v466.toNat, 1024]
def k0_off7 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v471 : Index := Scalar.indexCast v443
  let c1280_158 : Index := 1280#32
  ![v471.toNat, 1280]
def k0_off8 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v476 : Index := Scalar.indexCast v443
  let c1536_160 : Index := 1536#32
  ![v476.toNat, 1536]
def k0_off9 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v481 : Index := Scalar.indexCast v443
  let c1792_162 : Index := 1792#32
  ![v481.toNat, 1792]
def k0_off10 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v582 : Index := Scalar.indexCast v443
  let c128_180 : Index := 128#32
  ![v582.toNat, 128]
def k0_off11 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v587 : Index := Scalar.indexCast v443
  let c384_182 : Index := 384#32
  ![v587.toNat, 384]
def k0_off12 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v592 : Index := Scalar.indexCast v443
  let c640_184 : Index := 640#32
  ![v592.toNat, 640]
def k0_off13 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v597 : Index := Scalar.indexCast v443
  let c896_186 : Index := 896#32
  ![v597.toNat, 896]
def k0_off14 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v602 : Index := Scalar.indexCast v443
  let c1152_188 : Index := 1152#32
  ![v602.toNat, 1152]
def k0_off15 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v607 : Index := Scalar.indexCast v443
  let c1408_190 : Index := 1408#32
  ![v607.toNat, 1408]
def k0_off16 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v612 : Index := Scalar.indexCast v443
  let c1664_192 : Index := 1664#32
  ![v612.toNat, 1664]
def k0_off17 (i : grid0.Coords) (k0_t1 : Fin (k0_t1_loop i).trips) : Fin 2 → Nat :=
  let c0_i32_61 : BitVec 32 := 0#32
  let c1_i32_63 : BitVec 32 := 1#32
  let arg15 : BitVec 32 := Scf.iv c0_i32_61 c1_i32_63 k0_t1
  let c256_i32_146 : BitVec 32 := 256#32
  let v442 : BitVec 32 := Scalar.muli arg15 c256_i32_146
  let v443 : BitVec 32 := v442
  let v617 : Index := Scalar.indexCast v443
  let c1920_194 : Index := 1920#32
  ![v617.toNat, 1920]
@[reducible] def k0_t2_loop (i : grid0.Coords) : Scf.Loop 32 :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let v122 : BitVec 32 := Scalar.addi c0_i32_61 v121
  let c1_i32_64 : BitVec 32 := 1#32
  ⟨v125, v122, c1_i32_64⟩
def k0_mult2 (i : grid0.Coords) (k0_t2 : Fin (k0_t2_loop i).trips) : BitVec 32 :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  v442
def k0_off18 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v444 : Index := Scalar.indexCast v443
  let c0_147 : Index := 0#32
  ![v444.toNat, 0]
def k0_off19 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v446 : Index := Scalar.indexCast v443
  let c0_148 : Index := 0#32
  ![v446.toNat, 0]
def k0_off20 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v451 : Index := Scalar.indexCast v443
  let c256_150 : Index := 256#32
  ![v451.toNat, 256]
def k0_off21 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v456 : Index := Scalar.indexCast v443
  let c512_152 : Index := 512#32
  ![v456.toNat, 512]
def k0_off22 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v461 : Index := Scalar.indexCast v443
  let c768_154 : Index := 768#32
  ![v461.toNat, 768]
def k0_off23 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v466 : Index := Scalar.indexCast v443
  let c1024_156 : Index := 1024#32
  ![v466.toNat, 1024]
def k0_off24 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v471 : Index := Scalar.indexCast v443
  let c1280_158 : Index := 1280#32
  ![v471.toNat, 1280]
def k0_off25 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v476 : Index := Scalar.indexCast v443
  let c1536_160 : Index := 1536#32
  ![v476.toNat, 1536]
def k0_off26 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v481 : Index := Scalar.indexCast v443
  let c1792_162 : Index := 1792#32
  ![v481.toNat, 1792]
def k0_off27 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v582 : Index := Scalar.indexCast v443
  let c128_180 : Index := 128#32
  ![v582.toNat, 128]
def k0_off28 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v587 : Index := Scalar.indexCast v443
  let c384_182 : Index := 384#32
  ![v587.toNat, 384]
def k0_off29 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v592 : Index := Scalar.indexCast v443
  let c640_184 : Index := 640#32
  ![v592.toNat, 640]
def k0_off30 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v597 : Index := Scalar.indexCast v443
  let c896_186 : Index := 896#32
  ![v597.toNat, 896]
def k0_off31 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v602 : Index := Scalar.indexCast v443
  let c1152_188 : Index := 1152#32
  ![v602.toNat, 1152]
def k0_off32 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v607 : Index := Scalar.indexCast v443
  let c1408_190 : Index := 1408#32
  ![v607.toNat, 1408]
def k0_off33 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v612 : Index := Scalar.indexCast v443
  let c1664_192 : Index := 1664#32
  ![v612.toNat, 1664]
def k0_off34 (i : grid0.Coords) (k0_t2 : Fin (k0_t2_loop i).trips) : Fin 2 → Nat :=
  let c0_i32_61 : BitVec 32 := 0#32
  let arg2 : BitVec 32 := BitVec.ofNat 32 (i 2).val
  let c1_i32 : BitVec 32 := 1#32
  let v120 : BitVec 32 := Scalar.muli arg2 c1_i32
  let v121 : BitVec 32 := Scalar.subi v120 c0_i32_61
  let c1_i32_62 : BitVec 32 := 1#32
  let v123 : BitVec 32 := Scalar.divsi v121 c1_i32_62
  let v124 : BitVec 32 := Scalar.muli v123 c1_i32_62
  let v125 : BitVec 32 := Scalar.addi c0_i32_61 v124
  let c1_i32_64 : BitVec 32 := 1#32
  let arg15 : BitVec 32 := Scf.iv v125 c1_i32_64 k0_t2
  let c256_i32_146 : BitVec 32 := 256#32
  let v442 : BitVec 32 := Scalar.muli arg15 c256_i32_146
  let v443 : BitVec 32 := v442
  let v617 : Index := Scalar.indexCast v443
  let c1920_194 : Index := 1920#32
  ![v617.toNat, 1920]
def k0_mult3 (i : grid0.Coords) : BitVec 32 :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  v154
def k0_off35 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v184 : Index := Scalar.indexCast v155
  let c0_81 : Index := 0#32
  ![v184.toNat, 0]
def k0_off36 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v186 : Index := Scalar.indexCast v155
  let c0_82 : Index := 0#32
  ![v186.toNat, 0]
def k0_off37 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v191 : Index := Scalar.indexCast v155
  let c256_84 : Index := 256#32
  ![v191.toNat, 256]
def k0_off38 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v196 : Index := Scalar.indexCast v155
  let c512_86 : Index := 512#32
  ![v196.toNat, 512]
def k0_off39 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v201 : Index := Scalar.indexCast v155
  let c768_88 : Index := 768#32
  ![v201.toNat, 768]
def k0_off40 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v206 : Index := Scalar.indexCast v155
  let c1024 : Index := 1024#32
  ![v206.toNat, 1024]
def k0_off41 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v211 : Index := Scalar.indexCast v155
  let c1280 : Index := 1280#32
  ![v211.toNat, 1280]
def k0_off42 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v216 : Index := Scalar.indexCast v155
  let c1536 : Index := 1536#32
  ![v216.toNat, 1536]
def k0_off43 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v221 : Index := Scalar.indexCast v155
  let c1792 : Index := 1792#32
  ![v221.toNat, 1792]
def k0_off44 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v338 : Index := Scalar.indexCast v155
  let c128_118 : Index := 128#32
  ![v338.toNat, 128]
def k0_off45 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v343 : Index := Scalar.indexCast v155
  let c384_120 : Index := 384#32
  ![v343.toNat, 384]
def k0_off46 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v348 : Index := Scalar.indexCast v155
  let c640_122 : Index := 640#32
  ![v348.toNat, 640]
def k0_off47 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v353 : Index := Scalar.indexCast v155
  let c896_124 : Index := 896#32
  ![v353.toNat, 896]
def k0_off48 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v358 : Index := Scalar.indexCast v155
  let c1152 : Index := 1152#32
  ![v358.toNat, 1152]
def k0_off49 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v363 : Index := Scalar.indexCast v155
  let c1408 : Index := 1408#32
  ![v363.toNat, 1408]
def k0_off50 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v368 : Index := Scalar.indexCast v155
  let c1664 : Index := 1664#32
  ![v368.toNat, 1664]
def k0_off51 (i : grid0.Coords) : Fin 2 → Nat :=
  let arg2 : BitVec 32 := BitVec.ofNat 32 (i 2).val
  let c256_i32 : BitVec 32 := 256#32
  let v153 : BitVec 32 := Scalar.muli arg2 c256_i32
  let c0_i32_72 : BitVec 32 := 0#32
  let v154 : BitVec 32 := Scalar.addi v153 c0_i32_72
  let v155 : BitVec 32 := v154
  let v373 : Index := Scalar.indexCast v155
  let c1920 : Index := 1920#32
  ![v373.toNat, 1920]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let c0_i32 : BitVec 32 := 0#32
  ![arg0.toNat, c64_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c65_i32 : BitVec 32 := 65#32
  let c0_i32 : BitVec 32 := 0#32
  ![arg0.toNat, c65_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "neg" => some ⊥
  | _ => none
-- ==== ReferenceIdeal.lean ====
abbrev S32768x1536 : Shape := ⟨2, ![32768, 1536]⟩
abbrev S32768x2048 : Shape := ⟨2, ![32768, 2048]⟩
abbrev S32768x64 : Shape := ⟨2, ![32768, 64]⟩
abbrev S16x2048 : Shape := ⟨2, ![16, 2048]⟩
abbrev S16x2048x8x192 : Shape := ⟨4, ![16, 2048, 8, 192]⟩
abbrev S16x2048x8x128 : Shape := ⟨4, ![16, 2048, 8, 128]⟩
abbrev S16x2048x8x64 : Shape := ⟨4, ![16, 2048, 8, 64]⟩
abbrev S32 : Shape := ⟨1, ![32]⟩
abbrev S_ : Shape := ⟨0, ![]⟩
abbrev S16x2048x1 : Shape := ⟨3, ![16, 2048, 1]⟩
abbrev S1x1x32 : Shape := ⟨3, ![1, 1, 32]⟩
abbrev S16x2048x32 : Shape := ⟨3, ![16, 2048, 32]⟩
abbrev S16x2048x1x32 : Shape := ⟨4, ![16, 2048, 1, 32]⟩
abbrev S16x2048x8x32 : Shape := ⟨4, ![16, 2048, 8, 32]⟩
abbrev S16x2048x8x256 : Shape := ⟨4, ![16, 2048, 8, 256]⟩
abbrev S16x2048x64 : Shape := ⟨3, ![16, 2048, 64]⟩
abbrev S16x8x2048x2048 : Shape := ⟨4, ![16, 8, 2048, 2048]⟩
abbrev S16x2048x2048x8 : Shape := ⟨4, ![16, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩
abbrev S32768x1024 : Shape := ⟨2, ![32768, 1024]⟩

abbrev nBuf : Space → Nat
  | .hbm => 121
  | .vmem => 0
  | .smem => 0
  | _ => 0

abbrev bufTy : (tb : Table) → Fin (tcTables nBuf tb) → BufTy
  | .hbm, ⟨0, _⟩ => ⟨S32768x1536, .f32⟩
  | .hbm, ⟨1, _⟩ => ⟨S32768x2048, .f32⟩
  | .hbm, ⟨2, _⟩ => ⟨S32768x64, .f32⟩
  | .hbm, ⟨3, _⟩ => ⟨S16x2048, .i32⟩
  | .hbm, ⟨4, _⟩ => ⟨S16x2048x8x192, .f32⟩
  | .hbm, ⟨5, _⟩ => ⟨S16x2048x8x128, .f32⟩
  | .hbm, ⟨6, _⟩ => ⟨S16x2048x8x64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16x2048, .f32⟩
  | .hbm, ⟨16, _⟩ => ⟨S16x2048x1, .f32⟩
  | .hbm, ⟨17, _⟩ => ⟨S1x1x32, .f32⟩
  | .hbm, ⟨18, _⟩ => ⟨S16x2048x32, .f32⟩
  | .hbm, ⟨19, _⟩ => ⟨S16x2048x32, .f32⟩
  | .hbm, ⟨20, _⟩ => ⟨S16x2048x32, .f32⟩
  | .hbm, ⟨21, _⟩ => ⟨S16x2048x1x32, .f32⟩
  | .hbm, ⟨22, _⟩ => ⟨S16x2048x1x32, .f32⟩
  | .hbm, ⟨23, _⟩ => ⟨S16x2048x1x32, .f32⟩
  | .hbm, ⟨24, _⟩ => ⟨S16x2048x8x32, .f32⟩
  | .hbm, ⟨25, _⟩ => ⟨S16x2048x8x32, .f32⟩
  | .hbm, ⟨26, _⟩ => ⟨S16x2048x8x32, .f32⟩
  | .hbm, ⟨27, _⟩ => ⟨S16x2048x8x32, .f32⟩
  | .hbm, ⟨28, _⟩ => ⟨S16x2048x8x32, .f32⟩
  | .hbm, ⟨29, _⟩ => ⟨S16x2048x8x32, .f32⟩
  | .hbm, ⟨30, _⟩ => ⟨S16x2048x8x32, .f32⟩
  | .hbm, ⟨31, _⟩ => ⟨S16x2048x8x32, .f32⟩
  | .hbm, ⟨32, _⟩ => ⟨S16x2048x8x32, .f32⟩
  | .hbm, ⟨33, _⟩ => ⟨S16x2048x8x32, .f32⟩
  | .hbm, ⟨34, _⟩ => ⟨S16x2048x8x32, .f32⟩
  | .hbm, ⟨35, _⟩ => ⟨S16x2048x8x32, .f32⟩
  | .hbm, ⟨36, _⟩ => ⟨S16x2048x8x64, .f32⟩
  | .hbm, ⟨37, _⟩ => ⟨S16x2048x8x256, .f32⟩
  | .hbm, ⟨38, _⟩ => ⟨S16x2048x8x128, .f32⟩
  | .hbm, ⟨39, _⟩ => ⟨S16x2048x8x128, .f32⟩
  | .hbm, ⟨40, _⟩ => ⟨S16x2048x64, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S16x2048, .f32⟩
  | .hbm, ⟨50, _⟩ => ⟨S16x2048x1, .f32⟩
  | .hbm, ⟨51, _⟩ => ⟨S1x1x32, .f32⟩
  | .hbm, ⟨52, _⟩ => ⟨S16x2048x32, .f32⟩
  | .hbm, ⟨53, _⟩ => ⟨S16x2048x32, .f32⟩
  | .hbm, ⟨54, _⟩ => ⟨S16x2048x32, .f32⟩
  | .hbm, ⟨55, _⟩ => ⟨S16x2048x32, .f32⟩
  | .hbm, ⟨56, _⟩ => ⟨S16x2048x32, .f32⟩
  | .hbm, ⟨57, _⟩ => ⟨S16x2048x32, .f32⟩
  | .hbm, ⟨58, _⟩ => ⟨S16x2048x32, .f32⟩
  | .hbm, ⟨59, _⟩ => ⟨S16x2048x32, .f32⟩
  | .hbm, ⟨60, _⟩ => ⟨S16x2048x32, .f32⟩
  | .hbm, ⟨61, _⟩ => ⟨S16x2048x32, .f32⟩
  | .hbm, ⟨62, _⟩ => ⟨S16x2048x32, .f32⟩
  | .hbm, ⟨63, _⟩ => ⟨S16x2048x32, .f32⟩
  | .hbm, ⟨64, _⟩ => ⟨S16x2048x32, .f32⟩
  | .hbm, ⟨65, _⟩ => ⟨S16x2048x64, .f32⟩
  | .hbm, ⟨66, _⟩ => ⟨S16x8x2048x2048, .f32⟩
  | .hbm, ⟨67, _⟩ => ⟨S16x2048x2048x8, .f32⟩
  | .hbm, ⟨68, _⟩ => ⟨S16x8x2048x2048, .f32⟩
  | .hbm, ⟨69, _⟩ => ⟨S16x8x2048x2048, .f32⟩
  | .hbm, ⟨70, _⟩ => ⟨S_, .f32⟩
  | .hbm, ⟨71, _⟩ => ⟨S16x8x2048x2048, .f32⟩
  | .hbm, ⟨72, _⟩ => ⟨S16x8x2048x2048, .f32⟩
  | .hbm, ⟨73, _⟩ => ⟨S2048, .i32⟩
  | .hbm, ⟨74, _⟩ => ⟨S_, .i32⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S2048, .i32⟩
  | .hbm, ⟨79, _⟩ => ⟨S_, .i32⟩
  | .hbm, ⟨80, _⟩ => ⟨S2048, .i32⟩
  | .hbm, ⟨81, _⟩ => ⟨S2048, .i1⟩
  | .hbm, ⟨82, _⟩ => ⟨S2048, .i32⟩
  | .hbm, ⟨83, _⟩ => ⟨S2048, .i32⟩
  | .hbm, ⟨84, _⟩ => ⟨S_, .i32⟩
  | .hbm, ⟨85, _⟩ => ⟨S2048, .i32⟩
  | .hbm, ⟨86, _⟩ => ⟨S2048, .i1⟩
  | .hbm, ⟨87, _⟩ => ⟨S2048, .i1⟩
  | .hbm, ⟨88, _⟩ => ⟨S_, .i32⟩
  | .hbm, ⟨89, _⟩ => ⟨S2048, .i32⟩
  | .hbm, ⟨90, _⟩ => ⟨S2048, .i32⟩
  | .hbm, ⟨91, _⟩ => ⟨S2048, .i32⟩
  | .hbm, ⟨92, _⟩ => ⟨S1x2048, .i32⟩
  | .hbm, ⟨93, _⟩ => ⟨S2048x1, .i32⟩
  | .hbm, ⟨94, _⟩ => ⟨S2048x2048, .i32⟩
  | .hbm, ⟨95, _⟩ => ⟨S2048x2048, .i32⟩
  | .hbm, ⟨96, _⟩ => ⟨S2048x2048, .i1⟩
  | .hbm, ⟨97, _⟩ => ⟨S1x1x2048x2048, .i1⟩
  | .hbm, ⟨98, _⟩ => ⟨S_, .f32⟩
  | .hbm, ⟨99, _⟩ => ⟨S_, .f32⟩
  | .hbm, ⟨100, _⟩ => ⟨S16x8x2048x2048, .i1⟩
  | .hbm, ⟨101, _⟩ => ⟨S16x8x2048x2048, .f32⟩
  | .hbm, ⟨102, _⟩ => ⟨S16x8x2048x2048, .f32⟩
  | .hbm, ⟨103, _⟩ => ⟨S_, .f32⟩
  | .hbm, ⟨104, _⟩ => ⟨S16x8x2048, .f32⟩
  | .hbm, ⟨105, _⟩ => ⟨S_, .f32⟩
  | .hbm, ⟨106, _⟩ => ⟨S16x8x2048, .f32⟩
  | .hbm, ⟨107, _⟩ => ⟨S16x8x2048, .f32⟩
  | .hbm, ⟨108, _⟩ => ⟨S16x8x2048x1, .f32⟩
  | .hbm, ⟨109, _⟩ => ⟨S16x8x2048x2048, .f32⟩
  | .hbm, ⟨110, _⟩ => ⟨S16x8x2048x2048, .f32⟩
  | .hbm, ⟨111, _⟩ => ⟨S16x8x2048x2048, .f32⟩
  | .hbm, ⟨112, _⟩ => ⟨S_, .f32⟩
  | .hbm, ⟨113, _⟩ => ⟨S16x8x2048, .f32⟩
  | .hbm, ⟨114, _⟩ => ⟨S16x8x2048x1, .f32⟩
  | .hbm, ⟨115, _⟩ => ⟨S16x8x2048x2048, .f32⟩
  | .hbm, ⟨116, _⟩ => ⟨S16x8x2048x2048, .f32⟩
  | .hbm, ⟨117, _⟩ => ⟨S16x8x128x2048, .f32⟩
  | .hbm, ⟨118, _⟩ => ⟨S16x2048x8x128, .f32⟩
  | .hbm, ⟨119, _⟩ => ⟨S32768x1024, .f32⟩
  | .hbm, ⟨120, _⟩ => ⟨S32768x1024, .bf16⟩
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_3 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_c : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_v8 : Ref sig .tc := ⟨.hbm, 83, rfl⟩
abbrev main_call0_c : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_c_0 : Ref sig .tc := ⟨.hbm, 88, rfl⟩
abbrev main_call0_v12 : Ref sig .tc := ⟨.hbm, 89, rfl⟩
abbrev main_call0_v13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_4 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v72 : Ref sig .tc := ⟨.hbm, 102, rfl⟩
abbrev main_cst_5 : Ref sig .tc := ⟨.hbm, 103, rfl⟩
abbrev main_v73 : Ref sig .tc := ⟨.hbm, 104, rfl⟩
abbrev main_cst_6 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_7 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]
-- ==== Kernel2.lean ====
abbrev S16x2048x2048 : Shape := ⟨3, ![16, 2048, 2048]⟩
abbrev S2048 : Shape := ⟨1, ![2048]⟩
abbrev S2048x5504 : Shape := ⟨2, ![2048, 5504]⟩
abbrev S5504x2048 : Shape := ⟨2, ![5504, 2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩
abbrev S2048x384 : Shape := ⟨2, ![2048, 384]⟩
abbrev S512x384 : Shape := ⟨2, ![512, 384]⟩
abbrev S384x2048 : Shape := ⟨2, ![384, 2048]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S32768x2048, .f32⟩
  | .hbm, ⟨7, _⟩ => ⟨S1x2048, .f32⟩
  | .hbm, ⟨8, _⟩ => ⟨S2048x5504, .bf16⟩
  | .hbm, ⟨9, _⟩ => ⟨S2048x5504, .bf16⟩
  | .hbm, ⟨10, _⟩ => ⟨S5504x2048, .bf16⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16x2048x2048 : Shape := ⟨3, ![16, 2048, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x5504 : Shape := ⟨3, ![16, 2048, 5504]⟩
abbrev S32768x2048 : Shape := ⟨2, ![32768, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S16x2048x5504, .f32⟩
  | .hbm, ⟨23, _⟩ => ⟨S16x2048x5504, .f32⟩
  | .hbm, ⟨24, _⟩ => ⟨S16x2048x5504, .f32⟩
  | .hbm, ⟨25, _⟩ => ⟨S_, .f32⟩
  | .hbm, ⟨26, _⟩ => ⟨S16x2048x5504, .f32⟩
  | .hbm, ⟨27, _⟩ => ⟨S16x2048x5504, .f32⟩
  | .hbm, ⟨28, _⟩ => ⟨S_, .f32⟩
  | .hbm, ⟨29, _⟩ => ⟨S16x2048x5504, .f32⟩
  | .hbm, ⟨30, _⟩ => ⟨S16x2048x5504, .f32⟩
  | .hbm, ⟨31, _⟩ => ⟨S16x2048x5504, .f32⟩
  | .hbm, ⟨32, _⟩ => ⟨S16x2048x5504, .f32⟩
  | .hbm, ⟨33, _⟩ => ⟨S16x2048x5504, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x2048, .f32⟩
  | .hbm, ⟨47, _⟩ => ⟨S16x2048x2048, .f32⟩
  | .hbm, ⟨48, _⟩ => ⟨S1x1x2048, .f32⟩
  | .hbm, ⟨49, _⟩ => ⟨S16x2048x2048, .f32⟩
  | .hbm, ⟨50, _⟩ => ⟨S16x2048x2048, .f32⟩
  | .hbm, ⟨51, _⟩ => ⟨S_, .f32⟩
  | .hbm, ⟨52, _⟩ => ⟨S16x2048x2048, .f32⟩
  | .hbm, ⟨53, _⟩ => ⟨S16x2048x2048, .f32⟩
  | .hbm, ⟨54, _⟩ => ⟨S16x2048x2048, .f32⟩
  | .hbm, ⟨55, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S16x2048x2048 : Shape := ⟨3, ![16, 2048, 2048]⟩
abbrev S2048 : Shape := ⟨1, ![2048]⟩
abbrev S2048x1024 : Shape := ⟨2, ![2048, 1024]⟩
abbrev S16x256x2048 : Shape := ⟨3, ![16, 256, 2048]⟩
abbrev S1024x2048 : Shape := ⟨2, ![1024, 2048]⟩
abbrev S4096x4x2x256 : Shape := ⟨4, ![4096, 4, 2, 256]⟩
abbrev S4096x2x4x256 : Shape := ⟨4, ![4096, 2, 4, 256]⟩
abbrev S4096x2048 : Shape := ⟨2, ![4096, 2048]⟩
abbrev S_ : Shape := ⟨0, ![]⟩
abbrev S32768x2048 : Shape := ⟨2, ![32768, 2048]⟩
abbrev S1x2048 : Shape := ⟨2, ![1, 2048]⟩
abbrev S512x2048 : Shape := ⟨2, ![512, 2048]⟩
abbrev S256x2048 : Shape := ⟨2, ![256, 2048]⟩
abbrev S512 : Shape := ⟨1, ![512]⟩
abbrev S512x1 : Shape := ⟨2, ![512, 1]⟩
abbrev S512x1024 : Shape := ⟨2, ![512, 1024]⟩
abbrev S256x256 : Shape := ⟨2, ![256, 256]⟩
abbrev S512x256 : Shape := ⟨2, ![512, 256]⟩

abbrev nBuf : Space → Nat
  | .hbm => 19
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x1024, .f32⟩
  | .hbm, ⟨3, _⟩ => ⟨S16x256x2048, .f32⟩
  | .hbm, ⟨4, _⟩ => ⟨S1024x2048, .f32⟩
  | .hbm, ⟨5, _⟩ => ⟨S2048, .f32⟩
  | .hbm, ⟨6, _⟩ => ⟨S4096x4x2x256, .f32⟩
  | .hbm, ⟨7, _⟩ => ⟨S4096x2x4x256, .f32⟩
  | .hbm, ⟨8, _⟩ => ⟨S4096x2048, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .bf16⟩
  | .hbm, ⟨13, _⟩ => ⟨S32768x2048, .f32⟩
  | .hbm, ⟨14, _⟩ => ⟨S1x2048, .f32⟩
  | .hbm, ⟨15, _⟩ => ⟨S4096x2048, .bf16⟩
  | .hbm, ⟨16, _⟩ => ⟨S1024x2048, .bf16⟩
  | .hbm, ⟨17, _⟩ => ⟨S1x2048, .f32⟩
  | .hbm, ⟨18, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S256x2048, .bf16⟩
  | .local _ .vmem, ⟨5, _⟩ => ⟨S256x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16x2048x2048 : Shape := ⟨3, ![16, 2048, 2048]⟩
abbrev S2048 : Shape := ⟨1, ![2048]⟩
abbrev S2048x1024 : Shape := ⟨2, ![2048, 1024]⟩
abbrev S16x256x2048 : Shape := ⟨3, ![16, 256, 2048]⟩
abbrev S1024x2048 : Shape := ⟨2, ![1024, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x1024 : Shape := ⟨3, ![16, 2048, 1024]⟩
abbrev S16x2048x4x256 : Shape := ⟨4, ![16, 2048, 4, 256]⟩
abbrev S16x256x4x512 : Shape := ⟨4, ![16, 256, 4, 512]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩
abbrev S32768x2048 : Shape := ⟨2, ![32768, 2048]⟩

abbrev nBuf : Space → Nat
  | .hbm => 67
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x1024, .f32⟩
  | .hbm, ⟨3, _⟩ => ⟨S16x256x2048, .f32⟩
  | .hbm, ⟨4, _⟩ => ⟨S1024x2048, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S16x2048x1024, .f32⟩
  | .hbm, ⟨23, _⟩ => ⟨S16x2048x4x256, .f32⟩
  | .hbm, ⟨24, _⟩ => ⟨S16x256x4x512, .f32⟩
  | .hbm, ⟨25, _⟩ => ⟨S16x256x4x256, .f32⟩
  | .hbm, ⟨26, _⟩ => ⟨S16x256x4x256, .f32⟩
  | .hbm, ⟨27, _⟩ => ⟨S16x4x2048x256, .f32⟩
  | .hbm, ⟨28, _⟩ => ⟨S_, .f32⟩
  | .hbm, ⟨29, _⟩ => ⟨S16x4x2048x256, .f32⟩
  | .hbm, ⟨30, _⟩ => ⟨S16x4x2048x256, .f32⟩
  | .hbm, ⟨31, _⟩ => ⟨S_, .f32⟩
  | .hbm, ⟨32, _⟩ => ⟨S16x4x2048, .f32⟩
  | .hbm, ⟨33, _⟩ => ⟨S_, .f32⟩
  | .hbm, ⟨34, _⟩ => ⟨S16x4x2048, .f32⟩
  | .hbm, ⟨35, _⟩ => ⟨S16x4x2048, .f32⟩
  | .hbm, ⟨36, _⟩ => ⟨S16x4x2048x1, .f32⟩
  | .hbm, ⟨37, _⟩ => ⟨S16x4x2048x256, .f32⟩
  | .hbm, ⟨38, _⟩ => ⟨S16x4x2048x256, .f32⟩
  | .hbm, ⟨39, _⟩ => ⟨S16x4x2048x256, .f32⟩
  | .hbm, ⟨40, _⟩ => ⟨S_, .f32⟩
  | .hbm, ⟨41, _⟩ => ⟨S16x4x2048, .f32⟩
  | .hbm, ⟨42, _⟩ => ⟨S16x4x2048x1, .f32⟩
  | .hbm, ⟨43, _⟩ => ⟨S16x4x2048x256, .f32⟩
  | .hbm, ⟨44, _⟩ => ⟨S16x4x2048x256, .f32⟩
  | .hbm, ⟨45, _⟩ => ⟨S16x4x256x2048, .f32⟩
  | .hbm, ⟨46, _⟩ => ⟨S16x2048x4x256, .f32⟩
  | .hbm, ⟨47, _⟩ => ⟨S16x2048x1024, .f32⟩
  | .hbm, ⟨48, _⟩ => ⟨S16x2048x2048, .f32⟩
  | .hbm, ⟨49, _⟩ => ⟨S16x2048x2048, .f32⟩
  | .hbm, ⟨50, _⟩ => ⟨S_, .f32⟩
  | .hbm, ⟨51, _⟩ => ⟨S16x2048, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S16x2048x1, .f32⟩
  | .hbm, ⟨60, _⟩ => ⟨S16x2048x2048, .f32⟩
  | .hbm, ⟨61, _⟩ => ⟨S16x2048x2048, .f32⟩
  | .hbm, ⟨62, _⟩ => ⟨S1x1x2048, .f32⟩
  | .hbm, ⟨63, _⟩ => ⟨S16x2048x2048, .f32⟩
  | .hbm, ⟨64, _⟩ => ⟨S16x2048x2048, .f32⟩
  | .hbm, ⟨65, _⟩ => ⟨S16x2048x2048, .f32⟩
  | .hbm, ⟨66, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel4.lean ====
abbrev S16x2048x2048 : Shape := ⟨3, ![16, 2048, 2048]⟩
abbrev S2048 : Shape := ⟨1, ![2048]⟩
abbrev S2048x8256 : Shape := ⟨2, ![2048, 8256]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S2048x64 : Shape := ⟨2, ![2048, 64]⟩
abbrev S2048x32 : Shape := ⟨2, ![2048, 32]⟩
abbrev S2048x4096 : Shape := ⟨2, ![2048, 4096]⟩
abbrev S2048x3072 : Shape := ⟨2, ![2048, 3072]⟩
abbrev S2048x768 : Shape := ⟨2, ![2048, 768]⟩
abbrev S2048x256 : Shape := ⟨2, ![2048, 256]⟩
abbrev S2048x8448 : Shape := ⟨2, ![2048, 8448]⟩
abbrev S512x8x192 : Shape := ⟨3, ![512, 8, 192]⟩
abbrev S_ : Shape := ⟨0, ![]⟩
abbrev S512x8x64 : Shape := ⟨3, ![512, 8, 64]⟩
abbrev S512x8x32 : Shape := ⟨3, ![512, 8, 32]⟩
abbrev S512x8x128 : Shape := ⟨3, ![512, 8, 128]⟩
abbrev S512x1024 : Shape := ⟨2, ![512, 1024]⟩
abbrev S512x512 : Shape := ⟨2, ![512, 512]⟩
abbrev S512x2048 : Shape := ⟨2, ![512, 2048]⟩
abbrev S32768x2048 : Shape := ⟨2, ![32768, 2048]⟩
abbrev S1x2048 : Shape := ⟨2, ![1, 2048]⟩
abbrev S1x512 : Shape := ⟨2, ![1, 512]⟩
abbrev S1x256 : Shape := ⟨2, ![1, 256]⟩
abbrev S32768x8448 : Shape := ⟨2, ![32768, 8448]⟩
abbrev S1024x2048 : Shape := ⟨2, ![1024, 2048]⟩
abbrev S1024x768 : Shape := ⟨2, ![1024, 768]⟩
abbrev S1024 : Shape := ⟨1, ![1024]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 39
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8256, .f32⟩
  | .hbm, ⟨3, _⟩ => ⟨S512, .f32⟩
  | .hbm, ⟨4, _⟩ => ⟨S512x1536, .f32⟩
  | .hbm, ⟨5, _⟩ => ⟨S256, .f32⟩
  | .hbm, ⟨6, _⟩ => ⟨S256x2048, .f32⟩
  | .hbm, ⟨7, _⟩ => ⟨S2048x64, .f32⟩
  | .hbm, ⟨8, _⟩ => ⟨S2048x32, .f32⟩
  | .hbm, ⟨9, _⟩ => ⟨S2048x32, .f32⟩
  | .hbm, ⟨10, _⟩ => ⟨S2048x64, .f32⟩
  | .hbm, ⟨11, _⟩ => ⟨S2048x4096, .f32⟩
  | .hbm, ⟨12, _⟩ => ⟨S2048x3072, .f32⟩
  | .hbm, ⟨13, _⟩ => ⟨S2048x768, .f32⟩
  | .hbm, ⟨14, _⟩ => ⟨S2048x256, .f32⟩
  | .hbm, ⟨15, _⟩ => ⟨S2048x8448, .f32⟩
  | .hbm, ⟨16, _⟩ => ⟨S2048x8448, .bf16⟩
  | .hbm, ⟨17, _⟩ => ⟨S512x8x192, .f32⟩
  | .hbm, ⟨18, _⟩ => ⟨S_, .f32⟩
  | .hbm, ⟨19, _⟩ => ⟨S512x8x192, .f32⟩
  | .hbm, ⟨20, _⟩ => ⟨S512x8x192, .f32⟩
  | .hbm, ⟨21, _⟩ => ⟨S512x8x64, .f32⟩
  | .hbm, ⟨22, _⟩ => ⟨S512x8x32, .f32⟩
  | .hbm, ⟨23, _⟩ => ⟨S512x8x32, .f32⟩
  | .hbm, ⟨24, _⟩ => ⟨S512x8x64, .f32⟩
  | .hbm, ⟨25, _⟩ => ⟨S512x8x128, .f32⟩
  | .hbm, ⟨26, _⟩ => ⟨S512x1024, .f32⟩
  | .hbm, ⟨27, _⟩ => ⟨S512x512, .f32⟩
  | .hbm, ⟨28, _⟩ => ⟨S512x512, .f32⟩
  | .hbm, ⟨29, _⟩ => ⟨S512x2048, .f32⟩
  | .hbm, ⟨30, _⟩ => ⟨S512x2048, .bf16⟩
  | .hbm, ⟨31, _⟩ => ⟨S32768x2048, .f32⟩
  | .hbm, ⟨32, _⟩ => ⟨S1x2048, .f32⟩
  | .hbm, ⟨33, _⟩ => ⟨S1x512, .f32⟩
  | .hbm, ⟨34, _⟩ => ⟨S1x256, .f32⟩
  | .hbm, ⟨35, _⟩ => ⟨S256x2048, .bf16⟩
  | .hbm, ⟨36, _⟩ => ⟨S32768x8448, .bf16⟩
  | .hbm, ⟨37, _⟩ => ⟨S32768x2048, .bf16⟩
  | .hbm, ⟨38, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1x512, .f32⟩
  | .local _ .vmem, ⟨6, _⟩ => ⟨S512x2048, .bf16⟩
  | .local _ .vmem, ⟨7, _⟩ => ⟨S1x256, .f32⟩
  | .local _ .vmem, ⟨8, _⟩ => ⟨S256x2048, .bf16⟩
  | .local _ .vmem, ⟨9, _⟩ => ⟨S1024x768, .bf16⟩
  | .local _ .vmem, ⟨10, _⟩ => ⟨S1024x768, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c9_i32 : BitVec 32 := 9#32
  let v12 : BitVec 1 := Scalar.cmpi .eq arg1 c9_i32
  let v13 : BitVec 32 := Scalar.extui v12
  let c0_i32_8 : BitVec 32 := 0#32
  let v14 : BitVec 1 := Scalar.cmpi .ne v13 c0_i32_8
  v14

def k0_cond4 (i : grid0.Coords) : BitVec 1 :=
  let arg1 : BitVec 32 := BitVec.ofNat 32 (i 1).val
  let c10_i32 : BitVec 32 := 10#32
  let v15 : BitVec 1 := Scalar.cmpi .eq arg1 c10_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference4Ideal.lean ====
abbrev S16x2048x2048 : Shape := ⟨3, ![16, 2048, 2048]⟩
abbrev S2048 : Shape := ⟨1, ![2048]⟩
abbrev S2048x8256 : Shape := ⟨2, ![2048, 8256]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x8256 : Shape := ⟨3, ![16, 2048, 8256]⟩
abbrev S16x2048x512 : Shape := ⟨3, ![16, 2048, 512]⟩
abbrev S16x2048x256 : Shape := ⟨3, ![16, 2048, 256]⟩
abbrev S16x2048x64 : Shape := ⟨3, ![16, 2048, 64]⟩
abbrev S16x2048x3328 : Shape := ⟨3, ![16, 2048, 3328]⟩
abbrev S16x2048x4096 : Shape := ⟨3, ![16, 2048, 4096]⟩
abbrev S1x1x512 : Shape := ⟨3, ![1, 1, 512]⟩
abbrev S16x2048x1536 : Shape := ⟨3, ![16, 2048, 1536]⟩
abbrev S16x2048x8x192 : Shape := ⟨4, ![16, 2048, 8, 192]⟩
abbrev S1x1x256 : Shape := ⟨3, ![1, 1, 256]⟩
abbrev S16x2048x3072 : Shape := ⟨3, ![16, 2048, 3072]⟩
abbrev S16x2048x32 : Shape := ⟨3, ![16, 2048, 32]⟩
abbrev S16x2048x8448 : Shape := ⟨3, ![16, 2048, 8448]⟩
abbrev S16x2048x8x64 : Shape := ⟨4, ![16, 2048, 8, 64]⟩
abbrev S16x2048x8x128 : Shape := ⟨4, ![16, 2048, 8, 128]⟩
abbrev S16x2048x8x32 : Shape := ⟨4, ![16, 2048, 8, 32]⟩
abbrev S16x2048x1024 : Shape := ⟨3, ![16, 2048, 1024]⟩
abbrev S32768x8448 : Shape := ⟨2, ![32768, 8448]⟩
abbrev S32768x2048 : Shape := ⟨2, ![32768, 2048]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8256, .f32⟩
  | .hbm, ⟨3, _⟩ => ⟨S512, .f32⟩
  | .hbm, ⟨4, _⟩ => ⟨S512x1536, .f32⟩
  | .hbm, ⟨5, _⟩ => ⟨S256, .f32⟩
  | .hbm, ⟨6, _⟩ => ⟨S256x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S1x1x2048, .f32⟩
  | .hbm, ⟨21, _⟩ => ⟨S16x2048x2048, .f32⟩
  | .hbm, ⟨22, _⟩ => ⟨S16x2048x2048, .f32⟩
  | .hbm, ⟨23, _⟩ => ⟨S16x2048x8256, .f32⟩
  | .hbm, ⟨24, _⟩ => ⟨S16x2048x512, .f32⟩
  | .hbm, ⟨25, _⟩ => ⟨S16x2048x256, .f32⟩
  | .hbm, ⟨26, _⟩ => ⟨S16x2048x64, .f32⟩
  | .hbm, ⟨27, _⟩ => ⟨S16x2048x3328, .f32⟩
  | .hbm, ⟨28, _⟩ => ⟨S16x2048x4096, .f32⟩
  | .hbm, ⟨29, _⟩ => ⟨S16x2048x512, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x512, .f32⟩
  | .hbm, ⟨41, _⟩ => ⟨S16x2048x512, .f32⟩
  | .hbm, ⟨42, _⟩ => ⟨S1x1x512, .f32⟩
  | .hbm, ⟨43, _⟩ => ⟨S16x2048x512, .f32⟩
  | .hbm, ⟨44, _⟩ => ⟨S16x2048x512, .f32⟩
  | .hbm, ⟨45, _⟩ => ⟨S16x2048x1536, .f32⟩
  | .hbm, ⟨46, _⟩ => ⟨S16x2048x8x192, .f32⟩
  | .hbm, ⟨47, _⟩ => ⟨S_, .f32⟩
  | .hbm, ⟨48, _⟩ => ⟨S16x2048x8x192, .f32⟩
  | .hbm, ⟨49, _⟩ => ⟨S16x2048x8x192, .f32⟩
  | .hbm, ⟨50, _⟩ => ⟨S16x2048x256, .f32⟩
  | .hbm, ⟨51, _⟩ => ⟨S_, .f32⟩
  | .hbm, ⟨52, _⟩ => ⟨S16x2048, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S16x2048x1, .f32⟩
  | .hbm, ⟨61, _⟩ => ⟨S16x2048x256, .f32⟩
  | .hbm, ⟨62, _⟩ => ⟨S16x2048x256, .f32⟩
  | .hbm, ⟨63, _⟩ => ⟨S1x1x256, .f32⟩
  | .hbm, ⟨64, _⟩ => ⟨S16x2048x256, .f32⟩
  | .hbm, ⟨65, _⟩ => ⟨S16x2048x256, .f32⟩
  | .hbm, ⟨66, _⟩ => ⟨S16x2048x2048, .f32⟩
  | .hbm, ⟨67, _⟩ => ⟨S16x2048x3072, .f32⟩
  | .hbm, ⟨68, _⟩ => ⟨S16x2048x256, .f32⟩
  | .hbm, ⟨69, _⟩ => ⟨S16x2048x32, .f32⟩
  | .hbm, ⟨70, _⟩ => ⟨S16x2048x32, .f32⟩
  | .hbm, ⟨71, _⟩ => ⟨S16x2048x64, .f32⟩
  | .hbm, ⟨72, _⟩ => ⟨S16x2048x8448, .f32⟩
  | .hbm, ⟨73, _⟩ => ⟨S16x2048x8x64, .f32⟩
  | .hbm, ⟨74, _⟩ => ⟨S16x2048x8x128, .f32⟩
  | .hbm, ⟨75, _⟩ => ⟨S16x2048x8x32, .f32⟩
  | .hbm, ⟨76, _⟩ => ⟨S16x2048x8x32, .f32⟩
  | .hbm, ⟨77, _⟩ => ⟨S16x2048x8x64, .f32⟩
  | .hbm, ⟨78, _⟩ => ⟨S16x2048x1024, .f32⟩
  | .hbm, ⟨79, _⟩ => ⟨S16x2048x512, .f32⟩
  | .hbm, ⟨80, _⟩ => ⟨S16x2048x512, .f32⟩
  | .hbm, ⟨81, _⟩ => ⟨S16x2048x2048, .f32⟩
  | .hbm, ⟨82, _⟩ => ⟨S32768x8448, .f32⟩
  | .hbm, ⟨83, _⟩ => ⟨S32768x8448, .bf16⟩
  | .hbm, ⟨84, _⟩ => ⟨S32768x2048, .f32⟩
  | .hbm, ⟨85, _⟩ => ⟨S32768x2048, .bf16⟩
  | .hbm, ⟨86, _⟩ => ⟨S32768x2048, .f32⟩
  | .hbm, ⟨87, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Proof.Step.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-!
  ONE HEAD'S ONLINE SOFTMAX, AND ONE TRIP OF THE LOOP OVER KEY TILES. The kernel carries, for each of eight heads, the running maximum, the
  running denominator and the running weighted sum of values as 24 separate vectors. Here they are one state per head, and a trip is the same
  step of each head.
-/

namespace Cert.KernelIdeal.Gen
variable {F : FTy → Type} [FloatOps F] [Named F]

/-- The state of one head over a tile of 256 queries: running maximum, denominator, weighted values. -/
structure Head (F : FTy → Type) where
  m : FVec F S1x256 .f32
  l : FVec F S1x256 .f32
  a : FVec F S128x256 .f32

/-- The state before the first key tile. -/
def Head.init : Head F := ⟨k0_pay126, k0_pay134, k0_pay142⟩

/-- One step of a head: 256 more keys, with scores `s` (keys by queries) and values `v`. -/
def Head.next (H : Head F) (s : FVec F S256x256 .f32) (v : Vec F S256x128 .bf16) : Head F :=
  ⟨k0_pay176 H.m s, k0_pay201 H.l (k0_pay184 H.m s) (k0_pay192 H.m s), k0_pay215 H.a (k0_pay184 H.m s) (k0_pay192 H.m s) v⟩

/-- What a head writes in the end: weighted values over the denominator, queries by lanes. -/
def Head.out (H : Head F) : FVec F S256x128 .bf16 := k0_pay220 H.l H.a

/-- Eight states as the tuple the loop carries. -/
def tup (H : Fin 8 → Head F) : (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S128x256 .f32 × FVec F S128x256 .f32 × FVec F S128x256 .f32 × FVec F S128x256 .f32 × FVec F S128x256 .f32 × FVec F S128x256 .f32 × FVec F S128x256 .f32 × FVec F S128x256 .f32) :=
  ((H 0).m, (H 1).m, (H 2).m, (H 3).m, (H 4).m, (H 5).m, (H 6).m, (H 7).m, (H 0).l, (H 1).l, (H 2).l, (H 3).l, (H 4).l, (H 5).l, (H 6).l, (H 7).l, (H 0).a, (H 1).a, (H 2).a, (H 3).a, (H 4).a, (H 5).a, (H 6).a, (H 7).a)

/-- The 256 rows from `r` and the 128 columns from `c` of a table. -/
def tileAt {s0 s1 : ℕ} [NeZero s0] [NeZero s1] {e : EltTy} (x : Shape.Idx ⟨2, ![s0, s1]⟩ → Elt F e) (r c : ℕ) : Vec F S256x128 e :=
  fun j => x (ValueIdx.ix2 (Fin.ofNat s0 (r + (j 0).val)) (Fin.ofNat s1 (c + (j 1).val)))

/-- A load of a 256 by 128 rectangle is the tile at its offsets. -/
theorem load_tile {s0 s1 : ℕ} [NeZero s0] [NeZero s1] {sig : RefSig} {κ : Kind} {sp : Space} {e : EltTy} (v : View sig κ sp ⟨2, ![s0, s1]⟩ e)
    (X : v.ty.Contents (Elt F)) (off : Fin 2 → ℕ) (h : ∀ a, off a + S256x128.size a ≤ (⟨2, ![s0, s1]⟩ : Shape).size a) (r c : ℕ) (hr : off 0 = r) (hc : off 1 = c) :
    View.readAt (Elt F) v (Rect.unit (s := ⟨2, ![s0, s1]⟩) off S256x128.size h).toLoadRect X = tileAt (v.read (Elt F) X) r c := by
  subst hr hc
  funext j
  rw [View.readAt_apply]
  unfold tileAt
  congr 1
  funext a
  have h0 := h 0
  have h1 := h 1
  have j0 := (j 0).isLt
  have j1 := (j 1).isLt
  refine Fin.ext ?_
  match a with
  | 0 =>
    show off 0 + 1 * (j 0).val = (off 0 + (j 0).val) % s0
    have : off 0 + 256 ≤ s0 := h0
    have : (j 0).val < 256 := j0
    rw [Nat.mod_eq_of_lt (by omega)]; omega
  | 1 =>
    show off 1 + 1 * (j 1).val = (off 1 + (j 1).val) % s1
    have : off 1 + 128 ≤ s1 := h1
    have : (j 1).val < 128 := j1
    rw [Nat.mod_eq_of_lt (by omega)]; omega

/-- The tile of position-rotated keys that trip `k` reads. -/
def rdR (i : grid0.Coords) (k : Fin (k0_t1_loop i).trips) (arg14 : Memref sig .tc .vmem S2048x128 .bf16) (X_arg14 : BufTy.Contents (Elt F) arg14.view.ty) : Vec F S256x128 .bf16 :=
  View.readAt (Elt F) arg14.view (Rect.unit (s := S2048x128) (k0_off1 i k) S256x128.size (k0_off1_inb i k)).toLoadRect X_arg14

/-- The eight heads' key tiles that trip `k` reads. -/
def rdN (i : grid0.Coords) (k : Fin (k0_t1_loop i).trips) (arg8 : Memref sig .tc .vmem S2048x2048 .bf16) (X_arg8 : BufTy.Contents (Elt F) arg8.view.ty) : Fin 8 → Vec F S256x128 .bf16
  | 0 => View.readAt (Elt F) arg8.view (Rect.unit (s := S2048x2048) (k0_off2 i k) S256x128.size (k0_off2_inb i k)).toLoadRect X_arg8
  | 1 => View.readAt (Elt F) arg8.view (Rect.unit (s := S2048x2048) (k0_off3 i k) S256x128.size (k0_off3_inb i k)).toLoadRect X_arg8
  | 2 => View.readAt (Elt F) arg8.view (Rect.unit (s := S2048x2048) (k0_off4 i k) S256x128.size (k0_off4_inb i k)).toLoadRect X_arg8
  | 3 => View.readAt (Elt F) arg8.view (Rect.unit (s := S2048x2048) (k0_off5 i k) S256x128.size (k0_off5_inb i k)).toLoadRect X_arg8
  | 4 => View.readAt (Elt F) arg8.view (Rect.unit (s := S2048x2048) (k0_off6 i k) S256x128.size (k0_off6_inb i k)).toLoadRect X_arg8
  | 5 => View.readAt (Elt F) arg8.view (Rect.unit (s := S2048x2048) (k0_off7 i k) S256x128.size (k0_off7_inb i k)).toLoadRect X_arg8
  | 6 => View.readAt (Elt F) arg8.view (Rect.unit (s := S2048x2048) (k0_off8 i k) S256x128.size (k0_off8_inb i k)).toLoadRect X_arg8
  | 7 => View.readAt (Elt F) arg8.view (Rect.unit (s := S2048x2048) (k0_off9 i k) S256x128.size (k0_off9_inb i k)).toLoadRect X_arg8

/-- The eight heads' value tiles that trip `k` reads. -/
def rdV (i : grid0.Coords) (k : Fin (k0_t1_loop i).trips) (arg8 : Memref sig .tc .vmem S2048x2048 .bf16) (X_arg8 : BufTy.Contents (Elt F) arg8.view.ty) : Fin 8 → Vec F S256x128 .bf16
  | 0 => View.readAt (Elt F) arg8.view (Rect.unit (s := S2048x2048) (k0_off10 i k) S256x128.size (k0_off10_inb i k)).toLoadRect X_arg8
  | 1 => View.readAt (Elt F) arg8.view (Rect.unit (s := S2048x2048) (k0_off11 i k) S256x128.size (k0_off11_inb i k)).toLoadRect X_arg8
  | 2 => View.readAt (Elt F) arg8.view (Rect.unit (s := S2048x2048) (k0_off12 i k) S256x128.size (k0_off12_inb i k)).toLoadRect X_arg8
  | 3 => View.readAt (Elt F) arg8.view (Rect.unit (s := S2048x2048) (k0_off13 i k) S256x128.size (k0_off13_inb i k)).toLoadRect X_arg8
  | 4 => View.readAt (Elt F) arg8.view (Rect.unit (s := S2048x2048) (k0_off14 i k) S256x128.size (k0_off14_inb i k)).toLoadRect X_arg8
  | 5 => View.readAt (Elt F) arg8.view (Rect.unit (s := S2048x2048) (k0_off15 i k) S256x128.size (k0_off15_inb i k)).toLoadRect X_arg8
  | 6 => View.readAt (Elt F) arg8.view (Rect.unit (s := S2048x2048) (k0_off16 i k) S256x128.size (k0_off16_inb i k)).toLoadRect X_arg8
  | 7 => View.readAt (Elt F) arg8.view (Rect.unit (s := S2048x2048) (k0_off17 i k) S256x128.size (k0_off17_inb i k)).toLoadRect X_arg8

set_option maxHeartbeats 4000000 in
/-- A trip steps every head by its own scores and values. -/
theorem trip_eq (𝒱 : Variants) (c : Dev nD) (bd : Option 𝒱.V) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (arg2 : BitVec 32) (Q : Fin 8 → FVec F S256x256 .bf16) (v96 : FVec F S1x256 .f32) (v97 : FVec F S1x256 .f32) (v98 : FVec F S1x256 .f32) (v99 : FVec F S1x256 .f32) (v100 : FVec F S1x256 .f32) (v101 : FVec F S1x256 .f32) (v102 : FVec F S1x256 .f32) (v103 : FVec F S1x256 .f32) (v104 : FVec F S1x256 .f32) (v105 : FVec F S1x256 .f32) (v106 : FVec F S1x256 .f32) (v107 : FVec F S1x256 .f32) (v108 : FVec F S1x256 .f32) (v109 : FVec F S1x256 .f32) (v110 : FVec F S1x256 .f32) (v111 : FVec F S1x256 .f32) (X_arg8 : BufTy.Contents (Elt F) arg8.view.ty) (X_arg14 : BufTy.Contents (Elt F) arg14.view.ty) (k : Fin (k0_t1_loop i).trips) (H : Fin 8 → Head F) :
    tripR_k0_t1 (F := F) 𝒱 c bd i arg3 harg3 arg4 harg4 arg5 harg5 arg6 harg6 arg7 harg7 arg8 harg8 arg9 harg9 arg10 harg10 arg11 harg11 arg12 harg12 arg13 harg13 arg14 harg14 arg2 (Q 0) (Q 1) (Q 2) (Q 3) (Q 4) (Q 5) (Q 6) (Q 7) v96 v97 v98 v99 v100 v101 v102 v103 v104 v105 v106 v107 v108 v109 v110 v111 X_arg8 X_arg14 k (tup H)
      = tup (fun h => (H h).next (k0_pay164 (Q h) (rdR i k arg14 X_arg14) (rdN i k arg8 X_arg8 h)) (rdV i k arg8 X_arg8 h)) := by
  unfold tripR_k0_t1 trip_k0_t1
  rfl

end Cert.KernelIdeal.Gen
-- ==== Proof.Block.lean ====
module

public import proofs.«01_k».proof.Proof.Step
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-!
  ONE GRID POINT AS EIGHT HEADS. The block a grid point writes is, head by head, the state after all the key tiles up to the diagonal one,
  divided by its denominator. The diagonal tile is stepped with its masked scores.
-/

namespace Cert.KernelIdeal.Gen
variable {F : FTy → Type} [FloatOps F] [Named F]

/-- The tuple as eight states. -/
def untup (S : (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S128x256 .f32 × FVec F S128x256 .f32 × FVec F S128x256 .f32 × FVec F S128x256 .f32 × FVec F S128x256 .f32 × FVec F S128x256 .f32 × FVec F S128x256 .f32 × FVec F S128x256 .f32)) : Fin 8 → Head F
  | 0 => ⟨S.1, S.2.2.2.2.2.2.2.2.1, S.2.2.2.2.2.2.2.2.2.2.2.2.2.2.2.2.1⟩
  | 1 => ⟨S.2.1, S.2.2.2.2.2.2.2.2.2.1, S.2.2.2.2.2.2.2.2.2.2.2.2.2.2.2.2.2.1⟩
  | 2 => ⟨S.2.2.1, S.2.2.2.2.2.2.2.2.2.2.1, S.2.2.2.2.2.2.2.2.2.2.2.2.2.2.2.2.2.2.1⟩
  | 3 => ⟨S.2.2.2.1, S.2.2.2.2.2.2.2.2.2.2.2.1, S.2.2.2.2.2.2.2.2.2.2.2.2.2.2.2.2.2.2.2.1⟩
  | 4 => ⟨S.2.2.2.2.1, S.2.2.2.2.2.2.2.2.2.2.2.2.1, S.2.2.2.2.2.2.2.2.2.2.2.2.2.2.2.2.2.2.2.2.1⟩
  | 5 => ⟨S.2.2.2.2.2.1, S.2.2.2.2.2.2.2.2.2.2.2.2.2.1, S.2.2.2.2.2.2.2.2.2.2.2.2.2.2.2.2.2.2.2.2.2.1⟩
  | 6 => ⟨S.2.2.2.2.2.2.1, S.2.2.2.2.2.2.2.2.2.2.2.2.2.2.1, S.2.2.2.2.2.2.2.2.2.2.2.2.2.2.2.2.2.2.2.2.2.2.1⟩
  | 7 => ⟨S.2.2.2.2.2.2.2.1, S.2.2.2.2.2.2.2.2.2.2.2.2.2.2.2.1, S.2.2.2.2.2.2.2.2.2.2.2.2.2.2.2.2.2.2.2.2.2.2.2⟩

theorem untup_tup (H : Fin 8 → Head F) : untup (tup H) = H := by
  funext h; fin_cases h <;> rfl

/-- Head `h` after `n` whole key tiles, for queries `q`, the keys and values `xk` and the rotated keys `xr`. -/
def headAt (q : FVec F S256x256 .bf16) (xk : Vec F S2048x2048 .bf16) (xr : Vec F S2048x128 .bf16) (h : ℕ) : ℕ → Head F
  | 0 => Head.init
  | n + 1 => (headAt q xk xr h n).next (k0_pay164 q (tileAt (s0 := 2048) (s1 := 128) xr (256 * n) 0) (tileAt (s0 := 2048) (s1 := 2048) xk (256 * n) (256 * h)))
      (tileAt (s0 := 2048) (s1 := 2048) xk (256 * n) (256 * h + 128))

/-- Head `h` in the end at query tile `n`: the tiles before it, then the diagonal tile with its scores masked. -/
def headEnd (q : FVec F S256x256 .bf16) (xk : Vec F S2048x2048 .bf16) (xr : Vec F S2048x128 .bf16) (h n : ℕ) : Head F :=
  (headAt q xk xr h n).next (k0_pay168 (k0_pay163 k0_pay160 k0_pay161 k0_pay162) (k0_pay164 q (tileAt (s0 := 2048) (s1 := 128) xr (256 * n) 0) (tileAt (s0 := 2048) (s1 := 2048) xk (256 * n) (256 * h))))
      (tileAt (s0 := 2048) (s1 := 2048) xk (256 * n) (256 * h + 128))

theorem trips1 : ∀ i : grid0.Coords, (k0_t1_loop i).trips = (i 2).val := by decide +kernel
theorem trips2 : ∀ i : grid0.Coords, (k0_t2_loop i).trips = 0 := by decide +kernel

theorem off1_eq : ∀ (i : grid0.Coords) (k : Fin (k0_t1_loop i).trips), k0_off1 i k 0 = 256 * k.val ∧ k0_off1 i k 1 = 0 := by decide +kernel
theorem off2_eq : ∀ (i : grid0.Coords) (k : Fin (k0_t1_loop i).trips), k0_off2 i k 0 = 256 * k.val ∧ k0_off2 i k 1 = 0 := by decide +kernel
theorem off3_eq : ∀ (i : grid0.Coords) (k : Fin (k0_t1_loop i).trips), k0_off3 i k 0 = 256 * k.val ∧ k0_off3 i k 1 = 256 := by decide +kernel
theorem off4_eq : ∀ (i : grid0.Coords) (k : Fin (k0_t1_loop i).trips), k0_off4 i k 0 = 256 * k.val ∧ k0_off4 i k 1 = 512 := by decide +kernel
theorem off5_eq : ∀ (i : grid0.Coords) (k : Fin (k0_t1_loop i).trips), k0_off5 i k 0 = 256 * k.val ∧ k0_off5 i k 1 = 768 := by decide +kernel
theorem off6_eq : ∀ (i : grid0.Coords) (k : Fin (k0_t1_loop i).trips), k0_off6 i k 0 = 256 * k.val ∧ k0_off6 i k 1 = 1024 := by decide +kernel
theorem off7_eq : ∀ (i : grid0.Coords) (k : Fin (k0_t1_loop i).trips), k0_off7 i k 0 = 256 * k.val ∧ k0_off7 i k 1 = 1280 := by decide +kernel
theorem off8_eq : ∀ (i : grid0.Coords) (k : Fin (k0_t1_loop i).trips), k0_off8 i k 0 = 256 * k.val ∧ k0_off8 i k 1 = 1536 := by decide +kernel
theorem off9_eq : ∀ (i : grid0.Coords) (k : Fin (k0_t1_loop i).trips), k0_off9 i k 0 = 256 * k.val ∧ k0_off9 i k 1 = 1792 := by decide +kernel
theorem off10_eq : ∀ (i : grid0.Coords) (k : Fin (k0_t1_loop i).trips), k0_off10 i k 0 = 256 * k.val ∧ k0_off10 i k 1 = 128 := by decide +kernel
theorem off11_eq : ∀ (i : grid0.Coords) (k : Fin (k0_t1_loop i).trips), k0_off11 i k 0 = 256 * k.val ∧ k0_off11 i k 1 = 384 := by decide +kernel
theorem off12_eq : ∀ (i : grid0.Coords) (k : Fin (k0_t1_loop i).trips), k0_off12 i k 0 = 256 * k.val ∧ k0_off12 i k 1 = 640 := by decide +kernel
theorem off13_eq : ∀ (i : grid0.Coords) (k : Fin (k0_t1_loop i).trips), k0_off13 i k 0 = 256 * k.val ∧ k0_off13 i k 1 = 896 := by decide +kernel
theorem off14_eq : ∀ (i : grid0.Coords) (k : Fin (k0_t1_loop i).trips), k0_off14 i k 0 = 256 * k.val ∧ k0_off14 i k 1 = 1152 := by decide +kernel
theorem off15_eq : ∀ (i : grid0.Coords) (k : Fin (k0_t1_loop i).trips), k0_off15 i k 0 = 256 * k.val ∧ k0_off15 i k 1 = 1408 := by decide +kernel
theorem off16_eq : ∀ (i : grid0.Coords) (k : Fin (k0_t1_loop i).trips), k0_off16 i k 0 = 256 * k.val ∧ k0_off16 i k 1 = 1664 := by decide +kernel
theorem off17_eq : ∀ (i : grid0.Coords) (k : Fin (k0_t1_loop i).trips), k0_off17 i k 0 = 256 * k.val ∧ k0_off17 i k 1 = 1920 := by decide +kernel
theorem off35_eq : ∀ i : grid0.Coords, k0_off35 i 0 = 256 * (i 2).val ∧ k0_off35 i 1 = 0 := by decide +kernel
theorem off36_eq : ∀ i : grid0.Coords, k0_off36 i 0 = 256 * (i 2).val ∧ k0_off36 i 1 = 0 := by decide +kernel
theorem off37_eq : ∀ i : grid0.Coords, k0_off37 i 0 = 256 * (i 2).val ∧ k0_off37 i 1 = 256 := by decide +kernel
theorem off38_eq : ∀ i : grid0.Coords, k0_off38 i 0 = 256 * (i 2).val ∧ k0_off38 i 1 = 512 := by decide +kernel
theorem off39_eq : ∀ i : grid0.Coords, k0_off39 i 0 = 256 * (i 2).val ∧ k0_off39 i 1 = 768 := by decide +kernel
theorem off40_eq : ∀ i : grid0.Coords, k0_off40 i 0 = 256 * (i 2).val ∧ k0_off40 i 1 = 1024 := by decide +kernel
theorem off41_eq : ∀ i : grid0.Coords, k0_off41 i 0 = 256 * (i 2).val ∧ k0_off41 i 1 = 1280 := by decide +kernel
theorem off42_eq : ∀ i : grid0.Coords, k0_off42 i 0 = 256 * (i 2).val ∧ k0_off42 i 1 = 1536 := by decide +kernel
theorem off43_eq : ∀ i : grid0.Coords, k0_off43 i 0 = 256 * (i 2).val ∧ k0_off43 i 1 = 1792 := by decide +kernel
theorem off44_eq : ∀ i : grid0.Coords, k0_off44 i 0 = 256 * (i 2).val ∧ k0_off44 i 1 = 128 := by decide +kernel
theorem off45_eq : ∀ i : grid0.Coords, k0_off45 i 0 = 256 * (i 2).val ∧ k0_off45 i 1 = 384 := by decide +kernel
theorem off46_eq : ∀ i : grid0.Coords, k0_off46 i 0 = 256 * (i 2).val ∧ k0_off46 i 1 = 640 := by decide +kernel
theorem off47_eq : ∀ i : grid0.Coords, k0_off47 i 0 = 256 * (i 2).val ∧ k0_off47 i 1 = 896 := by decide +kernel
theorem off48_eq : ∀ i : grid0.Coords, k0_off48 i 0 = 256 * (i 2).val ∧ k0_off48 i 1 = 1152 := by decide +kernel
theorem off49_eq : ∀ i : grid0.Coords, k0_off49 i 0 = 256 * (i 2).val ∧ k0_off49 i 1 = 1408 := by decide +kernel
theorem off50_eq : ∀ i : grid0.Coords, k0_off50 i 0 = 256 * (i 2).val ∧ k0_off50 i 1 = 1664 := by decide +kernel
theorem off51_eq : ∀ i : grid0.Coords, k0_off51 i 0 = 256 * (i 2).val ∧ k0_off51 i 1 = 1920 := by decide +kernel

theorem rdR_eq (i : grid0.Coords) (k : Fin (k0_t1_loop i).trips) (arg14 : Memref sig .tc .vmem S2048x128 .bf16) (X_arg14 : BufTy.Contents (Elt F) arg14.view.ty) :
    rdR i k arg14 X_arg14 = tileAt (s0 := 2048) (s1 := 128) (arg14.view.read (Elt F) X_arg14) (256 * k.val) 0 :=
  load_tile _ _ _ _ _ _ (off1_eq i k).1 (off1_eq i k).2

theorem rdN_eq (i : grid0.Coords) (k : Fin (k0_t1_loop i).trips) (arg8 : Memref sig .tc .vmem S2048x2048 .bf16) (X_arg8 : BufTy.Contents (Elt F) arg8.view.ty) (h : Fin 8) :
    rdN i k arg8 X_arg8 h = tileAt (s0 := 2048) (s1 := 2048) (arg8.view.read (Elt F) X_arg8) (256 * k.val) (256 * h.val) := by
  match h with
  | 0 => exact load_tile _ _ _ _ _ _ (off2_eq i k).1 (off2_eq i k).2
  | 1 => exact load_tile _ _ _ _ _ _ (off3_eq i k).1 (off3_eq i k).2
  | 2 => exact load_tile _ _ _ _ _ _ (off4_eq i k).1 (off4_eq i k).2
  | 3 => exact load_tile _ _ _ _ _ _ (off5_eq i k).1 (off5_eq i k).2
  | 4 => exact load_tile _ _ _ _ _ _ (off6_eq i k).1 (off6_eq i k).2
  | 5 => exact load_tile _ _ _ _ _ _ (off7_eq i k).1 (off7_eq i k).2
  | 6 => exact load_tile _ _ _ _ _ _ (off8_eq i k).1 (off8_eq i k).2
  | 7 => exact load_tile _ _ _ _ _ _ (off9_eq i k).1 (off9_eq i k).2

theorem rdV_eq (i : grid0.Coords) (k : Fin (k0_t1_loop i).trips) (arg8 : Memref sig .tc .vmem S2048x2048 .bf16) (X_arg8 : BufTy.Contents (Elt F) arg8.view.ty) (h : Fin 8) :
    rdV i k arg8 X_arg8 h = tileAt (s0 := 2048) (s1 := 2048) (arg8.view.read (Elt F) X_arg8) (256 * k.val) (256 * h.val + 128) := by
  match h with
  | 0 => exact load_tile _ _ _ _ _ _ (off10_eq i k).1 (off10_eq i k).2
  | 1 => exact load_tile _ _ _ _ _ _ (off11_eq i k).1 (off11_eq i k).2
  | 2 => exact load_tile _ _ _ _ _ _ (off12_eq i k).1 (off12_eq i k).2
  | 3 => exact load_tile _ _ _ _ _ _ (off13_eq i k).1 (off13_eq i k).2
  | 4 => exact load_tile _ _ _ _ _ _ (off14_eq i k).1 (off14_eq i k).2
  | 5 => exact load_tile _ _ _ _ _ _ (off15_eq i k).1 (off15_eq i k).2
  | 6 => exact load_tile _ _ _ _ _ _ (off16_eq i k).1 (off16_eq i k).2
  | 7 => exact load_tile _ _ _ _ _ _ (off17_eq i k).1 (off17_eq i k).2

/-- The loop's state after `n` trips is every head after `n` tiles. -/
theorem st1_eq (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (Q : Fin 8 → FVec F S256x256 .bf16) (X_arg8 : BufTy.Contents (Elt F) arg8.view.ty) (X_arg14 : BufTy.Contents (Elt F) arg14.view.ty) :
    ∀ n, n ≤ (k0_t1_loop i).trips → st_k0_t1 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (Q 0) (Q 1) (Q 2) (Q 3) (Q 4) (Q 5) (Q 6) (Q 7) k0_pay126 k0_pay127 k0_pay128 k0_pay129 k0_pay130 k0_pay131 k0_pay132 k0_pay133 k0_pay134 k0_pay135 k0_pay136 k0_pay137 k0_pay138 k0_pay139 k0_pay140 k0_pay141 X_arg8 X_arg14 (tup fun _ => Head.init) n
      = tup (fun h => headAt (Q h) (arg8.view.read (Elt F) X_arg8) (arg14.view.read (Elt F) X_arg14) h.val n) := by
  intro n
  induction n with
  | zero => intro _; rfl
  | succ n ih =>
    intro hn
    refine (st_k0_t1_succ _ _ _ _ _ _ _ _ _ _ _ _ _ _ _ _ _ _ _ _ _ _ _ _ _ _ _ _ _ _ _ _ _ _ _ _ _ _ _ _ _ _ _ _ _ _ _ _ _ _ _ _ _ _ _ _ ⟨n, hn⟩).trans ?_
    rw [ih (by omega), trip_eq]
    simp only [rdR_eq, rdN_eq, rdV_eq]
    rfl

/-- The loop over the remaining tiles makes no trip. -/
theorem st2_eq (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (Q : Fin 8 → FVec F S256x256 .bf16) (X_arg8 : BufTy.Contents (Elt F) arg8.view.ty) (X_arg14 : BufTy.Contents (Elt F) arg14.view.ty) (S : (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S128x256 .f32 × FVec F S128x256 .f32 × FVec F S128x256 .f32 × FVec F S128x256 .f32 × FVec F S128x256 .f32 × FVec F S128x256 .f32 × FVec F S128x256 .f32 × FVec F S128x256 .f32)) :
    st_k0_t2 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (Q 0) (Q 1) (Q 2) (Q 3) (Q 4) (Q 5) (Q 6) (Q 7) k0_pay126 k0_pay127 k0_pay128 k0_pay129 k0_pay130 k0_pay131 k0_pay132 k0_pay133 k0_pay134 k0_pay135 k0_pay136 k0_pay137 k0_pay138 k0_pay139 k0_pay140 k0_pay141 (k0_t2_loop i).lb X_arg8 X_arg14 S (k0_t2_loop i).trips = S := by
  rw [trips2]; rfl

/-- The eight heads' queries, as the loads of a grid point read them. -/
def qRaw (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (x0 : Vec F S256x1024 .bf16) (x1 : Vec F S256x512 .bf16) (x2 : Vec F S256x512 .bf16) (x3 : Vec F S256x128 .f32) (x4 : Vec F S256x128 .f32) : Fin 8 → FVec F S256x256 .bf16
  | 0 => k0_pay116 (k0_pay109 (View.readAt (Elt F) arg6.view (Rect.unit (s := S256x128) ![0, 0] S256x128.size inb_S256x128_S256x128_0_0).toLoadRect (harg6.unread x3)) (View.readAt (Elt F) arg7.view (Rect.unit (s := S256x128) ![0, 0] S256x128.size inb_S256x128_S256x128_0_0).toLoadRect (harg7.unread x4)) (View.readAt (Elt F) arg4.view (Rect.unit (s := S256x512) ![0, 0] S256x128.size inb_S256x512_S256x128_0_0).toLoadRect (harg4.unread x1)) (View.readAt (Elt F) arg5.view (Rect.unit (s := S256x512) ![0, 0] S256x128.size inb_S256x512_S256x128_0_0).toLoadRect (harg5.unread x2))) (View.readAt (Elt F) arg3.view (Rect.unit (s := S256x1024) ![0, 0] S256x128.size inb_S256x1024_S256x128_0_0).toLoadRect (harg3.unread x0))
  | 1 => k0_pay117 (k0_pay109 (View.readAt (Elt F) arg6.view (Rect.unit (s := S256x128) ![0, 0] S256x128.size inb_S256x128_S256x128_0_0).toLoadRect (harg6.unread x3)) (View.readAt (Elt F) arg7.view (Rect.unit (s := S256x128) ![0, 0] S256x128.size inb_S256x128_S256x128_0_0).toLoadRect (harg7.unread x4)) (View.readAt (Elt F) arg4.view (Rect.unit (s := S256x512) ![0, 0] S256x128.size inb_S256x512_S256x128_0_0).toLoadRect (harg4.unread x1)) (View.readAt (Elt F) arg5.view (Rect.unit (s := S256x512) ![0, 0] S256x128.size inb_S256x512_S256x128_0_0).toLoadRect (harg5.unread x2))) (View.readAt (Elt F) arg3.view (Rect.unit (s := S256x1024) ![0, 128] S256x128.size inb_S256x1024_S256x128_0_128).toLoadRect (harg3.unread x0))
  | 2 => k0_pay116 (k0_pay109 (View.readAt (Elt F) arg6.view (Rect.unit (s := S256x128) ![0, 0] S256x128.size inb_S256x128_S256x128_0_0).toLoadRect (harg6.unread x3)) (View.readAt (Elt F) arg7.view (Rect.unit (s := S256x128) ![0, 0] S256x128.size inb_S256x128_S256x128_0_0).toLoadRect (harg7.unread x4)) (View.readAt (Elt F) arg4.view (Rect.unit (s := S256x512) ![0, 128] S256x128.size inb_S256x512_S256x128_0_128).toLoadRect (harg4.unread x1)) (View.readAt (Elt F) arg5.view (Rect.unit (s := S256x512) ![0, 128] S256x128.size inb_S256x512_S256x128_0_128).toLoadRect (harg5.unread x2))) (View.readAt (Elt F) arg3.view (Rect.unit (s := S256x1024) ![0, 256] S256x128.size inb_S256x1024_S256x128_0_256).toLoadRect (harg3.unread x0))
  | 3 => k0_pay117 (k0_pay109 (View.readAt (Elt F) arg6.view (Rect.unit (s := S256x128) ![0, 0] S256x128.size inb_S256x128_S256x128_0_0).toLoadRect (harg6.unread x3)) (View.readAt (Elt F) arg7.view (Rect.unit (s := S256x128) ![0, 0] S256x128.size inb_S256x128_S256x128_0_0).toLoadRect (harg7.unread x4)) (View.readAt (Elt F) arg4.view (Rect.unit (s := S256x512) ![0, 128] S256x128.size inb_S256x512_S256x128_0_128).toLoadRect (harg4.unread x1)) (View.readAt (Elt F) arg5.view (Rect.unit (s := S256x512) ![0, 128] S256x128.size inb_S256x512_S256x128_0_128).toLoadRect (harg5.unread x2))) (View.readAt (Elt F) arg3.view (Rect.unit (s := S256x1024) ![0, 384] S256x128.size inb_S256x1024_S256x128_0_384).toLoadRect (harg3.unread x0))
  | 4 => k0_pay116 (k0_pay109 (View.readAt (Elt F) arg6.view (Rect.unit (s := S256x128) ![0, 0] S256x128.size inb_S256x128_S256x128_0_0).toLoadRect (harg6.unread x3)) (View.readAt (Elt F) arg7.view (Rect.unit (s := S256x128) ![0, 0] S256x128.size inb_S256x128_S256x128_0_0).toLoadRect (harg7.unread x4)) (View.readAt (Elt F) arg4.view (Rect.unit (s := S256x512) ![0, 256] S256x128.size inb_S256x512_S256x128_0_256).toLoadRect (harg4.unread x1)) (View.readAt (Elt F) arg5.view (Rect.unit (s := S256x512) ![0, 256] S256x128.size inb_S256x512_S256x128_0_256).toLoadRect (harg5.unread x2))) (View.readAt (Elt F) arg3.view (Rect.unit (s := S256x1024) ![0, 512] S256x128.size inb_S256x1024_S256x128_0_512).toLoadRect (harg3.unread x0))
  | 5 => k0_pay117 (k0_pay109 (View.readAt (Elt F) arg6.view (Rect.unit (s := S256x128) ![0, 0] S256x128.size inb_S256x128_S256x128_0_0).toLoadRect (harg6.unread x3)) (View.readAt (Elt F) arg7.view (Rect.unit (s := S256x128) ![0, 0] S256x128.size inb_S256x128_S256x128_0_0).toLoadRect (harg7.unread x4)) (View.readAt (Elt F) arg4.view (Rect.unit (s := S256x512) ![0, 256] S256x128.size inb_S256x512_S256x128_0_256).toLoadRect (harg4.unread x1)) (View.readAt (Elt F) arg5.view (Rect.unit (s := S256x512) ![0, 256] S256x128.size inb_S256x512_S256x128_0_256).toLoadRect (harg5.unread x2))) (View.readAt (Elt F) arg3.view (Rect.unit (s := S256x1024) ![0, 640] S256x128.size inb_S256x1024_S256x128_0_640).toLoadRect (harg3.unread x0))
  | 6 => k0_pay116 (k0_pay109 (View.readAt (Elt F) arg6.view (Rect.unit (s := S256x128) ![0, 0] S256x128.size inb_S256x128_S256x128_0_0).toLoadRect (harg6.unread x3)) (View.readAt (Elt F) arg7.view (Rect.unit (s := S256x128) ![0, 0] S256x128.size inb_S256x128_S256x128_0_0).toLoadRect (harg7.unread x4)) (View.readAt (Elt F) arg4.view (Rect.unit (s := S256x512) ![0, 384] S256x128.size inb_S256x512_S256x128_0_384).toLoadRect (harg4.unread x1)) (View.readAt (Elt F) arg5.view (Rect.unit (s := S256x512) ![0, 384] S256x128.size inb_S256x512_S256x128_0_384).toLoadRect (harg5.unread x2))) (View.readAt (Elt F) arg3.view (Rect.unit (s := S256x1024) ![0, 768] S256x128.size inb_S256x1024_S256x128_0_768).toLoadRect (harg3.unread x0))
  | 7 => k0_pay117 (k0_pay109 (View.readAt (Elt F) arg6.view (Rect.unit (s := S256x128) ![0, 0] S256x128.size inb_S256x128_S256x128_0_0).toLoadRect (harg6.unread x3)) (View.readAt (Elt F) arg7.view (Rect.unit (s := S256x128) ![0, 0] S256x128.size inb_S256x128_S256x128_0_0).toLoadRect (harg7.unread x4)) (View.readAt (Elt F) arg4.view (Rect.unit (s := S256x512) ![0, 384] S256x128.size inb_S256x512_S256x128_0_384).toLoadRect (harg4.unread x1)) (View.readAt (Elt F) arg5.view (Rect.unit (s := S256x512) ![0, 384] S256x128.size inb_S256x512_S256x128_0_384).toLoadRect (harg5.unread x2))) (View.readAt (Elt F) arg3.view (Rect.unit (s := S256x1024) ![0, 896] S256x128.size inb_S256x1024_S256x128_0_896).toLoadRect (harg3.unread x0))

/-- Head `h`'s queries: the plain lanes, then the rotated pair of heads with the other head's lanes put to zero. -/
def qOf (x0 : Vec F S256x1024 .bf16) (x1 x2 : Vec F S256x512 .bf16) (x3 x4 : Vec F S256x128 .f32) (h : Fin 8) : FVec F S256x256 .bf16 :=
  (if h.val % 2 = 0 then k0_pay116 else k0_pay117)
    (k0_pay109 (tileAt (s0 := 256) (s1 := 128) x3 0 0) (tileAt (s0 := 256) (s1 := 128) x4 0 0) (tileAt (s0 := 256) (s1 := 512) x1 0 (128 * (h.val / 2))) (tileAt (s0 := 256) (s1 := 512) x2 0 (128 * (h.val / 2))))
    (tileAt (s0 := 256) (s1 := 1024) x0 0 (128 * h.val))

theorem qRaw_eq (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (x0 : Vec F S256x1024 .bf16) (x1 : Vec F S256x512 .bf16) (x2 : Vec F S256x512 .bf16) (x3 : Vec F S256x128 .f32) (x4 : Vec F S256x128 .f32) (h : Fin 8) : qRaw arg3 harg3 arg4 harg4 arg5 harg5 arg6 harg6 arg7 harg7 x0 x1 x2 x3 x4 h = qOf x0 x1 x2 x3 x4 h := by
  have e : ∀ {s1 : ℕ} [NeZero s1] {e : EltTy} (m : Memref sig .tc .vmem ⟨2, ![256, s1]⟩ e) (hm : m.IsWhole) (x : Vec F ⟨2, ![256, s1]⟩ e) (c : ℕ) (inb : ∀ a, ![0, c] a + S256x128.size a ≤ (⟨2, ![256, s1]⟩ : Shape).size a),
      View.readAt (Elt F) m.view (Rect.unit (s := ⟨2, ![256, s1]⟩) ![0, c] S256x128.size inb).toLoadRect (hm.unread x) = tileAt (s0 := 256) (s1 := s1) x 0 c := fun m hm x c inb => by
    rw [load_tile m.view _ _ inb 0 c rfl rfl, hm.read_unread]
  match h with
  | 0 => exact (congrArg₂ k0_pay116 (congr (congr (congrArg₂ k0_pay109 (e _ _ _ _ _) (e _ _ _ _ _)) (e _ _ _ _ _)) (e _ _ _ _ _)) (e _ _ _ _ _))
  | 1 => exact (congrArg₂ k0_pay117 (congr (congr (congrArg₂ k0_pay109 (e _ _ _ _ _) (e _ _ _ _ _)) (e _ _ _ _ _)) (e _ _ _ _ _)) (e _ _ _ _ _))
  | 2 => exact (congrArg₂ k0_pay116 (congr (congr (congrArg₂ k0_pay109 (e _ _ _ _ _) (e _ _ _ _ _)) (e _ _ _ _ _)) (e _ _ _ _ _)) (e _ _ _ _ _))
  | 3 => exact (congrArg₂ k0_pay117 (congr (congr (congrArg₂ k0_pay109 (e _ _ _ _ _) (e _ _ _ _ _)) (e _ _ _ _ _)) (e _ _ _ _ _)) (e _ _ _ _ _))
  | 4 => exact (congrArg₂ k0_pay116 (congr (congr (congrArg₂ k0_pay109 (e _ _ _ _ _) (e _ _ _ _ _)) (e _ _ _ _ _)) (e _ _ _ _ _)) (e _ _ _ _ _))
  | 5 => exact (congrArg₂ k0_pay117 (congr (congr (congrArg₂ k0_pay109 (e _ _ _ _ _) (e _ _ _ _ _)) (e _ _ _ _ _)) (e _ _ _ _ _)) (e _ _ _ _ _))
  | 6 => exact (congrArg₂ k0_pay116 (congr (congr (congrArg₂ k0_pay109 (e _ _ _ _ _) (e _ _ _ _ _)) (e _ _ _ _ _)) (e _ _ _ _ _)) (e _ _ _ _ _))
  | 7 => exact (congrArg₂ k0_pay117 (congr (congr (congrArg₂ k0_pay109 (e _ _ _ _ _) (e _ _ _ _ _)) (e _ _ _ _ _)) (e _ _ _ _ _)) (e _ _ _ _ _))

/-- The eight heads' diagonal key tiles. -/
def rdDN (i : grid0.Coords) (arg8 : Memref sig .tc .vmem S2048x2048 .bf16) (X_arg8 : BufTy.Contents (Elt F) arg8.view.ty) : Fin 8 → Vec F S256x128 .bf16
  | 0 => View.readAt (Elt F) arg8.view (Rect.unit (s := S2048x2048) (k0_off36 i) S256x128.size (k0_off36_inb i)).toLoadRect X_arg8
  | 1 => View.readAt (Elt F) arg8.view (Rect.unit (s := S2048x2048) (k0_off37 i) S256x128.size (k0_off37_inb i)).toLoadRect X_arg8
  | 2 => View.readAt (Elt F) arg8.view (Rect.unit (s := S2048x2048) (k0_off38 i) S256x128.size (k0_off38_inb i)).toLoadRect X_arg8
  | 3 => View.readAt (Elt F) arg8.view (Rect.unit (s := S2048x2048) (k0_off39 i) S256x128.size (k0_off39_inb i)).toLoadRect X_arg8
  | 4 => View.readAt (Elt F) arg8.view (Rect.unit (s := S2048x2048) (k0_off40 i) S256x128.size (k0_off40_inb i)).toLoadRect X_arg8
  | 5 => View.readAt (Elt F) arg8.view (Rect.unit (s := S2048x2048) (k0_off41 i) S256x128.size (k0_off41_inb i)).toLoadRect X_arg8
  | 6 => View.readAt (Elt F) arg8.view (Rect.unit (s := S2048x2048) (k0_off42 i) S256x128.size (k0_off42_inb i)).toLoadRect X_arg8
  | 7 => View.readAt (Elt F) arg8.view (Rect.unit (s := S2048x2048) (k0_off43 i) S256x128.size (k0_off43_inb i)).toLoadRect X_arg8

/-- The eight heads' diagonal value tiles. -/
def rdDV (i : grid0.Coords) (arg8 : Memref sig .tc .vmem S2048x2048 .bf16) (X_arg8 : BufTy.Contents (Elt F) arg8.view.ty) : Fin 8 → Vec F S256x128 .bf16
  | 0 => View.readAt (Elt F) arg8.view (Rect.unit (s := S2048x2048) (k0_off44 i) S256x128.size (k0_off44_inb i)).toLoadRect X_arg8
  | 1 => View.readAt (Elt F) arg8.view (Rect.unit (s := S2048x2048) (k0_off45 i) S256x128.size (k0_off45_inb i)).toLoadRect X_arg8
  | 2 => View.readAt (Elt F) arg8.view (Rect.unit (s := S2048x2048) (k0_off46 i) S256x128.size (k0_off46_inb i)).toLoadRect X_arg8
  | 3 => View.readAt (Elt F) arg8.view (Rect.unit (s := S2048x2048) (k0_off47 i) S256x128.size (k0_off47_inb i)).toLoadRect X_arg8
  | 4 => View.readAt (Elt F) arg8.view (Rect.unit (s := S2048x2048) (k0_off48 i) S256x128.size (k0_off48_inb i)).toLoadRect X_arg8
  | 5 => View.readAt (Elt F) arg8.view (Rect.unit (s := S2048x2048) (k0_off49 i) S256x128.size (k0_off49_inb i)).toLoadRect X_arg8
  | 6 => View.readAt (Elt F) arg8.view (Rect.unit (s := S2048x2048) (k0_off50 i) S256x128.size (k0_off50_inb i)).toLoadRect X_arg8
  | 7 => View.readAt (Elt F) arg8.view (Rect.unit (s := S2048x2048) (k0_off51 i) S256x128.size (k0_off51_inb i)).toLoadRect X_arg8

theorem rdDN_eq (i : grid0.Coords) (arg8 : Memref sig .tc .vmem S2048x2048 .bf16) (X_arg8 : BufTy.Contents (Elt F) arg8.view.ty) (h : Fin 8) :
    rdDN i arg8 X_arg8 h = tileAt (s0 := 2048) (s1 := 2048) (arg8.view.read (Elt F) X_arg8) (256 * (i 2).val) (256 * h.val) := by
  match h with
  | 0 => exact load_tile _ _ _ _ _ _ (off36_eq i).1 (off36_eq i).2
  | 1 => exact load_tile _ _ _ _ _ _ (off37_eq i).1 (off37_eq i).2
  | 2 => exact load_tile _ _ _ _ _ _ (off38_eq i).1 (off38_eq i).2
  | 3 => exact load_tile _ _ _ _ _ _ (off39_eq i).1 (off39_eq i).2
  | 4 => exact load_tile _ _ _ _ _ _ (off40_eq i).1 (off40_eq i).2
  | 5 => exact load_tile _ _ _ _ _ _ (off41_eq i).1 (off41_eq i).2
  | 6 => exact load_tile _ _ _ _ _ _ (off42_eq i).1 (off42_eq i).2
  | 7 => exact load_tile _ _ _ _ _ _ (off43_eq i).1 (off43_eq i).2

theorem rdDV_eq (i : grid0.Coords) (arg8 : Memref sig .tc .vmem S2048x2048 .bf16) (X_arg8 : BufTy.Contents (Elt F) arg8.view.ty) (h : Fin 8) :
    rdDV i arg8 X_arg8 h = tileAt (s0 := 2048) (s1 := 2048) (arg8.view.read (Elt F) X_arg8) (256 * (i 2).val) (256 * h.val + 128) := by
  match h with
  | 0 => exact load_tile _ _ _ _ _ _ (off44_eq i).1 (off44_eq i).2
  | 1 => exact load_tile _ _ _ _ _ _ (off45_eq i).1 (off45_eq i).2
  | 2 => exact load_tile _ _ _ _ _ _ (off46_eq i).1 (off46_eq i).2
  | 3 => exact load_tile _ _ _ _ _ _ (off47_eq i).1 (off47_eq i).2
  | 4 => exact load_tile _ _ _ _ _ _ (off48_eq i).1 (off48_eq i).2
  | 5 => exact load_tile _ _ _ _ _ _ (off49_eq i).1 (off49_eq i).2
  | 6 => exact load_tile _ _ _ _ _ _ (off50_eq i).1 (off50_eq i).2
  | 7 => exact load_tile _ _ _ _ _ _ (off51_eq i).1 (off51_eq i).2

/-- What head `h` writes, as the loads of a grid point read its operands. -/
def outRaw (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (Q : Fin 8 → FVec F S256x256 .bf16) (X_arg8 : BufTy.Contents (Elt F) arg8.view.ty) (X_arg14 : BufTy.Contents (Elt F) arg14.view.ty) (h : Fin 8) : FVec F S256x128 .bf16 :=
  ((untup (st_k0_t2 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (Q 0) (Q 1) (Q 2) (Q 3) (Q 4) (Q 5) (Q 6) (Q 7) k0_pay126 k0_pay127 k0_pay128 k0_pay129 k0_pay130 k0_pay131 k0_pay132 k0_pay133 k0_pay134 k0_pay135 k0_pay136 k0_pay137 k0_pay138 k0_pay139 k0_pay140 k0_pay141 (k0_t2_loop i).lb X_arg8 X_arg14 (tup (untup (st_k0_t1 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (Q 0) (Q 1) (Q 2) (Q 3) (Q 4) (Q 5) (Q 6) (Q 7) k0_pay126 k0_pay127 k0_pay128 k0_pay129 k0_pay130 k0_pay131 k0_pay132 k0_pay133 k0_pay134 k0_pay135 k0_pay136 k0_pay137 k0_pay138 k0_pay139 k0_pay140 k0_pay141 X_arg8 X_arg14 (tup fun _ => Head.init) (k0_t1_loop i).trips))) (k0_t2_loop i).trips) h).next
    (k0_pay168 (k0_pay163 k0_pay160 k0_pay161 k0_pay162) (k0_pay164 (Q h) (View.readAt (Elt F) arg14.view (Rect.unit (s := S2048x128) (k0_off35 i) S256x128.size (k0_off35_inb i)).toLoadRect X_arg14) (rdDN i arg8 X_arg8 h)))
    (rdDV i arg8 X_arg8 h)).out

theorem outRaw_eq (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (Q : Fin 8 → FVec F S256x256 .bf16) (X_arg8 : BufTy.Contents (Elt F) arg8.view.ty) (X_arg14 : BufTy.Contents (Elt F) arg14.view.ty) (h : Fin 8) :
    outRaw c i arg3 harg3 arg4 harg4 arg5 harg5 arg6 harg6 arg7 harg7 arg8 harg8 arg9 harg9 arg10 harg10 arg11 harg11 arg12 harg12 arg13 harg13 arg14 harg14 Q X_arg8 X_arg14 h = (headEnd (Q h) (arg8.view.read (Elt F) X_arg8) (arg14.view.read (Elt F) X_arg14) h.val (i 2).val).out := by
  unfold outRaw
  rw [st2_eq, st1_eq _ _ _ _ _ _ _ _ _ _ _ _ _ _ _ _ _ _ _ _ _ _ _ _ _ _ _ _ _ _ (le_refl _), untup_tup, untup_tup, rdDN_eq, rdDV_eq,
    load_tile arg14.view X_arg14 _ _ _ _ (off35_eq i).1 (off35_eq i).2, trips1]
  rfl

/-- Where head `h` writes. -/
def headRect : Fin 8 → Rect S256x1024
  | 0 => Rect.unit (s := S256x1024) ![0, 0] S256x128.size inb_S256x1024_S256x128_0_0
  | 1 => Rect.unit (s := S256x1024) ![0, 128] S256x128.size inb_S256x1024_S256x128_0_128
  | 2 => Rect.unit (s := S256x1024) ![0, 256] S256x128.size inb_S256x1024_S256x128_0_256
  | 3 => Rect.unit (s := S256x1024) ![0, 384] S256x128.size inb_S256x1024_S256x128_0_384
  | 4 => Rect.unit (s := S256x1024) ![0, 512] S256x128.size inb_S256x1024_S256x128_0_512
  | 5 => Rect.unit (s := S256x1024) ![0, 640] S256x128.size inb_S256x1024_S256x128_0_640
  | 6 => Rect.unit (s := S256x1024) ![0, 768] S256x128.size inb_S256x1024_S256x128_0_768
  | 7 => Rect.unit (s := S256x1024) ![0, 896] S256x128.size inb_S256x1024_S256x128_0_896

set_option maxHeartbeats 8000000 in
/-- The stores of a grid point (case B), head by head. -/
theorem pieces_B (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (hc0 : ¬cond0_0 i)
    (x0 : Vec F S256x1024 .bf16) (x1 : Vec F S256x512 .bf16) (x2 : Vec F S256x512 .bf16) (x3 : Vec F S256x128 .f32) (x4 : Vec F S256x128 .f32) (x5 : Vec F S2048x2048 .bf16) (x6 : Vec F S2048x128 .bf16) (x7 : Vec F S2048x128 .bf16) (x8 : Vec F S2048x128 .f32) (x9 : Vec F S2048x128 .f32) (xs0 : Vec F S2048x128 .bf16) :
    (kernelRun0_B (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0).1 = [⟨Rect.unit (s := S256x1024) ![0, 896] S256x128.size inb_S256x1024_S256x128_0_896, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (harg14.unread xs0) 7⟩, ⟨Rect.unit (s := S256x1024) ![0, 768] S256x128.size inb_S256x1024_S256x128_0_768, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (harg14.unread xs0) 6⟩, ⟨Rect.unit (s := S256x1024) ![0, 640] S256x128.size inb_S256x1024_S256x128_0_640, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (harg14.unread xs0) 5⟩, ⟨Rect.unit (s := S256x1024) ![0, 512] S256x128.size inb_S256x1024_S256x128_0_512, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (harg14.unread xs0) 4⟩, ⟨Rect.unit (s := S256x1024) ![0, 384] S256x128.size inb_S256x1024_S256x128_0_384, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (harg14.unread xs0) 3⟩, ⟨Rect.unit (s := S256x1024) ![0, 256] S256x128.size inb_S256x1024_S256x128_0_256, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (harg14.unread xs0) 2⟩, ⟨Rect.unit (s := S256x1024) ![0, 128] S256x128.size inb_S256x1024_S256x128_0_128, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (harg14.unread xs0) 1⟩, ⟨Rect.unit (s := S256x1024) ![0, 0] S256x128.size inb_S256x1024_S256x128_0_0, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (harg14.unread xs0) 0⟩] := by
  unfold kernelRun0_B
  rfl

set_option maxHeartbeats 8000000 in
/-- The stores of a grid point (case A), head by head. -/
theorem pieces_A (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (hc0 : cond0_0 i)
    (x0 : Vec F S256x1024 .bf16) (x1 : Vec F S256x512 .bf16) (x2 : Vec F S256x512 .bf16) (x3 : Vec F S256x128 .f32) (x4 : Vec F S256x128 .f32) (x5 : Vec F S2048x2048 .bf16) (x6 : Vec F S2048x128 .bf16) (x7 : Vec F S2048x128 .bf16) (x8 : Vec F S2048x128 .f32) (x9 : Vec F S2048x128 .f32) :
    (kernelRun0_A (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1 = [⟨Rect.unit (s := S256x1024) ![0, 896] S256x128.size inb_S256x1024_S256x128_0_896, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (arg14.view.writes (Elt F) arg14.view.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1) 7⟩, ⟨Rect.unit (s := S256x1024) ![0, 768] S256x128.size inb_S256x1024_S256x128_0_768, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (arg14.view.writes (Elt F) arg14.view.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1) 6⟩, ⟨Rect.unit (s := S256x1024) ![0, 640] S256x128.size inb_S256x1024_S256x128_0_640, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (arg14.view.writes (Elt F) arg14.view.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1) 5⟩, ⟨Rect.unit (s := S256x1024) ![0, 512] S256x128.size inb_S256x1024_S256x128_0_512, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (arg14.view.writes (Elt F) arg14.view.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1) 4⟩, ⟨Rect.unit (s := S256x1024) ![0, 384] S256x128.size inb_S256x1024_S256x128_0_384, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (arg14.view.writes (Elt F) arg14.view.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1) 3⟩, ⟨Rect.unit (s := S256x1024) ![0, 256] S256x128.size inb_S256x1024_S256x128_0_256, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (arg14.view.writes (Elt F) arg14.view.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1) 2⟩, ⟨Rect.unit (s := S256x1024) ![0, 128] S256x128.size inb_S256x1024_S256x128_0_128, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (arg14.view.writes (Elt F) arg14.view.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1) 1⟩, ⟨Rect.unit (s := S256x1024) ![0, 0] S256x128.size inb_S256x1024_S256x128_0_0, outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) (arg14.view.writes (Elt F) arg14.view.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1) 0⟩] := by
  unfold kernelRun0_A
  rfl

end Cert.KernelIdeal.Gen
-- ==== Proof.Out.lean ====
module

public import proofs.«01_k».proof.Proof.Block
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem

/-!
  WHAT A GRID POINT LEAVES: its block of the result as one function of the operands' blocks, and the rotated keys it keeps in scratch.
-/

namespace Cert.KernelIdeal.Gen
variable {F : FTy → Type} [FloatOps F] [Named F]

/-- The block a grid point writes: head `h` fills the lanes from `128 h`. -/
def blockOf (x0 : Vec F S256x1024 .bf16) (x1 x2 : Vec F S256x512 .bf16) (x3 x4 : Vec F S256x128 .f32) (x5 : Vec F S2048x2048 .bf16) (xr : Vec F S2048x128 .bf16) (n : ℕ) : Vec F S256x1024 .bf16 :=
  fun y => (headEnd (qOf x0 x1 x2 x3 x4 (Fin.ofNat 8 ((y 1).val / 128))) x5 xr ((y 1).val / 128) n).out (ValueIdx.ix2 (n0 := 256) (n1 := 128) (y 0) (Fin.ofNat 128 (y 1).val))

theorem piece_eq (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (x0 : Vec F S256x1024 .bf16) (x1 : Vec F S256x512 .bf16) (x2 : Vec F S256x512 .bf16) (x3 : Vec F S256x128 .f32) (x4 : Vec F S256x128 .f32) (x5 : Vec F S2048x2048 .bf16) (xr : Vec F S2048x128 .bf16)
    (X14 : BufTy.Contents (Elt F) arg14.view.ty) (hX : arg14.view.read (Elt F) X14 = xr) (h : Fin 8) (cl : ℕ) (hcl : cl = 128 * h.val) (inb : ∀ a, ![0, cl] a + S256x128.size a ≤ S256x1024.size a)
    (x : S256x128.Idx) :
    outRaw c i arg3 harg3 arg4 harg4 arg5 harg5 arg6 harg6 arg7 harg7 arg8 harg8 arg9 harg9 arg10 harg10 arg11 harg11 arg12 harg12 arg13 harg13 arg14 harg14 (qRaw arg3 harg3 arg4 harg4 arg5 harg5 arg6 harg6 arg7 harg7 x0 x1 x2 x3 x4) (harg8.unread x5) X14 h x
      = blockOf x0 x1 x2 x3 x4 x5 xr (i 2).val ((Rect.unit (s := S256x1024) ![0, cl] S256x128.size inb).emb x) := by
  subst hcl
  rw [outRaw_eq, hX, harg8.read_unread, qRaw_eq]
  have h1 : (((Rect.unit (s := S256x1024) ![0, 128 * h.val] S256x128.size inb).emb x) 1).val = 128 * h.val + (x 1).val := by
    show 128 * h.val + 1 * (x 1).val = _
    omega
  have hx1 : (x 1).val < 128 := (x 1).isLt
  have h0 : (((Rect.unit (s := S256x1024) ![0, 128 * h.val] S256x128.size inb).emb x) 0).val = (x 0).val := by
    show 0 + 1 * (x 0).val = _
    omega
  unfold blockOf
  rw [h1]
  have e1 : (128 * h.val + (x 1).val) / 128 = h.val := by omega
  rw [e1]
  have e2 : (Fin.ofNat 8 h.val) = h := Fin.ext (Nat.mod_eq_of_lt h.isLt)
  rw [e2]
  congr 1
  funext a
  match a with
  | 0 => exact Fin.ext h0.symm
  | 1 => exact Fin.ext (by show (x 1).val = (128 * h.val + (x 1).val) % 128; omega)

/-- What a grid point of case B writes. -/
theorem out_B (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (hc0 : ¬cond0_0 i)
    (x0 : Vec F S256x1024 .bf16) (x1 : Vec F S256x512 .bf16) (x2 : Vec F S256x512 .bf16) (x3 : Vec F S256x128 .f32) (x4 : Vec F S256x128 .f32) (x5 : Vec F S2048x2048 .bf16) (x6 : Vec F S2048x128 .bf16) (x7 : Vec F S2048x128 .bf16) (x8 : Vec F S2048x128 .f32) (x9 : Vec F S2048x128 .f32) (xs0 : Vec F S2048x128 .bf16) :
    out0_B_10 (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = blockOf x0 x1 x2 x3 x4 x5 xs0 (i 2).val := by
  have hc := cover0_B_10 (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0
  unfold out0_B_10
  rw [View.read_writes_eq_canon _ _ _ hc]
  funext y
  refine View.canon_apply_of_pieces _ _ ?_ y (hc y)
  rw [pieces_B]
  intro p hp x
  simp only [List.mem_cons, List.not_mem_nil, or_false] at hp
  rcases hp with rfl | rfl | rfl | rfl | rfl | rfl | rfl | rfl
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (harg14.read_unread xs0) 7 _ rfl inb_S256x1024_S256x128_0_896 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (harg14.read_unread xs0) 6 _ rfl inb_S256x1024_S256x128_0_768 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (harg14.read_unread xs0) 5 _ rfl inb_S256x1024_S256x128_0_640 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (harg14.read_unread xs0) 4 _ rfl inb_S256x1024_S256x128_0_512 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (harg14.read_unread xs0) 3 _ rfl inb_S256x1024_S256x128_0_384 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (harg14.read_unread xs0) 2 _ rfl inb_S256x1024_S256x128_0_256 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (harg14.read_unread xs0) 1 _ rfl inb_S256x1024_S256x128_0_128 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (harg14.read_unread xs0) 0 _ rfl inb_S256x1024_S256x128_0_0 x

/-- The rotated keys of a batch. -/
def krot (x6 x7 : Vec F S2048x128 .bf16) (x8 x9 : Vec F S2048x128 .f32) : Vec F S2048x128 .bf16 := k0_pay106 x6 x8 x7 x9

theorem spieces_A (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (hc0 : cond0_0 i)
    (x0 : Vec F S256x1024 .bf16) (x1 : Vec F S256x512 .bf16) (x2 : Vec F S256x512 .bf16) (x3 : Vec F S256x128 .f32) (x4 : Vec F S256x128 .f32) (x5 : Vec F S2048x2048 .bf16) (x6 : Vec F S2048x128 .bf16) (x7 : Vec F S2048x128 .bf16) (x8 : Vec F S2048x128 .f32) (x9 : Vec F S2048x128 .f32) :
    (kernelRun0_A (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 = [⟨Rect.unit (s := S2048x128) ![0, 0] S2048x128.size inb_S2048x128_S2048x128_0_0, krot x6 x7 x8 x9⟩] := by
  have e : ∀ {e : EltTy} (m : Memref sig .tc .vmem S2048x128 e) (hm : m.IsWhole) (x : Vec F S2048x128 e),
      View.readAt (Elt F) m.view (Rect.unit (s := S2048x128) ![0, 0] S2048x128.size inb_S2048x128_S2048x128_0_0).toLoadRect (hm.unread x) = x := fun m hm x => by
    rw [View.readAt_full, hm.read_unread]
  unfold kernelRun0_A
  show [_] = _
  refine congrArg (fun p => [(⟨Rect.unit (s := S2048x128) ![0, 0] S2048x128.size inb_S2048x128_S2048x128_0_0, p⟩ : View.Piece (Elt F) S2048x128 .bf16)]) ?_
  show k0_pay106 _ _ _ _ = k0_pay106 _ _ _ _
  exact congr (congr (congrArg₂ k0_pay106 (e _ _ _) (e _ _ _)) (e _ _ _)) (e _ _ _)

/-- Case A leaves the batch's rotated keys in scratch. -/
theorem sout_A (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (hc0 : cond0_0 i)
    (x0 : Vec F S256x1024 .bf16) (x1 : Vec F S256x512 .bf16) (x2 : Vec F S256x512 .bf16) (x3 : Vec F S256x128 .f32) (x4 : Vec F S256x128 .f32) (x5 : Vec F S2048x2048 .bf16) (x6 : Vec F S2048x128 .bf16) (x7 : Vec F S2048x128 .bf16) (x8 : Vec F S2048x128 .f32) (x9 : Vec F S2048x128 .f32) :
    sout0_A_0 (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = krot x6 x7 x8 x9 := by
  unfold sout0_A_0
  rw [spieces_A, View.read_writes_full]

/-- What a grid point of case A writes. -/
theorem out_A (c : Dev nD) (i : grid0.Coords) (arg3 : Memref sig .tc .vmem S256x1024 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S2048x2048 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .bf16) (harg13 : arg13.IsWhole) (arg14 : Memref sig .tc .vmem S2048x128 .bf16) (harg14 : arg14.IsWhole) (hc0 : cond0_0 i)
    (x0 : Vec F S256x1024 .bf16) (x1 : Vec F S256x512 .bf16) (x2 : Vec F S256x512 .bf16) (x3 : Vec F S256x128 .f32) (x4 : Vec F S256x128 .f32) (x5 : Vec F S2048x2048 .bf16) (x6 : Vec F S2048x128 .bf16) (x7 : Vec F S2048x128 .bf16) (x8 : Vec F S2048x128 .f32) (x9 : Vec F S2048x128 .f32) :
    out0_A_10 (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = blockOf x0 x1 x2 x3 x4 x5 (krot x6 x7 x8 x9) (i 2).val := by
  have hc := cover0_A_10 (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
  unfold out0_A_10
  rw [View.read_writes_eq_canon _ _ _ hc]
  funext y
  refine View.canon_apply_of_pieces _ _ ?_ y (hc y)
  rw [pieces_A]
  intro p hp x
  simp only [List.mem_cons, List.not_mem_nil, or_false] at hp
  rcases hp with rfl | rfl | rfl | rfl | rfl | rfl | rfl | rfl
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (by rw [spieces_A, View.read_writes_full]) 7 _ rfl inb_S256x1024_S256x128_0_896 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (by rw [spieces_A, View.read_writes_full]) 6 _ rfl inb_S256x1024_S256x128_0_768 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (by rw [spieces_A, View.read_writes_full]) 5 _ rfl inb_S256x1024_S256x128_0_640 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (by rw [spieces_A, View.read_writes_full]) 4 _ rfl inb_S256x1024_S256x128_0_512 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (by rw [spieces_A, View.read_writes_full]) 3 _ rfl inb_S256x1024_S256x128_0_384 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (by rw [spieces_A, View.read_writes_full]) 2 _ rfl inb_S256x1024_S256x128_0_256 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (by rw [spieces_A, View.read_writes_full]) 1 _ rfl inb_S256x1024_S256x128_0_128 x
  · exact piece_eq c i arg3 harg3 arg4 harg4 arg5 harg5 arg6 harg6 arg7 harg7 arg8 harg8 arg9 harg9 arg10 harg10 arg11 harg11 arg12 harg12 arg13 harg13 arg14 harg14 x0 x1 x2 x3 x4 x5 _ _ (by rw [spieces_A, View.read_writes_full]) 0 _ rfl inb_S256x1024_S256x128_0_0 x

end Cert.KernelIdeal.Gen
-- ==== Proof.Grid.lean ====
module

public import proofs.«01_k».proof.Proof.Out
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-!
  THE WHOLE RESULT, index by index: the block of the grid point that writes the index, with the batch's rotated keys in scratch.
-/

namespace Cert.KernelIdeal.Gen
variable {F : FTy → Type} [FloatOps F] [Named F]
variable (m : (ℓ : Loc nD τ sig) → Buf (Elt F) ℓ)

theorem coords2 : ∀ t : Fin grid0.N, ((grid0.coords t) 2).val = t.val % 8 := by decide +kernel

/-- The windows' blocks, by grid point. -/
theorem idxs : ∀ t : Fin grid0.N,
    win0_0.index t (0 : Fin 2) = t.val ∧ win0_0.index t (1 : Fin 2) = 0 ∧ win0_1.index t (0 : Fin 2) = t.val ∧ win0_1.index t (1 : Fin 2) = 2
    ∧ win0_2.index t (0 : Fin 2) = t.val ∧ win0_2.index t (1 : Fin 2) = 3 ∧ win0_3.index t (0 : Fin 2) = t.val ∧ win0_3.index t (1 : Fin 2) = 0
    ∧ win0_4.index t (0 : Fin 2) = t.val ∧ win0_4.index t (1 : Fin 2) = 0 ∧ win0_5.index t (0 : Fin 2) = t.val / 8 ∧ win0_5.index t (1 : Fin 2) = 0
    ∧ win0_6.index t (0 : Fin 2) = t.val / 8 ∧ win0_6.index t (1 : Fin 2) = 64 ∧ win0_7.index t (0 : Fin 2) = t.val / 8 ∧ win0_7.index t (1 : Fin 2) = 65
    ∧ win0_8.index t (0 : Fin 2) = t.val / 8 ∧ win0_8.index t (1 : Fin 2) = 0 ∧ win0_9.index t (0 : Fin 2) = t.val / 8 ∧ win0_9.index t (1 : Fin 2) = 0 := by
  decide +kernel

theorem blk0 (c : Dev nD) (t : Fin cfg0.N) (j : Fin 256) (l : Fin 1024) :
    iblk m c 0 t (ValueIdx.ix2 j l) = V m c main_v12 (ValueIdx.ix2 (n0 := 32768) (n1 := 2048) (Fin.ofNat 32768 (256 * t.val + j.val)) (Fin.ofNat 2048 (0 + l.val))) := by
  have hI := idxs t
  have ht : t.val < 128 := lt_of_lt_of_eq t.isLt N_0
  show V m c main_v12 _ = V m c main_v12 _
  congr 1
  blk_ext [hI]
  all_goals (simp [ValueIdx.ix2, Fin.ofNat]; try omega)

theorem blk1 (c : Dev nD) (t : Fin cfg0.N) (j : Fin 256) (l : Fin 512) :
    iblk m c 1 t (ValueIdx.ix2 j l) = V m c main_v12 (ValueIdx.ix2 (n0 := 32768) (n1 := 2048) (Fin.ofNat 32768 (256 * t.val + j.val)) (Fin.ofNat 2048 (1024 + l.val))) := by
  have hI := idxs t
  have ht : t.val < 128 := lt_of_lt_of_eq t.isLt N_0
  show V m c main_v12 _ = V m c main_v12 _
  congr 1
  blk_ext [hI]
  all_goals (simp [ValueIdx.ix2, Fin.ofNat]; try omega)

theorem blk2 (c : Dev nD) (t : Fin cfg0.N) (j : Fin 256) (l : Fin 512) :
    iblk m c 2 t (ValueIdx.ix2 j l) = V m c main_v12 (ValueIdx.ix2 (n0 := 32768) (n1 := 2048) (Fin.ofNat 32768 (256 * t.val + j.val)) (Fin.ofNat 2048 (1536 + l.val))) := by
  have hI := idxs t
  have ht : t.val < 128 := lt_of_lt_of_eq t.isLt N_0
  show V m c main_v12 _ = V m c main_v12 _
  congr 1
  blk_ext [hI]
  all_goals (simp [ValueIdx.ix2, Fin.ofNat]; try omega)

theorem blk3 (c : Dev nD) (t : Fin cfg0.N) (j : Fin 256) (l : Fin 128) :
    iblk m c 3 t (ValueIdx.ix2 j l) = V m c main_v41 (ValueIdx.ix2 (n0 := 32768) (n1 := 128) (Fin.ofNat 32768 (256 * t.val + j.val)) (Fin.ofNat 128 (0 + l.val))) := by
  have hI := idxs t
  have ht : t.val < 128 := lt_of_lt_of_eq t.isLt N_0
  show V m c main_v41 _ = V m c main_v41 _
  congr 1
  blk_ext [hI]
  all_goals (simp [ValueIdx.ix2, Fin.ofNat]; try omega)

theorem blk4 (c : Dev nD) (t : Fin cfg0.N) (j : Fin 256) (l : Fin 128) :
    iblk m c 4 t (ValueIdx.ix2 j l) = V m c main_v45 (ValueIdx.ix2 (n0 := 32768) (n1 := 128) (Fin.ofNat 32768 (256 * t.val + j.val)) (Fin.ofNat 128 (0 + l.val))) := by
  have hI := idxs t
  have ht : t.val < 128 := lt_of_lt_of_eq t.isLt N_0
  show V m c main_v45 _ = V m c main_v45 _
  congr 1
  blk_ext [hI]
  all_goals (simp [ValueIdx.ix2, Fin.ofNat]; try omega)

theorem blk5 (c : Dev nD) (t : Fin cfg0.N) (j : Fin 2048) (l : Fin 2048) :
    iblk m c 5 t (ValueIdx.ix2 j l) = V m c main_v46 (ValueIdx.ix2 (n0 := 32768) (n1 := 2048) (Fin.ofNat 32768 (2048 * (t.val / 8) + j.val)) (Fin.ofNat 2048 (0 + l.val))) := by
  have hI := idxs t
  have ht : t.val < 128 := lt_of_lt_of_eq t.isLt N_0
  show V m c main_v46 _ = V m c main_v46 _
  congr 1
  blk_ext [hI]
  all_goals (simp [ValueIdx.ix2, Fin.ofNat]; try omega)

theorem blk6 (c : Dev nD) (t : Fin cfg0.N) (j : Fin 2048) (l : Fin 128) :
    iblk m c 6 t (ValueIdx.ix2 j l) = V m c main_v18 (ValueIdx.ix2 (n0 := 32768) (n1 := 8448) (Fin.ofNat 32768 (2048 * (t.val / 8) + j.val)) (Fin.ofNat 8448 (8192 + l.val))) := by
  have hI := idxs t
  have ht : t.val < 128 := lt_of_lt_of_eq t.isLt N_0
  show V m c main_v18 _ = V m c main_v18 _
  congr 1
  blk_ext [hI]
  all_goals (simp [ValueIdx.ix2, Fin.ofNat]; try omega)

theorem blk7 (c : Dev nD) (t : Fin cfg0.N) (j : Fin 2048) (l : Fin 128) :
    iblk m c 7 t (ValueIdx.ix2 j l) = V m c main_v18 (ValueIdx.ix2 (n0 := 32768) (n1 := 8448) (Fin.ofNat 32768 (2048 * (t.val / 8) + j.val)) (Fin.ofNat 8448 (8320 + l.val))) := by
  have hI := idxs t
  have ht : t.val < 128 := lt_of_lt_of_eq t.isLt N_0
  show V m c main_v18 _ = V m c main_v18 _
  congr 1
  blk_ext [hI]
  all_goals (simp [ValueIdx.ix2, Fin.ofNat]; try omega)

theorem blk8 (c : Dev nD) (t : Fin cfg0.N) (j : Fin 2048) (l : Fin 128) :
    iblk m c 8 t (ValueIdx.ix2 j l) = V m c main_v41 (ValueIdx.ix2 (n0 := 32768) (n1 := 128) (Fin.ofNat 32768 (2048 * (t.val / 8) + j.val)) (Fin.ofNat 128 (0 + l.val))) := by
  have hI := idxs t
  have ht : t.val < 128 := lt_of_lt_of_eq t.isLt N_0
  show V m c main_v41 _ = V m c main_v41 _
  congr 1
  blk_ext [hI]
  all_goals (simp [ValueIdx.ix2, Fin.ofNat]; try omega)

theorem blk9 (c : Dev nD) (t : Fin cfg0.N) (j : Fin 2048) (l : Fin 128) :
    iblk m c 9 t (ValueIdx.ix2 j l) = V m c main_v45 (ValueIdx.ix2 (n0 := 32768) (n1 := 128) (Fin.ofNat 32768 (2048 * (t.val / 8) + j.val)) (Fin.ofNat 128 (0 + l.val))) := by
  have hI := idxs t
  have ht : t.val < 128 := lt_of_lt_of_eq t.isLt N_0
  show V m c main_v45 _ = V m c main_v45 _
  congr 1
  blk_ext [hI]
  all_goals (simp [ValueIdx.ix2, Fin.ofNat]; try omega)

/-- Scratch holds the batch's rotated keys at every point. -/
theorem scratch_eq (c : Dev nD) : ∀ (n : ℕ) (hn : n < cfg0.N), (outsAt0 m c n hn).2 = krot (iblk m c 6 ⟨n, hn⟩) (iblk m c 7 ⟨n, hn⟩) (iblk m c 8 ⟨n, hn⟩) (iblk m c 9 ⟨n, hn⟩) := by
  intro n
  induction n with
  | zero =>
    intro hn
    have e := outsAt0_A m c ⟨0, hn⟩ (Nat.zero_mod _)
    rw [show outsAt0 m c 0 hn = _ from e, sout_A]
  | succ n ih =>
    intro hn
    by_cases h0 : (n + 1) % 8 = 0
    · have e := outsAt0_A m c ⟨n + 1, hn⟩ h0
      rw [show outsAt0 m c (n + 1) hn = _ from e, sout_A]
    · have e := outsAt0_B m c ⟨n + 1, hn⟩ h0
      rw [show outsAt0 m c (n + 1) hn = _ from e]
      show (outsAt0 m c n _).2 = _
      rw [ih (by omega)]
      have hd : (n + 1) / 8 = n / 8 := by omega
      have e6 : iblk m c 6 ⟨n, by omega⟩ = iblk m c 6 ⟨n + 1, hn⟩ := by
        funext (y : S2048x128.Idx); rw [ValueIdx.eq_ix2 y]; refine (blk6 m c _ _ _).trans (Eq.trans ?_ (blk6 m c _ _ _).symm); simp only [hd]
      have e7 : iblk m c 7 ⟨n, by omega⟩ = iblk m c 7 ⟨n + 1, hn⟩ := by
        funext (y : S2048x128.Idx); rw [ValueIdx.eq_ix2 y]; refine (blk7 m c _ _ _).trans (Eq.trans ?_ (blk7 m c _ _ _).symm); simp only [hd]
      have e8 : iblk m c 8 ⟨n, by omega⟩ = iblk m c 8 ⟨n + 1, hn⟩ := by
        funext (y : S2048x128.Idx); rw [ValueIdx.eq_ix2 y]; refine (blk8 m c _ _ _).trans (Eq.trans ?_ (blk8 m c _ _ _).symm); simp only [hd]
      have e9 : iblk m c 9 ⟨n, by omega⟩ = iblk m c 9 ⟨n + 1, hn⟩ := by
        funext (y : S2048x128.Idx); rw [ValueIdx.eq_ix2 y]; refine (blk9 m c _ _ _).trans (Eq.trans ?_ (blk9 m c _ _ _).symm); simp only [hd]
      exact congr (congr (congrArg₂ krot e6 e7) e8) e9

/-- The block a grid point writes. -/
theorem outs_eq (c : Dev nD) (t : Fin cfg0.N) :
    (outsAt0 m c t.val t.isLt).1 = blockOf (iblk m c 0 t) (iblk m c 1 t) (iblk m c 2 t) (iblk m c 3 t) (iblk m c 4 t) (iblk m c 5 t)
      (krot (iblk m c 6 t) (iblk m c 7 t) (iblk m c 8 t) (iblk m c 9 t)) (t.val % 8) := by
  by_cases h0 : t.val % 8 = 0
  · rw [outsAt0_A m c t h0, out_A, coords2]
  · have hs := scratch_eq m c t.val t.isLt
    rw [outsAt0_B m c t h0] at hs ⊢
    rw [out_B, coords2]
    exact congrArg (fun s => blockOf _ _ _ _ _ _ s _) hs

/-- The kernel's result at an index. -/
theorem G10_eq (c : Dev nD) (i : S32768x1024.Idx) (t : Fin cfg0.N) (ht : t.val = (i 0).val / 256) :
    Value.G10 m c i = blockOf (iblk m c 0 t) (iblk m c 1 t) (iblk m c 2 t) (iblk m c 3 t) (iblk m c 4 t) (iblk m c 5 t)
      (krot (iblk m c 6 t) (iblk m c 7 t) (iblk m c 8 t) (iblk m c 9 t)) (t.val % 8) (Value.loc10Of i) := by
  have h1 : (i 1).val < 1024 := (i 1).isLt
  have hp : Value.pt10Of i = t.val := by
    show 1 * ((i 0).val / 256 - 0) + 1 * ((i 1).val / 1024 - 0) = t.val
    omega
  have hlt : Value.pt10Of i < cfg0.N := by rw [hp]; exact t.isLt
  unfold Value.G10
  rw [dif_pos hlt, ← outs_eq, ← Value.outsAt0_sweep m c _ hlt]
  simp only [hp]

end Cert.KernelIdeal.Gen
-- ==== Proof.Soft.lean ====
module
public import Idealize.ShloMosaic.PureOps.Ideal
public import Mathlib.Data.EReal.Inv
@[expose] public section
/-!
  THE ONLINE SOFTMAX over extended reals: a running maximum, denominator and weighted sum, taken tile by tile, end as the softmax over all keys.
-/
namespace Soft
open Idealize.ShloMosaic

theorem exp_nonneg (x : EReal) : 0 ≤ Ideal.exp x := by
  induction x using EReal.rec with
  | bot => simp
  | top => simp
  | coe r => simp only [Ideal.exp_coe]; exact_mod_cast (Real.exp_pos r).le

/-- Two exponentials of differences compose, in order. -/
theorem exp_chain {a b c : EReal} (hca : c ≤ a) (hab : a ≤ b) : Ideal.exp (a - b) * Ideal.exp (c - a) = Ideal.exp (c - b) := by
  induction a using EReal.rec with
  | bot =>
    obtain rfl : c = ⊥ := le_bot_iff.mp hca
    simp [EReal.bot_sub]
  | top =>
    obtain rfl : b = ⊤ := top_le_iff.mp hab
    simp [EReal.sub_top]
  | coe a =>
    induction b using EReal.rec with
    | bot => simp at hab
    | top => simp [EReal.sub_top]
    | coe b =>
      induction c using EReal.rec with
      | bot => simp [EReal.bot_sub]
      | top => simp at hca
      | coe c =>
        rw [← EReal.coe_sub, ← EReal.coe_sub, ← EReal.coe_sub, Ideal.exp_coe, Ideal.exp_coe, Ideal.exp_coe, ← EReal.coe_mul, ← Real.exp_add]
        congr 2
        ring

theorem exp_ne_top {a b : EReal} (hab : a ≤ b) : Ideal.exp (a - b) ≠ ⊤ := by
  induction a using EReal.rec with
  | bot => simp [EReal.bot_sub]
  | top => obtain rfl : b = ⊤ := top_le_iff.mp hab; simp [EReal.sub_top]
  | coe a =>
    induction b using EReal.rec with
    | bot => simp at hab
    | top => simp [EReal.sub_top]
    | coe b => rw [← EReal.coe_sub, Ideal.exp_coe]; exact EReal.coe_ne_top _

theorem mul_sum {ι : Type} {x : EReal} (hx : 0 ≤ x) (hx' : x ≠ ⊤) (s : Finset ι) (f : ι → EReal) : x * ∑ i ∈ s, f i = ∑ i ∈ s, x * f i := by
  classical
  induction s using Finset.induction_on with
  | empty => simp
  | insert a s ha ih => rw [Finset.sum_insert ha, Finset.sum_insert ha, EReal.left_distrib_of_nonneg_of_ne_top hx hx', ih]

/-- The greatest of the first `n` scores, `⊥` of none. -/
noncomputable def M (S : ℕ → EReal) (n : ℕ) : EReal := (Finset.range n).sup S
/-- The denominator over the first `n` keys. -/
noncomputable def L (S : ℕ → EReal) (n : ℕ) : EReal := ∑ k ∈ Finset.range n, Ideal.exp (S k - M S n)
/-- The weighted sum of values over the first `n` keys. -/
noncomputable def A (S V : ℕ → EReal) (n : ℕ) : EReal := ∑ k ∈ Finset.range n, Ideal.exp (S k - M S n) * V k

theorem M_add (S : ℕ → EReal) (n d : ℕ) : M S (n + d) = max (M S n) (Finset.univ.sup fun j : Fin d => S (n + j.val)) := by
  apply le_antisymm
  · refine Finset.sup_le fun k hk => ?_
    rcases lt_or_ge k n with h | h
    · exact le_max_of_le_left (Finset.le_sup (Finset.mem_range.mpr h))
    · refine le_max_of_le_right ?_
      have hk := Finset.mem_range.mp hk
      have := Finset.le_sup (f := fun j : Fin d => S (n + j.val)) (Finset.mem_univ (⟨k - n, by omega⟩ : Fin d))
      simpa [Nat.add_sub_cancel' h] using this
  · refine max_le (Finset.sup_le fun k hk => Finset.le_sup (Finset.mem_range.mpr ?_)) (Finset.sup_le fun j _ => Finset.le_sup (f := S) (Finset.mem_range.mpr ?_))
    · have := Finset.mem_range.mp hk; omega
    · have := j.isLt; omega

theorem le_M (S : ℕ → EReal) {n k : ℕ} (h : k < n) : S k ≤ M S n := Finset.le_sup (Finset.mem_range.mpr h)

theorem M_mono (S : ℕ → EReal) (n d : ℕ) : M S n ≤ M S (n + d) := by rw [M_add]; exact le_max_left _ _

theorem A_add (S V : ℕ → EReal) (n d : ℕ) :
    Ideal.exp (M S n - M S (n + d)) * A S V n + ∑ j : Fin d, V (n + j.val) * Ideal.exp (S (n + j.val) - M S (n + d)) = A S V (n + d) := by
  unfold A
  rw [mul_sum (exp_nonneg _) (exp_ne_top (M_mono S n d)), Finset.sum_range_add, ← Finset.sum_range fun j => V (n + j) * Ideal.exp (S (n + j) - M S (n + d))]
  congr 1
  · refine Finset.sum_congr rfl fun k hk => ?_
    rw [← mul_assoc, exp_chain (le_M S (Finset.mem_range.mp hk)) (M_mono S n d)]
  · exact Finset.sum_congr rfl fun k _ => mul_comm _ _

theorem L_add (S : ℕ → EReal) (n d : ℕ) :
    Ideal.exp (M S n - M S (n + d)) * L S n + ∑ j : Fin d, Ideal.exp (S (n + j.val) - M S (n + d)) = L S (n + d) := by
  have h := A_add S (fun _ => 1) n d
  simpa [A, L] using h

theorem M_zero (S : ℕ → EReal) : M S 0 = ⊥ := rfl
theorem L_zero (S : ℕ → EReal) : L S 0 = 0 := rfl
theorem A_zero (S V : ℕ → EReal) : A S V 0 = 0 := rfl

/-- Keys past `n` with score `⊥` change nothing. -/
theorem M_ext (S : ℕ → EReal) {n N : ℕ} (h : n ≤ N) (hS : ∀ k, n ≤ k → k < N → S k = ⊥) : M S N = M S n := by
  obtain ⟨d, rfl⟩ := Nat.exists_eq_add_of_le h
  rw [M_add]
  refine max_eq_left (Finset.sup_le fun j _ => ?_)
  rw [hS _ (by omega) (by have := j.isLt; omega)]; exact bot_le

theorem exp_bot_sub (x : EReal) : Ideal.exp (⊥ - x) = 0 := by rw [EReal.bot_sub]; rfl

theorem A_ext (S V : ℕ → EReal) {n N : ℕ} (h : n ≤ N) (hS : ∀ k, n ≤ k → k < N → S k = ⊥) : A S V N = A S V n := by
  unfold A
  rw [M_ext S h hS]
  refine (Finset.sum_subset (Finset.range_subset_range.mpr h) fun k hk hk' => ?_).symm
  rw [hS k (by simpa using hk') (Finset.mem_range.mp hk), exp_bot_sub, zero_mul]

theorem L_ext (S : ℕ → EReal) {n N : ℕ} (h : n ≤ N) (hS : ∀ k, n ≤ k → k < N → S k = ⊥) : L S N = L S n := by
  have := A_ext S (fun _ => 1) h hS
  simpa [A, L] using this

/-- With no score `⊤` and one that is real, the denominator is not zero. -/
theorem L_ne_zero (S : ℕ → EReal) {n : ℕ} (hT : ∀ k, S k ≠ ⊤) {k : ℕ} (hk : k < n) (hB : S k ≠ ⊥) : L S n ≠ 0 := by
  obtain ⟨k0, h0, hM⟩ := Finset.exists_mem_eq_sup (Finset.range n) ⟨k, Finset.mem_range.mpr hk⟩ S
  have hM : M S n = S k0 := hM
  have hb : S k0 ≠ ⊥ := fun e => hB (le_bot_iff.mp (by rw [← e, ← hM]; exact le_M S hk))
  have h1 : Ideal.exp (S k0 - M S n) = 1 := by
    rw [hM]
    lift S k0 to ℝ using ⟨hT k0, hb⟩ with r
    rw [← EReal.coe_sub, sub_self, Ideal.exp_coe, Real.exp_zero]; rfl
  have h2 : (1 : EReal) ≤ L S n := by
    rw [← h1]
    exact Finset.single_le_sum (f := fun k => Ideal.exp (S k - M S n)) (fun k _ => exp_nonneg _) h0
  intro e
  rw [e] at h2
  exact absurd h2 (by simp)

/-- Dividing the weighted sum by the denominator is weighting by the divided exponentials. -/
theorem div_eq (S V : ℕ → EReal) {n : ℕ} (h : L S n ≠ 0) :
    Ideal.div (A S V n) (L S n) = ∑ k ∈ Finset.range n, Ideal.div (Ideal.exp (S k - M S n)) (L S n) * V k := by
  have hd : ∀ x, Ideal.div x (L S n) = x * (L S n)⁻¹ := fun x => by simp [Ideal.div, h]
  have hL : 0 ≤ L S n := Finset.sum_nonneg fun k _ => exp_nonneg _
  simp only [hd]
  unfold A
  rw [mul_comm, mul_sum (EReal.inv_nonneg_of_nonneg hL) (EReal.inv_lt_top _).ne]
  refine Finset.sum_congr rfl fun k _ => ?_
  rw [← mul_assoc, mul_comm (L S n)⁻¹]

end Soft
-- ==== Proof.Next.lean ====
module

public import proofs.«01_k».proof.Proof.Grid
public import proofs.«01_k».proof.Proof.Soft
public import Idealize.ShloMosaic.Lib.Pointwise
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-!
  ONE STEP OF A HEAD in exact arithmetic, element by element, and the state after any number of tiles as the softmax state.
-/

namespace Cert.KernelIdeal.Gen

theorem negInf : Ideal.ofBits FTy.f32 4286578688#32 = ⊥ := by simp [Ideal.ofBits, Ideal.ieee]

theorem init_m (j : S1x256.Idx) : (Head.init (F := Ideal)).m j = ⊥ := by
  show k0_pay126 (F := Ideal) j = ⊥
  pointwise [k0_pay126]
  rfl
theorem init_l (j : S1x256.Idx) : (Head.init (F := Ideal)).l j = 0 := by
  show k0_pay134 (F := Ideal) j = 0
  pointwise [k0_pay134]
theorem init_a (j : S128x256.Idx) : (Head.init (F := Ideal)).a j = 0 := by
  show k0_pay142 (F := Ideal) j = 0
  pointwise [k0_pay142]

theorem pay176_apply (mm : FVec Ideal S1x256 .f32) (s : FVec Ideal S256x256 .f32) (r : Fin 256) :
    k0_pay176 mm s (ix2 0 r) = max (mm (ix2 0 r)) (Finset.univ.sup fun j : Fin 256 => s (ix2 j r)) := by
  pointwise [k0_pay176]
  rw [negInf]
  rfl

theorem pay184_apply (mm : FVec Ideal S1x256 .f32) (s : FVec Ideal S256x256 .f32) (r : Fin 256) :
    k0_pay184 mm s (ix2 0 r) = Ideal.exp (mm (ix2 0 r) - k0_pay176 mm s (ix2 0 r)) := by
  pointwise [k0_pay184]

theorem pay192_apply (mm : FVec Ideal S1x256 .f32) (s : FVec Ideal S256x256 .f32) (j r : Fin 256) :
    k0_pay192 mm s (ix2 j r) = Ideal.exp (s (ix2 j r) - k0_pay176 mm s (ix2 0 r)) := by
  pointwise [k0_pay192]

theorem pay201_apply (l al : FVec Ideal S1x256 .f32) (p : FVec Ideal S256x256 .f32) (r : Fin 256) :
    k0_pay201 l al p (ix2 0 r) = al (ix2 0 r) * l (ix2 0 r) + ∑ j : Fin 256, p (ix2 j r) := by
  pointwise [k0_pay201]

theorem pay215_apply (a : FVec Ideal S128x256 .f32) (al : FVec Ideal S1x256 .f32) (p : FVec Ideal S256x256 .f32) (v : Vec Ideal S256x128 .bf16) (d : Fin 128) (r : Fin 256) :
    k0_pay215 a al p v (ix2 d r) = al (ix2 0 r) * a (ix2 d r) + ∑ j : Fin 256, v (ix2 j d) * p (ix2 j r) := by
  pointwise [k0_pay215]

theorem pay220_apply (l : FVec Ideal S1x256 .f32) (a : FVec Ideal S128x256 .f32) (d : Fin 128) (r : Fin 256) :
    k0_pay220 l a (ix2 r d) = Ideal.div (a (ix2 d r)) (l (ix2 0 r)) := by
  pointwise [k0_pay220]

theorem pay168_apply (c : IVec S256x256 1) (s : FVec Ideal S256x256 .f32) (j r : Fin 256) :
    k0_pay168 c s (ix2 j r) = if c (ix2 j r) = 1#1 then s (ix2 j r) else ⊥ := by
  pointwise [k0_pay168]
  rw [show Named.named (F := Ideal) (φ := FTy.f32) κ "neg" 4048155338#32 = ⊥ from rfl]
  rfl

theorem pay164_apply (q : FVec Ideal S256x256 .bf16) (xr xk : Vec Ideal S256x128 .bf16) (j r : Fin 256) :
    k0_pay164 q xr xk (ix2 j r) = ∑ d : Fin 128, xk (ix2 j d) * q (ix2 r (Fin.castAdd 128 d)) + ∑ d : Fin 128, xr (ix2 j d) * q (ix2 r (Fin.natAdd 128 d)) := by
  pointwise [k0_pay164]
  rfl

theorem kchunk : ∀ j : Fin 256, (Scalar.select
        (IntOp.andi
          (IntOp.cmpi CmpIPredicate.ne
            (IntOp.subi (BitVec.setWidth 32 (IntOp.cmpi CmpIPredicate.sgt (IntOp.addi (BitVec.ofNat 32 ↑j) 0#32) 0#32))
              (BitVec.setWidth 32 (IntOp.cmpi CmpIPredicate.slt (IntOp.addi (BitVec.ofNat 32 ↑j) 0#32) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (IntOp.addi (BitVec.ofNat 32 ↑j) 0#32) 64#32)
            0#32))
        (IntOp.subi (IntOp.divsi ArithUnit.vector (IntOp.addi (BitVec.ofNat 32 ↑j) 0#32) 64#32) 1#32)
        (IntOp.divsi ArithUnit.vector (IntOp.addi (BitVec.ofNat 32 ↑j) 0#32) 64#32)) = BitVec.ofNat 32 (j.val / 64) := by decide +kernel

theorem qchunk : ∀ j : Fin 256, (Scalar.select
        (IntOp.andi
          (IntOp.cmpi CmpIPredicate.ne
            (IntOp.subi (BitVec.setWidth 32 (IntOp.cmpi CmpIPredicate.sgt (BitVec.ofNat 32 ↑j) 0#32))
              (BitVec.setWidth 32 (IntOp.cmpi CmpIPredicate.slt (BitVec.ofNat 32 ↑j) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 ↑j) 64#32)
            0#32))
        (IntOp.subi (IntOp.divsi ArithUnit.vector (BitVec.ofNat 32 ↑j) 64#32) 1#32)
        (IntOp.divsi ArithUnit.vector (BitVec.ofNat 32 ↑j) 64#32)) = BitVec.ofNat 32 (j.val / 64) := by decide +kernel

theorem cmp_chunk : ∀ a b : Fin 4, IntOp.cmpi CmpIPredicate.sle (BitVec.ofNat 32 a.val) (BitVec.ofNat 32 b.val) = if a.val ≤ b.val then 1#1 else 0#1 := by decide +kernel

/-- The mask of a diagonal tile: the key's chunk is not after the query's. -/
theorem mask_apply (j r : Fin 256) : k0_pay163 k0_pay160 k0_pay161 k0_pay162 (ix2 j r) = if j.val / 64 ≤ r.val / 64 then 1#1 else 0#1 := by
  pointwise [k0_pay163, k0_pay160, k0_pay161, k0_pay162]
  rw [kchunk, qchunk]
  exact cmp_chunk ⟨j.val / 64, by omega⟩ ⟨r.val / 64, by omega⟩

/-- One step of the softmax state, for the query `r`. -/
theorem next_state (H : Head Ideal) (s : FVec Ideal S256x256 .f32) (v : Vec Ideal S256x128 .bf16) (r : Fin 256) (S : ℕ → EReal) (V : Fin 128 → ℕ → EReal) (n : ℕ)
    (hm : H.m (ix2 0 r) = Soft.M S n) (hl : H.l (ix2 0 r) = Soft.L S n) (ha : ∀ d, H.a (ix2 d r) = Soft.A S (V d) n)
    (hs : ∀ j : Fin 256, s (ix2 j r) = S (n + j.val)) (hv : ∀ (j : Fin 256) (d : Fin 128), v (ix2 j d) = V d (n + j.val)) :
    (H.next s v).m (ix2 0 r) = Soft.M S (n + 256) ∧ (H.next s v).l (ix2 0 r) = Soft.L S (n + 256) ∧ ∀ d, (H.next s v).a (ix2 d r) = Soft.A S (V d) (n + 256) := by
  have h1 : k0_pay176 H.m s (ix2 0 r) = Soft.M S (n + 256) := by
    rw [pay176_apply, hm, Soft.M_add]
    simp only [hs]
  refine ⟨h1, ?_, fun d => ?_⟩
  · show k0_pay201 H.l (k0_pay184 H.m s) (k0_pay192 H.m s) (ix2 0 r) = _
    rw [pay201_apply, pay184_apply, h1, hm, hl, ← Soft.L_add S n 256]
    simp only [pay192_apply, h1, hs]
  · show k0_pay215 H.a (k0_pay184 H.m s) (k0_pay192 H.m s) v (ix2 d r) = _
    rw [pay215_apply, pay184_apply, h1, hm, ha, ← Soft.A_add S (V d) n 256]
    simp only [pay192_apply, h1, hs, hv]

/-- The state after `n` whole tiles. -/
theorem headAt_state (q : FVec Ideal S256x256 .bf16) (xk : Vec Ideal S2048x2048 .bf16) (xr : Vec Ideal S2048x128 .bf16) (h N : ℕ) (r : Fin 256) (S : ℕ → EReal) (V : Fin 128 → ℕ → EReal)
    (hS : ∀ t < N, ∀ j : Fin 256, k0_pay164 q (tileAt (s0 := 2048) (s1 := 128) xr (256 * t) 0) (tileAt (s0 := 2048) (s1 := 2048) xk (256 * t) (256 * h)) (ix2 j r) = S (256 * t + j.val))
    (hV : ∀ t ≤ N, ∀ (j : Fin 256) (d : Fin 128), tileAt (s0 := 2048) (s1 := 2048) xk (256 * t) (256 * h + 128) (ix2 j d) = V d (256 * t + j.val)) :
    ∀ n ≤ N, (headAt q xk xr h n).m (ix2 0 r) = Soft.M S (256 * n) ∧ (headAt q xk xr h n).l (ix2 0 r) = Soft.L S (256 * n) ∧ ∀ d, (headAt q xk xr h n).a (ix2 d r) = Soft.A S (V d) (256 * n)
  | 0, _ => ⟨init_m _, init_l _, fun _ => init_a _⟩
  | n + 1, hn => by
    obtain ⟨hm, hl, ha⟩ := headAt_state q xk xr h N r S V hS hV n (by omega)
    exact next_state _ _ _ r S V (256 * n) hm hl ha (hS n (by omega)) (hV n (by omega))

/-- What a head writes at query `r` and lane `d`. -/
theorem headEnd_out (q : FVec Ideal S256x256 .bf16) (xk : Vec Ideal S2048x2048 .bf16) (xr : Vec Ideal S2048x128 .bf16) (h N : ℕ) (r : Fin 256) (d : Fin 128) (S : ℕ → EReal) (V : Fin 128 → ℕ → EReal)
    (hS : ∀ t < N, ∀ j : Fin 256, k0_pay164 q (tileAt (s0 := 2048) (s1 := 128) xr (256 * t) 0) (tileAt (s0 := 2048) (s1 := 2048) xk (256 * t) (256 * h)) (ix2 j r) = S (256 * t + j.val))
    (hD : ∀ j : Fin 256, (if j.val / 64 ≤ r.val / 64 then k0_pay164 q (tileAt (s0 := 2048) (s1 := 128) xr (256 * N) 0) (tileAt (s0 := 2048) (s1 := 2048) xk (256 * N) (256 * h)) (ix2 j r) else ⊥) = S (256 * N + j.val))
    (hV : ∀ t ≤ N, ∀ (j : Fin 256) (d : Fin 128), tileAt (s0 := 2048) (s1 := 2048) xk (256 * t) (256 * h + 128) (ix2 j d) = V d (256 * t + j.val)) :
    (headEnd q xk xr h N).out (ix2 r d) = Ideal.div (Soft.A S (V d) (256 * N + 256)) (Soft.L S (256 * N + 256)) := by
  obtain ⟨hm, hl, ha⟩ := headAt_state q xk xr h N r S V hS hV N le_rfl
  obtain ⟨-, hl, ha⟩ := next_state (headAt q xk xr h N)
    (k0_pay168 (k0_pay163 k0_pay160 k0_pay161 k0_pay162) (k0_pay164 q (tileAt (s0 := 2048) (s1 := 128) xr (256 * N) 0) (tileAt (s0 := 2048) (s1 := 2048) xk (256 * N) (256 * h))))
    (tileAt (s0 := 2048) (s1 := 2048) xk (256 * N) (256 * h + 128)) r S V (256 * N) hm hl ha (fun j => by
      rw [pay168_apply, mask_apply, ← hD]
      by_cases hc : j.val / 64 ≤ r.val / 64 <;> simp [hc]) (hV N le_rfl)
  show k0_pay220 _ _ (ix2 r d) = _
  rw [pay220_apply]
  exact congrArg₂ Ideal.div (ha d) hl

end Cert.KernelIdeal.Gen
-- ==== Proof.Attn.lean ====
module
public import proofs.«01_k».proof.Proof.Soft
public import Idealize.ShloMosaic.Lib.Pointwise
@[expose] public section
noncomputable section
/-!
  THE ATTENTION'S SCORES as real numbers, for real queries and keys: the nope part and the rotated rope part, scaled. The kernel's layout
  of a rotated half (128 lanes, one half of them zero, the halves swapped with a sign) has the same sum.
-/
namespace Attn
open Idealize.ShloMosaic

/-- A frequency of the rotation. -/
def inv (n : ℕ) : EReal :=
  Ideal.pow (Ideal.ofBits FTy.f32 1176256512#32) (Ideal.div (-FloatOps.sitofp (F := Ideal) FTy.f32 (BitVec.ofNat 32 n)) (Ideal.ofBits FTy.f32 1107296256#32))

/-- The angle of a position at a frequency. -/
def ang (p : BitVec 32) (n : ℕ) : EReal := FloatOps.sitofp (F := Ideal) FTy.f32 p * inv n

theorem inv_real (n : ℕ) : ∃ a : ℝ, inv n = a := by
  have h1 : Ideal.ofBits FTy.f32 1176256512#32 = ((10000 : ℝ) : EReal) := by
    simp [Ideal.ofBits, Ideal.ieee, -EReal.coe_mul]; norm_num
  have h2 : Ideal.ofBits FTy.f32 1107296256#32 = ((32 : ℝ) : EReal) := by
    simp [Ideal.ofBits, Ideal.ieee, -EReal.coe_mul]; norm_num
  have h3 : ∃ b : ℝ, FloatOps.sitofp (F := Ideal) FTy.f32 (BitVec.ofNat 32 n) = (b : EReal) := ⟨_, rfl⟩
  obtain ⟨b, hb⟩ := h3
  have h4 : Ideal.div (-(b : EReal)) ((32 : ℝ) : EReal) = ((-b * (32 : ℝ)⁻¹ : ℝ) : EReal) := by
    have h0 : ((32 : ℝ) : EReal) ≠ 0 := by norm_num
    simp only [Ideal.div, h0, if_false]
    rw [← EReal.coe_neg, ← EReal.coe_inv, ← EReal.coe_mul]
  refine ⟨Real.rpow 10000 (-b * (32 : ℝ)⁻¹), ?_⟩
  unfold inv
  rw [h1, h2, hb, h4]
  rfl

theorem ang_real (p : BitVec 32) (n : ℕ) : ang p n = ((ang p n).toReal : EReal) := by
  obtain ⟨a, ha⟩ := inv_real n
  obtain ⟨b, hb⟩ : ∃ b : ℝ, FloatOps.sitofp (F := Ideal) FTy.f32 p = (b : EReal) := ⟨_, rfl⟩
  unfold ang
  rw [ha, hb, ← EReal.coe_mul, EReal.toReal_coe]

def sc : ℝ := (Ideal.ofBits FTy.f32 1033096506#32).toReal
theorem sc_eq : Ideal.ofBits FTy.f32 1033096506#32 = (sc : EReal) :=
  (EReal.coe_toReal (by simp [Ideal.ofBits, Ideal.ieee, -EReal.coe_mul]) (by simp [Ideal.ofBits, Ideal.ieee, -EReal.coe_mul])).symm

variable {s1 : ℕ} [NeZero s1]
/-- A real array's element. -/
def X (x : (⟨2, ![32768, s1]⟩ : Shape).Idx → EReal) (r : Fin 32768) (n : ℕ) : ℝ := (x (ix2 r (Fin.ofNat s1 n))).toReal

theorem X_eq (x : (⟨2, ![32768, s1]⟩ : Shape).Idx → EReal) (hx : ∀ i, x i ≠ ⊤ ∧ x i ≠ ⊥) (r : Fin 32768) (n : ℕ) (h : n < s1) : x (ix2 r ⟨n, h⟩) = (X x r n : EReal) := by
  have e : (⟨n, h⟩ : Fin s1) = Fin.ofNat s1 n := Fin.ext (Nat.mod_eq_of_lt h).symm
  rw [e]
  exact (EReal.coe_toReal (hx _).1 (hx _).2).symm

/-- The position of a row. -/
def pos (x3 : (⟨2, ![16, 2048]⟩ : Shape).Idx → BitVec 32) (r : Fin 32768) : BitVec 32 := x3 (ix2 ⟨r.val / 2048, by omega⟩ ⟨r.val % 2048, by omega⟩)
def C (x3 : (⟨2, ![16, 2048]⟩ : Shape).Idx → BitVec 32) (r : Fin 32768) (n : ℕ) : ℝ := Real.cos (ang (pos x3 r) n).toReal
def S (x3 : (⟨2, ![16, 2048]⟩ : Shape).Idx → BitVec 32) (r : Fin 32768) (n : ℕ) : ℝ := Real.sin (ang (pos x3 r) n).toReal

theorem C_eq (x3 : (⟨2, ![16, 2048]⟩ : Shape).Idx → BitVec 32) (r : Fin 32768) (n : ℕ) : Ideal.cos (ang (pos x3 r) n) = (C x3 r n : EReal) := by
  rw [ang_real]; rfl
theorem S_eq (x3 : (⟨2, ![16, 2048]⟩ : Shape).Idx → BitVec 32) (r : Fin 32768) (n : ℕ) : Ideal.sin (ang (pos x3 r) n) = (S x3 r n : EReal) := by
  rw [ang_real]; rfl

/-- The rotation of 64 lanes by halves. -/
def rope (x C S : ℕ → ℝ) (e : ℕ) : ℝ := if e < 32 then x e * C e - x (32 + e) * S e else x (e - 32) * S (e - 32) + x e * C (e - 32)

/-- The rotation of a lane among 128, as the value times the cosine and the swapped value times the signed sine. -/
def ropeK (x C S : ℕ → ℝ) (e : ℕ) : ℝ := x (e % 64) * C (e % 32) + x ((e + 32) % 64) * (S (e % 32) * if e % 64 < 32 then -1 else 1)

theorem ropeK_eq (x C S : ℕ → ℝ) (e : ℕ) : ropeK x C S e = rope x C S (e % 64) := by
  unfold ropeK rope
  by_cases h : e % 64 < 32
  · rw [if_pos h, if_pos h, show e % 32 = e % 64 by omega, show (e + 32) % 64 = 32 + e % 64 by omega]; ring
  · rw [if_neg h, if_neg h, show e % 32 = e % 64 - 32 by omega, show (e + 32) % 64 = e % 64 - 32 by omega]; ring

/-- A sum over 128 lanes of which only the half `p` counts. -/
theorem half_sum (f : ℕ → ℝ) (p : ℕ) (hp : p < 2) : (∑ d : Fin 128, if d.val / 64 = p then f (d.val % 64) else 0) = ∑ e : Fin 64, f e.val := by
  rw [Fin.sum_univ_add (a := 64) (b := 64) (f := fun d : Fin 128 => if d.val / 64 = p then f (d.val % 64) else 0)]
  have h1 : ∀ e : Fin 64, (Fin.castAdd 64 e).val / 64 = 0 := fun e => by simp only [Fin.val_castAdd]; omega
  have h2 : ∀ e : Fin 64, (Fin.natAdd 64 e).val / 64 = 1 := fun e => by simp only [Fin.val_natAdd]; omega
  have h3 : ∀ e : Fin 64, (Fin.castAdd 64 e).val % 64 = e.val := fun e => by simp only [Fin.val_castAdd]; omega
  have h4 : ∀ e : Fin 64, (Fin.natAdd 64 e).val % 64 = e.val := fun e => by simp only [Fin.val_natAdd]; omega
  simp only [h1, h2, h3, h4]
  interval_cases p <;> simp

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

variable (x0 : (⟨2, ![32768, 1536]⟩ : Shape).Idx → EReal) (x1 : (⟨2, ![32768, 2048]⟩ : Shape).Idx → EReal) (x2 : (⟨2, ![32768, 64]⟩ : Shape).Idx → EReal) (x3 : (⟨2, ![16, 2048]⟩ : Shape).Idx → BitVec 32)

/-- A rotated query lane and a rotated key lane. -/
def qR (r : Fin 32768) (h e : ℕ) : ℝ := rope (fun e => X x0 r (h * 192 + (128 + e))) (C x3 r) (S x3 r) e
def kR (r : Fin 32768) (e : ℕ) : ℝ := rope (fun e => X x2 r e) (C x3 r) (S x3 r) e

/-- The scaled score of query row `r` and key row `k` in head `h`. -/
def score (r : Fin 32768) (h : ℕ) (k : Fin 32768) : ℝ :=
  ((∑ d : Fin 128, X x0 r (h * 192 + d.val) * X x1 k (h * 256 + d.val)) + ∑ e : Fin 64, kR x2 x3 k e.val * qR x0 x3 r h e.val) * sc

/-- The same score, scaled at the query and summed over 128 lanes of rotated keys. -/
theorem score_eq (r : Fin 32768) (h : ℕ) (k : Fin 32768) :
    (∑ d : Fin 128, X x1 k (h * 256 + d.val) * (X x0 r (h * 192 + d.val) * sc))
      + (∑ d : Fin 128, ropeK (fun e => X x2 k e) (C x3 k) (S x3 k) d.val * if d.val / 64 = h % 2 then ropeK (fun e => X x0 r (h * 192 + (128 + e))) (C x3 r) (S x3 r) d.val * sc else 0)
      = score x0 x1 x2 x3 r h k := by
  unfold score
  rw [← half_sum (fun e => kR x2 x3 k e * qR x0 x3 r h e) (h % 2) (by omega), add_mul, Finset.sum_mul, Finset.sum_mul]
  congr 1
  · exact Finset.sum_congr rfl fun d _ => by ring
  · refine Finset.sum_congr rfl fun d _ => ?_
    rw [ropeK_eq, ropeK_eq]
    unfold kR qR
    split <;> ring

/-- The score of a query row's `k`-th key in its batch, `-∞` where the key's chunk comes after the query's. -/
def masked (r : Fin 32768) (h k : ℕ) : EReal :=
  if k / 64 ≤ r.val % 2048 / 64 then (score x0 x1 x2 x3 r h (Fin.ofNat 32768 (r.val / 2048 * 2048 + k)) : EReal) else ⊥

/-- A value lane of a row's `k`-th key in its batch. -/
def value (r : Fin 32768) (l k : ℕ) : EReal := x1 (ix2 (Fin.ofNat 32768 (r.val / 2048 * 2048 + k)) (Fin.ofNat 2048 (l / 128 * 256 + (128 + l % 128))))

/-- The attention's result at row `r` and column `l`. -/
def out (r : Fin 32768) (l : ℕ) : EReal :=
  ∑ k ∈ Finset.range 2048, Ideal.div (Ideal.exp (masked x0 x1 x2 x3 r (l / 128) k - Soft.M (masked x0 x1 x2 x3 r (l / 128)) 2048)) (Soft.L (masked x0 x1 x2 x3 r (l / 128)) 2048) * value x1 r l k

end Attn
-- ==== Proof.Host.lean ====
module

public import proofs.«01_k».proof.Proof.Gen.KernelIdeal.Frame
public import proofs.«01_k».proof.Proof.Attn
public import Idealize.ShloMosaic.Lib.Claim
public import Idealize.ShloMosaic.Lib.Pipeline.ValueKit
public import proofs.«01_k».proof.Proof.Attn

@[expose] public section

set_option maxRecDepth 16384

noncomputable section

open Idealize.ShloMosaic Idealize.ShloMosaic.TcCoe Idealize.SL.Sem

/-!
  THE KERNEL'S HOST OPERANDS in exact arithmetic, element by element.
-/

namespace Cert.KernelIdeal.Gen
variable (m : (ℓ : Loc nD τ sig) → Buf (Elt Ideal) ℓ) (c : Dev nD)

/-- The arguments as arrays of extended reals. -/
abbrev arg0 : (⟨2, ![32768, 1536]⟩ : Shape).Idx → EReal := m ((c.tc : Thread nD τ).loc main_arg0)
abbrev arg1 : (⟨2, ![32768, 2048]⟩ : Shape).Idx → EReal := m ((c.tc : Thread nD τ).loc main_arg1)
abbrev arg2 : (⟨2, ![32768, 64]⟩ : Shape).Idx → EReal := m ((c.tc : Thread nD τ).loc main_arg2)
abbrev arg3 : (⟨2, ![16, 2048]⟩ : Shape).Idx → BitVec 32 := m ((c.tc : Thread nD τ).loc main_arg3)

set_option maxHeartbeats 4000000 in
theorem v11_eq : (V m c main_v11 : FVec Ideal S32768x2048 .f32) = concatenate S32768x2048 1 [⟨S32768x1024, (V m c main_v8 : FVec Ideal S32768x1024 .f32)⟩, ⟨S32768x512, (V m c main_v9 : FVec Ideal S32768x512 .f32)⟩, ⟨S32768x512, (V m c main_v10 : FVec Ideal S32768x512 .f32)⟩] concatenates_S32768x1024_S32768x512_S32768x512_S32768x2048_d1 := rfl

set_option maxHeartbeats 4000000 in
theorem v17_eq : (V m c main_v17 : FVec Ideal S32768x8448 .f32) = concatenate S32768x8448 1 [⟨S32768x8192, (V m c main_v16 : FVec Ideal S32768x8192 .f32)⟩, ⟨S32768x64, (m ((c.tc : Thread nD τ).loc main_arg2) : FVec Ideal S32768x64 .f32)⟩, ⟨S32768x64, (m ((c.tc : Thread nD τ).loc main_arg2) : FVec Ideal S32768x64 .f32)⟩, ⟨S32768x64, (V m c main_v15 : FVec Ideal S32768x64 .f32)⟩, ⟨S32768x64, (V m c main_v15 : FVec Ideal S32768x64 .f32)⟩] concatenates_S32768x8192_S32768x64_S32768x64_S32768x64_S32768x64_S32768x8448_d1 := rfl

theorem v12_apply (r : Fin 32768) (l : Fin 2048) : (V m c main_v12 : FVec Ideal S32768x2048 .bf16) (ix2 r l) = (if h : l.val < 1024 then (V m c main_v8 : FVec Ideal S32768x1024 .f32) (ix2 r ⟨l.val, h⟩)
    else if h2 : l.val < 1536 then (V m c main_v9 : FVec Ideal S32768x512 .f32) (ix2 r ⟨l.val - 1024, by omega⟩) else (V m c main_v10 : FVec Ideal S32768x512 .f32) (ix2 r ⟨l.val - 1536, by omega⟩) : EReal) := by
  show (V m c main_v11 : FVec Ideal S32768x2048 .f32) (ix2 r l) = _
  rw [v11_eq]
  generalize (V m c main_v8 : FVec Ideal S32768x1024 .f32) = a
  generalize (V m c main_v9 : FVec Ideal S32768x512 .f32) = b
  generalize (V m c main_v10 : FVec Ideal S32768x512 .f32) = d
  pointwise
  by_cases h1 : l.val < 1024
  · rw [dif_pos h1, dif_pos h1]
  · rw [dif_neg h1, dif_neg h1]
    by_cases h2 : l.val < 1536
    · rw [dif_pos (by omega), dif_pos h2]
    · rw [dif_neg (by omega), dif_neg h2]
      simp only [Nat.sub_sub]
theorem v18_apply (r : Fin 32768) (l : Fin 8448) (h : 8192 ≤ l.val) : (V m c main_v18 : FVec Ideal S32768x8448 .bf16) (ix2 r l) = (if l.val < 8320 then (m ((c.tc : Thread nD τ).loc main_arg2) : FVec Ideal S32768x64 .f32) (ix2 r ⟨l.val % 64, by omega⟩)
    else (V m c main_v15 : FVec Ideal S32768x64 .f32) (ix2 r ⟨l.val % 64, by omega⟩) : EReal) := by
  show (V m c main_v17 : FVec Ideal S32768x8448 .f32) (ix2 r l) = _
  rw [v17_eq]
  generalize (V m c main_v16 : FVec Ideal S32768x8192 .f32) = a
  generalize (V m c main_v15 : FVec Ideal S32768x64 .f32) = b
  generalize (m ((c.tc : Thread nD τ).loc main_arg2) : FVec Ideal S32768x64 .f32) = d
  pointwise
  by_cases h1 : l.val < 8320
  · rw [dif_neg (by omega), if_pos h1]
    by_cases h2 : l.val - 8192 < 64
    · rw [dif_pos h2]; simp only [show l.val - 8192 = l.val % 64 by omega]
    · rw [dif_neg h2, dif_pos (by omega)]; simp only [show l.val - 8192 - 64 = l.val % 64 by omega]
  · rw [dif_neg (by omega), if_neg h1, dif_neg (by omega), dif_neg (by omega)]
    by_cases h2 : l.val - 8192 - 64 - 64 < 64
    · rw [dif_pos h2]; simp only [show l.val - 8192 - 64 - 64 = l.val % 64 by omega]
    · rw [dif_neg h2]; simp only [show l.val - 8192 - 64 - 64 - 64 = l.val % 64 by omega]

theorem v46_apply (r : Fin 32768) (l : Fin 2048) : (V m c main_v46 : FVec Ideal S32768x2048 .bf16) (ix2 r l) = (arg1 m c (ix2 r l) : EReal) := by
  entry_read
  pointwise

theorem v41_apply (r : Fin 32768) (l : Fin 128) : (V m c main_v41 : FVec Ideal S32768x128 .f32) (ix2 r l) = Ideal.cos (Attn.ang (Attn.pos (arg3 m c) r) (l.val % 32)) := by
  entry_read
  pointwise
  rfl

theorem v45_apply (r : Fin 32768) (l : Fin 128) : (V m c main_v45 : FVec Ideal S32768x128 .f32) (ix2 r l) = (Ideal.sin (Attn.ang (Attn.pos (arg3 m c) r) (l.val % 32)) * (if l.val % 64 < 32 then -1 else 1) : EReal) := by
  entry_read
  pointwise
  rfl

theorem v8_apply (r : Fin 32768) (l : Fin 1024) : (V m c main_v8 : FVec Ideal S32768x1024 .f32) (ix2 r l) = (arg0 m c (ix2 r ⟨l.val / 128 * 192 + l.val % 128, by omega⟩) * Ideal.ofBits FTy.f32 1033096506#32 : EReal) := by
  entry_read
  pointwise

theorem v9_apply (r : Fin 32768) (l : Fin 512) : (V m c main_v9 : FVec Ideal S32768x512 .f32) (ix2 r l) = (arg0 m c (ix2 r ⟨l.val / 64 * 192 + (128 + l.val % 64), by omega⟩) * Ideal.ofBits FTy.f32 1033096506#32 : EReal) := by
  entry_read
  pointwise

theorem v10_apply (r : Fin 32768) (l : Fin 512) : (V m c main_v10 : FVec Ideal S32768x512 .f32) (ix2 r l) = (arg0 m c (ix2 r ⟨l.val / 64 * 192 + (128 + (l.val + 32) % 64), by omega⟩) * Ideal.ofBits FTy.f32 1033096506#32 : EReal) := by
  entry_read
  pointwise
  by_cases h : l.val % 64 < 32
  · rw [dif_pos h]
    simp only [show (l.val + 32) % 64 = 32 + l.val % 64 by omega]
  · rw [dif_neg h]
    simp only [show (l.val + 32) % 64 = l.val % 64 - 32 by omega]

theorem v15_apply (r : Fin 32768) (l : Fin 64) : (V m c main_v15 : FVec Ideal S32768x64 .f32) (ix2 r l) = (arg2 m c (ix2 r ⟨(l.val + 32) % 64, by omega⟩) : EReal) := by
  entry_read
  pointwise
  by_cases h : l.val < 32
  · rw [dif_pos h]
    simp only [show (l.val + 32) % 64 = 32 + l.val by omega]
  · rw [dif_neg h]
    simp only [show (l.val + 32) % 64 = l.val - 32 by omega]

theorem v12_nope (r : Fin 32768) (l : ℕ) (h : l < 1024) : (V m c main_v12 : FVec Ideal S32768x2048 .bf16) (ix2 r (Fin.ofNat 2048 l)) = (arg0 m c (ix2 r ⟨l / 128 * 192 + l % 128, by omega⟩) * Ideal.ofBits FTy.f32 1033096506#32 : EReal) := by
  have e : (Fin.ofNat 2048 l) = ⟨l, by omega⟩ := Fin.ext (Nat.mod_eq_of_lt (by omega))
  rw [e, v12_apply, dif_pos h, v8_apply]

theorem v12_rope (r : Fin 32768) (l : ℕ) (h : l < 512) : (V m c main_v12 : FVec Ideal S32768x2048 .bf16) (ix2 r (Fin.ofNat 2048 (1024 + l))) = (arg0 m c (ix2 r ⟨l / 64 * 192 + (128 + l % 64), by omega⟩) * Ideal.ofBits FTy.f32 1033096506#32 : EReal) := by
  have e : (Fin.ofNat 2048 (1024 + l)) = ⟨1024 + l, by omega⟩ := Fin.ext (Nat.mod_eq_of_lt (by omega))
  rw [e, v12_apply, dif_neg (by show ¬ 1024 + l < 1024; omega), dif_pos (by show 1024 + l < 1536; omega), v9_apply]
  simp only [Nat.add_sub_cancel_left]

theorem v12_swap (r : Fin 32768) (l : ℕ) (h : l < 512) : (V m c main_v12 : FVec Ideal S32768x2048 .bf16) (ix2 r (Fin.ofNat 2048 (1536 + l))) = (arg0 m c (ix2 r ⟨l / 64 * 192 + (128 + (l + 32) % 64), by omega⟩) * Ideal.ofBits FTy.f32 1033096506#32 : EReal) := by
  have e : (Fin.ofNat 2048 (1536 + l)) = ⟨1536 + l, by omega⟩ := Fin.ext (Nat.mod_eq_of_lt (by omega))
  rw [e, v12_apply, dif_neg (by show ¬ 1536 + l < 1024; omega), dif_neg (by show ¬ 1536 + l < 1536; omega), v10_apply]
  simp only [Nat.add_sub_cancel_left]

theorem v18_k (r : Fin 32768) (l : ℕ) (h : l < 128) : (V m c main_v18 : FVec Ideal S32768x8448 .bf16) (ix2 r (Fin.ofNat 8448 (8192 + l))) = (arg2 m c (ix2 r ⟨l % 64, by omega⟩) : EReal) := by
  have e : (Fin.ofNat 8448 (8192 + l)) = ⟨8192 + l, by omega⟩ := Fin.ext (Nat.mod_eq_of_lt (by omega))
  rw [e, v18_apply m c r _ (by show 8192 ≤ 8192 + l; omega), if_pos (by show 8192 + l < 8320; omega)]
  simp only [show (8192 + l) % 64 = l % 64 by omega]

theorem v18_s (r : Fin 32768) (l : ℕ) (h : l < 128) : (V m c main_v18 : FVec Ideal S32768x8448 .bf16) (ix2 r (Fin.ofNat 8448 (8320 + l))) = (arg2 m c (ix2 r ⟨(l + 32) % 64, by omega⟩) : EReal) := by
  have e : (Fin.ofNat 8448 (8320 + l)) = ⟨8320 + l, by omega⟩ := Fin.ext (Nat.mod_eq_of_lt (by omega))
  rw [e, v18_apply m c r _ (by show 8192 ≤ 8320 + l; omega), if_neg (by show ¬ 8320 + l < 8320; omega), v15_apply]
  simp only [show ((8320 + l) % 64 + 32) % 64 = (l + 32) % 64 by omega]

end Cert.KernelIdeal.Gen
-- ==== Proof.KScore.lean ====
module

public import proofs.«01_k».proof.Proof.Next
public import proofs.«01_k».proof.Proof.Host
public import Idealize.ShloMosaic.Lib.Pointwise
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-!
  THE SCORES A GRID POINT TAKES, as the attention's scores.
-/

namespace Cert.KernelIdeal.Gen

theorem pay109_apply (v3 v5 : Vec Ideal S256x128 .f32) (v7 v11 : Vec Ideal S256x128 .bf16) (r : Fin 256) (d : Fin 128) :
    k0_pay109 v3 v5 v7 v11 (ix2 r d) = (v7 (ix2 r d) * v3 (ix2 r d) + v11 (ix2 r d) * v5 (ix2 r d) : EReal) := by
  pointwise [k0_pay109, k0_pay107, k0_pay108]

theorem pay106_apply (v442 : Vec Ideal S2048x128 .bf16) (v445 : Vec Ideal S2048x128 .f32) (v448 : Vec Ideal S2048x128 .bf16) (v451 : Vec Ideal S2048x128 .f32) (r : Fin 2048) (d : Fin 128) :
    k0_pay106 v442 v445 v448 v451 (ix2 r d) = (v442 (ix2 r d) * v445 (ix2 r d) + v448 (ix2 r d) * v451 (ix2 r d) : EReal) := by
  pointwise [k0_pay106]

theorem pay116_lo (a : FVec Ideal S256x128 .f32) (b : Vec Ideal S256x128 .bf16) (r : Fin 256) (d : Fin 128) : k0_pay116 a b (ix2 r (Fin.castAdd 128 d)) = b (ix2 r d) := by
  pointwise [k0_pay116]
  exact dif_pos d.isLt
theorem pay117_lo (a : FVec Ideal S256x128 .f32) (b : Vec Ideal S256x128 .bf16) (r : Fin 256) (d : Fin 128) : k0_pay117 a b (ix2 r (Fin.castAdd 128 d)) = b (ix2 r d) := by
  pointwise [k0_pay117]
  exact dif_pos d.isLt

theorem lane_lt : ∀ d : Fin 128, IntOp.cmpi CmpIPredicate.slt (BitVec.ofNat 32 d.val) 64#32 = if d.val / 64 = 0 then 1#1 else 0#1 := by decide +kernel
theorem lane_ge : ∀ d : Fin 128, IntOp.cmpi CmpIPredicate.sge (BitVec.ofNat 32 d.val) 64#32 = if d.val / 64 = 1 then 1#1 else 0#1 := by decide +kernel

theorem pay116_hi (a : FVec Ideal S256x128 .f32) (b : Vec Ideal S256x128 .bf16) (r : Fin 256) (d : Fin 128) : k0_pay116 a b (ix2 r (Fin.natAdd 128 d)) = (if d.val / 64 = 0 then a (ix2 r d) else 0 : EReal) := by
  pointwise [k0_pay116, k0_pay114]
  have hn : ¬ (Fin.natAdd 128 d).val < 128 := by simp
  rw [dif_neg hn]
  have hv : (Fin.natAdd 128 d).val - 128 = d.val := by simp
  simp only [hv, lane_lt]
  split_ifs <;> rfl
theorem pay117_hi (a : FVec Ideal S256x128 .f32) (b : Vec Ideal S256x128 .bf16) (r : Fin 256) (d : Fin 128) : k0_pay117 a b (ix2 r (Fin.natAdd 128 d)) = (if d.val / 64 = 1 then a (ix2 r d) else 0 : EReal) := by
  pointwise [k0_pay117, k0_pay115]
  have hn : ¬ (Fin.natAdd 128 d).val < 128 := by simp
  rw [dif_neg hn]
  have hv : (Fin.natAdd 128 d).val - 128 = d.val := by simp
  simp only [hv, lane_ge]
  split_ifs <;> rfl

variable (m : (ℓ : Loc nD τ sig) → Buf (Elt Ideal) ℓ) (c : Dev nD)

/-- Row `r` of the query block at grid point `t`, and row `k` of its batch. -/
def qrow (t : Fin cfg0.N) (r : Fin 256) : Fin 32768 := Fin.ofNat 32768 (256 * t.val + r.val)
def krow (t : Fin cfg0.N) (k : ℕ) : Fin 32768 := Fin.ofNat 32768 (2048 * (t.val / 8) + k)

theorem tile_apply {s0 s1 : ℕ} [NeZero s0] [NeZero s1] {e : EltTy} (x : Vec Ideal ⟨2, ![s0, s1]⟩ e) (a b : ℕ) (i : Fin 256) (j : Fin 128) :
    tileAt (s0 := s0) (s1 := s1) x a b (ix2 i j) = x (ValueIdx.ix2 (Fin.ofNat s0 (a + i.val)) (Fin.ofNat s1 (b + j.val))) := rfl

theorem ofNat_lt {n k : ℕ} [NeZero n] (h : k < n) : (Fin.ofNat n k).val = k := Nat.mod_eq_of_lt h

theorem k_apply (t : Fin cfg0.N) (a b : ℕ) (ha : a + 256 ≤ 2048) (hb : b + 128 ≤ 2048) (j : Fin 256) (d : Fin 128) :
    tileAt (s0 := 2048) (s1 := 2048) (iblk m c 5 t) a b (ix2 j d) = arg1 m c (ix2 (krow t (a + j.val)) ⟨b + d.val, by omega⟩) := by
  rw [tile_apply, blk5, ← ix2_eq_valueIdx]
  refine (v46_apply m c _ _).trans ?_
  unfold krow
  congr 1
  congr 1
  · rw [ofNat_lt (by omega)]
  · rw [ofNat_lt (by omega)]
    exact Fin.ext (by show (0 + (b + d.val)) % 2048 = b + d.val; omega)

theorem kr_apply (hx2 : ∀ i, arg2 m c i ≠ ⊤ ∧ arg2 m c i ≠ ⊥) (t : Fin cfg0.N) (a : ℕ) (ha : a + 256 ≤ 2048) (j : Fin 256) (d : Fin 128) :
    tileAt (s0 := 2048) (s1 := 128) (krot (iblk m c 6 t) (iblk m c 7 t) (iblk m c 8 t) (iblk m c 9 t)) a 0 (ix2 j d)
      = (Attn.ropeK (fun e => Attn.X (arg2 m c) (krow t (a + j.val)) e) (Attn.C (arg3 m c) (krow t (a + j.val))) (Attn.S (arg3 m c) (krow t (a + j.val))) d.val : EReal) := by
  have hj : (Fin.ofNat 2048 (a + j.val)).val = a + j.val := ofNat_lt (by omega)
  have hd : (Fin.ofNat 128 (0 + d.val)).val = d.val := by rw [ofNat_lt (by omega)]; omega
  rw [tile_apply, ← ix2_eq_valueIdx]
  unfold krot
  rw [pay106_apply]
  simp only [ix2_eq_valueIdx, blk6, blk7, blk8, blk9]
  simp only [← ix2_eq_valueIdx, hj, hd]
  rw [v18_k m c _ _ d.isLt, v18_s m c _ _ d.isLt]
  have e0 : (Fin.ofNat 128 (0 + d.val)) = d := Fin.ext hd
  rw [e0, v41_apply, v45_apply]
  have e1 : (Fin.ofNat 32768 (2048 * (t.val / 8) + (a + j.val))) = krow t (a + j.val) := rfl
  rw [e1, Attn.X_eq _ hx2, Attn.X_eq _ hx2, Attn.C_eq, Attn.S_eq]
  unfold Attn.ropeK
  by_cases h : d.val % 64 < 32
  · rw [if_pos h, if_pos h]; push_cast; rfl
  · rw [if_neg h, if_neg h]; push_cast; rfl

theorem rot_apply (hx0 : ∀ i, arg0 m c i ≠ ⊤ ∧ arg0 m c i ≠ ⊥) (t : Fin cfg0.N) (h : Fin 8) (r : Fin 256) (d : Fin 128) (hd : d.val / 64 = h.val % 2) :
    k0_pay109 (tileAt (s0 := 256) (s1 := 128) (iblk m c 3 t) 0 0) (tileAt (s0 := 256) (s1 := 128) (iblk m c 4 t) 0 0) (tileAt (s0 := 256) (s1 := 512) (iblk m c 1 t) 0 (128 * (h.val / 2))) (tileAt (s0 := 256) (s1 := 512) (iblk m c 2 t) 0 (128 * (h.val / 2))) (ix2 r d)
      = (Attn.ropeK (fun e => Attn.X (arg0 m c) (qrow t r) (h.val * 192 + (128 + e))) (Attn.C (arg3 m c) (qrow t r)) (Attn.S (arg3 m c) (qrow t r)) d.val * Attn.sc : ℝ) := by
  have hj : (Fin.ofNat 256 (0 + r.val)).val = r.val := by rw [ofNat_lt (by omega)]; omega
  have hl : (Fin.ofNat 128 (0 + d.val)).val = d.val := by rw [ofNat_lt (by omega)]; omega
  have hc : (Fin.ofNat 512 (128 * (h.val / 2) + d.val)).val = 128 * (h.val / 2) + d.val := ofNat_lt (by omega)
  rw [pay109_apply, tile_apply, tile_apply, tile_apply, tile_apply, blk1, blk2, blk3, blk4]
  simp only [← ix2_eq_valueIdx, hj, hl, hc]
  have e0 : (Fin.ofNat 128 (0 + d.val)) = d := Fin.ext hl
  have e1 : (Fin.ofNat 32768 (256 * t.val + r.val)) = qrow t r := rfl
  rw [v12_rope m c _ _ (by omega), v12_swap m c _ _ (by omega), e0, e1, v41_apply, v45_apply]
  simp only [show (128 * (h.val / 2) + d.val) / 64 = h.val by omega, show (128 * (h.val / 2) + d.val) % 64 = d.val % 64 by omega, show (128 * (h.val / 2) + d.val + 32) % 64 = (d.val + 32) % 64 by omega]
  rw [Attn.X_eq _ hx0, Attn.X_eq _ hx0, Attn.C_eq, Attn.S_eq, Attn.sc_eq]
  unfold Attn.ropeK
  by_cases h : d.val % 64 < 32
  · rw [if_pos h, if_pos h, show (-1 : EReal) = ((-1 : ℝ) : EReal) from rfl]
    simp only [← EReal.coe_mul, ← EReal.coe_add]
    congr 1; ring
  · rw [if_neg h, if_neg h, show (1 : EReal) = ((1 : ℝ) : EReal) from rfl]
    simp only [← EReal.coe_mul, ← EReal.coe_add]
    congr 1; ring

theorem q_lo (hx0 : ∀ i, arg0 m c i ≠ ⊤ ∧ arg0 m c i ≠ ⊥) (t : Fin cfg0.N) (h : Fin 8) (r : Fin 256) (d : Fin 128) :
    qOf (iblk m c 0 t) (iblk m c 1 t) (iblk m c 2 t) (iblk m c 3 t) (iblk m c 4 t) h (ix2 r (Fin.castAdd 128 d)) = (Attn.X (arg0 m c) (qrow t r) (h.val * 192 + d.val) * Attn.sc : ℝ) := by
  have e : qOf (iblk m c 0 t) (iblk m c 1 t) (iblk m c 2 t) (iblk m c 3 t) (iblk m c 4 t) h (ix2 r (Fin.castAdd 128 d)) = tileAt (s0 := 256) (s1 := 1024) (iblk m c 0 t) 0 (128 * h.val) (ix2 r d) := by
    unfold qOf
    by_cases hh : h.val % 2 = 0
    · rw [if_pos hh, pay116_lo]
    · rw [if_neg hh, pay117_lo]
  have hj : (Fin.ofNat 256 (0 + r.val)).val = r.val := by rw [ofNat_lt (by omega)]; omega
  have hc : (Fin.ofNat 1024 (128 * h.val + d.val)).val = 128 * h.val + d.val := ofNat_lt (by omega)
  have e1 : (Fin.ofNat 32768 (256 * t.val + r.val)) = qrow t r := rfl
  rw [e, tile_apply, blk0]
  simp only [← ix2_eq_valueIdx, hj, hc, e1]
  simp only [Nat.zero_add]
  rw [v12_nope m c _ _ (by omega)]
  simp only [show (128 * h.val + d.val) / 128 = h.val by omega, show (128 * h.val + d.val) % 128 = d.val by omega]
  rw [Attn.X_eq _ hx0, Attn.sc_eq, EReal.coe_mul]

theorem q_hi (hx0 : ∀ i, arg0 m c i ≠ ⊤ ∧ arg0 m c i ≠ ⊥) (t : Fin cfg0.N) (h : Fin 8) (r : Fin 256) (d : Fin 128) :
    qOf (iblk m c 0 t) (iblk m c 1 t) (iblk m c 2 t) (iblk m c 3 t) (iblk m c 4 t) h (ix2 r (Fin.natAdd 128 d))
      = ((if d.val / 64 = h.val % 2 then Attn.ropeK (fun e => Attn.X (arg0 m c) (qrow t r) (h.val * 192 + (128 + e))) (Attn.C (arg3 m c) (qrow t r)) (Attn.S (arg3 m c) (qrow t r)) d.val * Attn.sc else 0 : ℝ) : EReal) := by
  unfold qOf
  by_cases hh : h.val % 2 = 0
  · rw [if_pos hh, pay116_hi]
    by_cases hd : d.val / 64 = 0
    · rw [if_pos hd, rot_apply m c hx0 t h r d (by omega), if_pos (by omega)]
    · rw [if_neg hd, if_neg (by omega)]; rfl
  · rw [if_neg hh, pay117_hi]
    by_cases hd : d.val / 64 = 1
    · rw [if_pos hd, rot_apply m c hx0 t h r d (by omega), if_pos (by omega)]
    · rw [if_neg hd, if_neg (by omega)]; rfl

/-- The scores of one key tile are the attention's. -/
theorem score_apply (hx0 : ∀ i, arg0 m c i ≠ ⊤ ∧ arg0 m c i ≠ ⊥) (hx1 : ∀ i, arg1 m c i ≠ ⊤ ∧ arg1 m c i ≠ ⊥) (hx2 : ∀ i, arg2 m c i ≠ ⊤ ∧ arg2 m c i ≠ ⊥)
    (t : Fin cfg0.N) (h : Fin 8) (a : ℕ) (ha : a + 256 ≤ 2048) (j r : Fin 256) :
    k0_pay164 (qOf (iblk m c 0 t) (iblk m c 1 t) (iblk m c 2 t) (iblk m c 3 t) (iblk m c 4 t) h) (tileAt (s0 := 2048) (s1 := 128) (krot (iblk m c 6 t) (iblk m c 7 t) (iblk m c 8 t) (iblk m c 9 t)) a 0) (tileAt (s0 := 2048) (s1 := 2048) (iblk m c 5 t) a (256 * h.val)) (ix2 j r)
      = (Attn.score (arg0 m c) (arg1 m c) (arg2 m c) (arg3 m c) (qrow t r) h.val (krow t (a + j.val)) : EReal) := by
  rw [pay164_apply]
  simp only [q_lo m c hx0, q_hi m c hx0, kr_apply m c hx2 t a ha, k_apply m c t a (256 * h.val) ha (by omega), Attn.X_eq _ hx1, ← EReal.coe_mul, Attn.coe_sum, ← EReal.coe_add]
  rw [← Attn.score_eq]
  simp only [Nat.mul_comm 256 h.val]

end Cert.KernelIdeal.Gen
-- ==== Proof.Kern.lean ====
module

public import proofs.«01_k».proof.Proof.KScore
public import proofs.«01_k».proof.Proof.Host
public import Idealize.ShloMosaic.Lib.Pointwise
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-!
  THE ARRAY THE KERNEL LEAVES: the attention of every row, head by head.
-/

namespace Cert.KernelIdeal.Gen

theorem blockOf_apply (x0 : Vec Ideal S256x1024 .bf16) (x1 x2 : Vec Ideal S256x512 .bf16) (x3 x4 : Vec Ideal S256x128 .f32) (x5 : Vec Ideal S2048x2048 .bf16) (xr : Vec Ideal S2048x128 .bf16) (n : ℕ)
    (y : S256x1024.Idx) (a : Fin 256) (l : ℕ) (h0 : y 0 = a) (h1 : (y 1).val = l) :
    blockOf x0 x1 x2 x3 x4 x5 xr n y = (headEnd (qOf x0 x1 x2 x3 x4 (Fin.ofNat 8 (l / 128))) x5 xr (l / 128) n).out (ValueIdx.ix2 (n0 := 256) (n1 := 128) a (Fin.ofNat 128 l)) := by
  subst h0 h1
  rfl

variable (m : (ℓ : Loc nD τ sig) → Buf (Elt Ideal) ℓ) (c : Dev nD)

theorem N_eq : cfg0.N = 128 := N_0

theorem qrow_val (t : Fin cfg0.N) (r : Fin 256) : (qrow t r).val = 256 * t.val + r.val := by
  have h := t.isLt
  have hN := N_eq
  exact ofNat_lt (by omega)

theorem krow_eq (t : Fin cfg0.N) (r : Fin 256) (k : ℕ) : Fin.ofNat 32768 ((qrow t r).val / 2048 * 2048 + k) = krow t k := by
  rw [qrow_val]
  unfold krow
  congr 1
  omega

variable (hx0 : ∀ i, arg0 m c i ≠ ⊤ ∧ arg0 m c i ≠ ⊥) (hx1 : ∀ i, arg1 m c i ≠ ⊤ ∧ arg1 m c i ≠ ⊥) (hx2 : ∀ i, arg2 m c i ≠ ⊤ ∧ arg2 m c i ≠ ⊥)

include hx0 hx1 hx2 in
/-- One head of one grid point, at the end of its sweep. -/
theorem head_apply (t : Fin cfg0.N) (h : Fin 8) (r : Fin 256) (d : Fin 128) :
    (headEnd (qOf (iblk m c 0 t) (iblk m c 1 t) (iblk m c 2 t) (iblk m c 3 t) (iblk m c 4 t) h) (iblk m c 5 t) (krot (iblk m c 6 t) (iblk m c 7 t) (iblk m c 8 t) (iblk m c 9 t)) h.val (t.val % 8)).out (ix2 r d)
      = Ideal.div (Soft.A (Attn.masked (arg0 m c) (arg1 m c) (arg2 m c) (arg3 m c) (qrow t r) h.val) (Attn.value (arg1 m c) (qrow t r) (128 * h.val + d.val)) (256 * (t.val % 8) + 256))
        (Soft.L (Attn.masked (arg0 m c) (arg1 m c) (arg2 m c) (arg3 m c) (qrow t r) h.val) (256 * (t.val % 8) + 256)) := by
  have hq := qrow_val t r
  refine headEnd_out (qOf (iblk m c 0 t) (iblk m c 1 t) (iblk m c 2 t) (iblk m c 3 t) (iblk m c 4 t) h) (iblk m c 5 t) (krot (iblk m c 6 t) (iblk m c 7 t) (iblk m c 8 t) (iblk m c 9 t)) h.val (t.val % 8) r d (Attn.masked (arg0 m c) (arg1 m c) (arg2 m c) (arg3 m c) (qrow t r) h.val)
    (fun d => Attn.value (arg1 m c) (qrow t r) (128 * h.val + d.val)) ?_ ?_ ?_
  · intro n hn j
    rw [score_apply m c hx0 hx1 hx2 t h (256 * n) (by omega)]
    unfold Attn.masked
    rw [if_pos (by omega), krow_eq]
  · intro j
    rw [score_apply m c hx0 hx1 hx2 t h (256 * (t.val % 8)) (by omega)]
    unfold Attn.masked
    rw [krow_eq]
    by_cases hc : j.val / 64 ≤ r.val / 64
    · rw [if_pos hc, if_pos (by omega)]
    · rw [if_neg hc, if_neg (by omega)]
  · intro n hn j e
    rw [k_apply m c t (256 * n) (256 * h.val + 128) (by omega) (by omega)]
    unfold Attn.value
    rw [krow_eq]
    congr 2
    refine Fin.ext ?_
    rw [ofNat_lt (by omega)]
    show 256 * h.val + 128 + e.val = _
    omega

include hx0 hx1 hx2 in
theorem head_out (t : Fin cfg0.N) (h : Fin 8) (r : Fin 256) (d : Fin 128) :
    (headEnd (qOf (iblk m c 0 t) (iblk m c 1 t) (iblk m c 2 t) (iblk m c 3 t) (iblk m c 4 t) h) (iblk m c 5 t) (krot (iblk m c 6 t) (iblk m c 7 t) (iblk m c 8 t) (iblk m c 9 t)) h.val (t.val % 8)).out (ix2 r d)
      = Attn.out (arg0 m c) (arg1 m c) (arg2 m c) (arg3 m c) (qrow t r) (128 * h.val + d.val) := by
  have hq := qrow_val t r
  rw [head_apply m c hx0 hx1 hx2]
  have hS : ∀ k, 256 * (t.val % 8) + 256 ≤ k → k < 2048 → Attn.masked (arg0 m c) (arg1 m c) (arg2 m c) (arg3 m c) (qrow t r) h.val k = ⊥ := by
    intro k hk _
    unfold Attn.masked
    rw [if_neg (by omega)]
  have hT : ∀ k, Attn.masked (arg0 m c) (arg1 m c) (arg2 m c) (arg3 m c) (qrow t r) h.val k ≠ ⊤ := by
    intro k
    unfold Attn.masked
    split_ifs
    · exact EReal.coe_ne_top _
    · exact bot_ne_top
  have hB : Attn.masked (arg0 m c) (arg1 m c) (arg2 m c) (arg3 m c) (qrow t r) h.val 0 ≠ ⊥ := by
    unfold Attn.masked
    rw [if_pos (by omega)]
    exact EReal.coe_ne_bot _
  rw [← Soft.A_ext _ _ (by omega : 256 * (t.val % 8) + 256 ≤ 2048) hS, ← Soft.L_ext _ (by omega : 256 * (t.val % 8) + 256 ≤ 2048) hS,
    Soft.div_eq _ _ (Soft.L_ne_zero _ hT (by omega : 0 < 2048) hB)]
  unfold Attn.out
  rw [show (128 * h.val + d.val) / 128 = h.val by omega]

include hx0 hx1 hx2 in
/-- The array the kernel leaves is the attention of the queries, keys and values. -/
theorem G10_attn (R : Fin 32768) (l : Fin 1024) : Value.G10 m c (ix2 R l) = Attn.out (arg0 m c) (arg1 m c) (arg2 m c) (arg3 m c) R l.val := by
  have hR : R.val / 256 < cfg0.N := by rw [N_eq]; omega
  have key := head_out m c hx0 hx1 hx2 ⟨R.val / 256, hR⟩ (Fin.ofNat 8 (l.val / 128)) ⟨R.val % 256, by omega⟩ ⟨l.val % 128, by omega⟩
  have hh : (Fin.ofNat 8 (l.val / 128)).val = l.val / 128 := ofNat_lt (by omega)
  have e1 : qrow ⟨R.val / 256, hR⟩ ⟨R.val % 256, by omega⟩ = R := Fin.ext (by rw [qrow_val]; show 256 * (R.val / 256) + R.val % 256 = _; omega)
  rw [e1, hh, show 128 * (l.val / 128) + (⟨l.val % 128, by omega⟩ : Fin 128).val = l.val from by show 128 * (l.val / 128) + l.val % 128 = l.val; omega] at key
  rw [← key]
  rw [G10_eq m c (ix2 R l) ⟨R.val / 256, hR⟩ rfl]
  exact (blockOf_apply _ _ _ _ _ _ _ _ _ ⟨R.val % 256, by omega⟩ l.val (Fin.ext rfl) (Nat.mod_eq_of_lt l.isLt)).trans (by rw [ix2_eq_valueIdx]; rfl)

end Cert.KernelIdeal.Gen
-- ==== Proof.Ref.lean ====
module
public import proofs.«01_k».proof.Proof.Gen.ReferenceIdeal.Read
public import proofs.«01_k».proof.Proof.Attn
@[expose] public section
noncomputable section
/-!
  THE REFERENCE in exact arithmetic, element by element.
-/

namespace Cert.ReferenceIdeal.Read
open Cert.ReferenceIdeal Cert.ReferenceIdeal.Gen Idealize.ShloMosaic Idealize.ShloMosaic.TcCoe Idealize.SL.Sem Idealize.ShloMosaic.StableHlo
variable (x0 : (⟨S32768x1536, .f32⟩ : BufTy).Contents (Elt Ideal)) (x1 : (⟨S32768x2048, .f32⟩ : BufTy).Contents (Elt Ideal)) (x2 : (⟨S32768x64, .f32⟩ : BufTy).Contents (Elt Ideal)) (x3 : (⟨S16x2048, .i32⟩ : BufTy).Contents (Elt Ideal))

theorem score_apply (b : Fin 16) (h : Fin 8) (q k : Fin 2048) : val_main_v63 (F := Ideal) x0 x1 x2 x3 (ix4 b h q k)
    = (((∑ d : Fin 128, x0 (ix2 ⟨b.val * 2048 + q.val, by omega⟩ ⟨h.val * 192 + d.val, by omega⟩) * x1 (ix2 ⟨b.val * 2048 + k.val, by omega⟩ ⟨h.val * 256 + d.val, by omega⟩))
      + ∑ e : Fin 64, val_main_v57 (F := Ideal) x2 x3 (ix3 b k e) * val_main_v30 (F := Ideal) x0 x3 (ix4 b q h e)) * Ideal.ofBits FTy.f32 1033096506#32 : EReal) := by
  pointwise [val_main_v63, val_main_v62, val_main_cst_3, val_main_v61, val_main_v60, val_main_v59, val_main_v58, val_main_v1, val_main_v0, val_main_v32, val_main_v31]

theorem cos_eq (b : Fin 16) (q : Fin 2048) (n : ℕ) (r : Fin 32768) (hr : r.val = b.val * 2048 + q.val) : Ideal.cos (FloatOps.sitofp (F := Ideal) FTy.f32 (x3 (ix2 b q)) * Ideal.pow (Ideal.ofBits FTy.f32 1176256512#32)
    (Ideal.div (-FloatOps.sitofp (F := Ideal) FTy.f32 (BitVec.ofNat 32 n)) (Ideal.ofBits FTy.f32 1107296256#32))) = (Attn.C x3 r n : EReal) := by
  rw [← Attn.C_eq]
  unfold Attn.ang Attn.inv Attn.pos
  rw [show (⟨r.val / 2048, by omega⟩ : Fin 16) = b from Fin.ext (by show r.val / 2048 = b.val; omega), show (⟨r.val % 2048, by omega⟩ : Fin 2048) = q from Fin.ext (by show r.val % 2048 = q.val; omega)]

theorem sin_eq (b : Fin 16) (q : Fin 2048) (n : ℕ) (r : Fin 32768) (hr : r.val = b.val * 2048 + q.val) : Ideal.sin (FloatOps.sitofp (F := Ideal) FTy.f32 (x3 (ix2 b q)) * Ideal.pow (Ideal.ofBits FTy.f32 1176256512#32)
    (Ideal.div (-FloatOps.sitofp (F := Ideal) FTy.f32 (BitVec.ofNat 32 n)) (Ideal.ofBits FTy.f32 1107296256#32))) = (Attn.S x3 r n : EReal) := by
  rw [← Attn.S_eq]
  unfold Attn.ang Attn.inv Attn.pos
  rw [show (⟨r.val / 2048, by omega⟩ : Fin 16) = b from Fin.ext (by show r.val / 2048 = b.val; omega), show (⟨r.val % 2048, by omega⟩ : Fin 2048) = q from Fin.ext (by show r.val % 2048 = q.val; omega)]

theorem qrot_apply (hx : ∀ i, x0 i ≠ (⊤ : EReal) ∧ x0 i ≠ (⊥ : EReal)) (b : Fin 16) (q : Fin 2048) (h : Fin 8) (e : Fin 64) (r : Fin 32768) (hr : r.val = b.val * 2048 + q.val) :
    val_main_v30 (F := Ideal) x0 x3 (ix4 b q h e) = (Attn.qR x0 x3 r h.val e.val : EReal) := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v0, val_main_cst, val_main_cst_0]
  simp only [cos_eq x3 b q _ r hr, sin_eq x3 b q _ r hr, Attn.X_eq x0 hx, ← EReal.coe_mul, ← EReal.coe_sub, ← EReal.coe_add]
  rw [show (⟨b.val * 2048 + q.val, by omega⟩ : Fin 32768) = r from Fin.ext hr.symm]
  unfold Attn.qR Attn.rope
  by_cases he : e.val < 32
  · rw [dif_pos he, if_pos he]
  · rw [dif_neg he, if_neg he, show 32 + (e.val - 32) = e.val by omega]

theorem krot_apply (hx : ∀ i, x2 i ≠ (⊤ : EReal) ∧ x2 i ≠ (⊥ : EReal)) (b : Fin 16) (q : Fin 2048) (e : Fin 64) (r : Fin 32768) (hr : r.val = b.val * 2048 + q.val) :
    val_main_v57 (F := Ideal) x2 x3 (ix3 b q e) = (Attn.kR x2 x3 r e.val : EReal) := by
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_1, val_main_cst_2]
  rw [show x2 (ix2 ⟨b.val * 2048 + q.val, by omega⟩ e) = (Attn.X x2 ⟨b.val * 2048 + q.val, by omega⟩ e.val : EReal) from Attn.X_eq x2 hx _ _ e.isLt]
  simp only [cos_eq x3 b q _ r hr, sin_eq x3 b q _ r hr, Attn.X_eq x2 hx, ← EReal.coe_mul, ← EReal.coe_sub, ← EReal.coe_add]
  rw [show (⟨b.val * 2048 + q.val, by omega⟩ : Fin 32768) = r from Fin.ext hr.symm]
  unfold Attn.kR Attn.rope
  by_cases he : e.val < 32
  · rw [dif_pos he, if_pos he]
  · rw [dif_neg he, if_neg he, show 32 + (e.val - 32) = e.val by omega]

theorem negInf : Ideal.ofBits FTy.f32 4286578688#32 = ⊥ := by simp [Ideal.ofBits, Ideal.ieee]

theorem chunk_eq : ∀ k : Fin 2048, (Scalar.select
        (IntOp.andi
          (IntOp.cmpi CmpIPredicate.ne
            (if BitVec.ofNat 32 ↑k = 0 then 0 else if (BitVec.ofNat 32 ↑k).msb = true then -1 else 1)
            (if (64#32) = 0 then 0
            else if BitVec.msb (64#32) = true then -1 else 1 : BitVec 32))
          (IntOp.cmpi CmpIPredicate.ne
            (IntOp.remsi ArithUnit.host (BitVec.ofNat 32 ↑k) (64#32)) 0#32))
        (IntOp.subi (IntOp.divsi ArithUnit.host (BitVec.ofNat 32 ↑k) (64#32)) 1#32)
        (IntOp.divsi ArithUnit.host (BitVec.ofNat 32 ↑k) (64#32))) = BitVec.ofNat 32 (k.val / 64) := by decide +kernel

theorem cmp_chunk : ∀ a b : Fin 32, IntOp.cmpi CmpIPredicate.sle (BitVec.ofNat 32 a.val) (BitVec.ofNat 32 b.val) = if a.val ≤ b.val then 1#1 else 0#1 := by decide +kernel

theorem mask_apply (b : Fin 16) (h : Fin 8) (q k : Fin 2048) : val_main_call1_v1 (F := Ideal) (ix4 b h q k) = if k.val / 64 ≤ q.val / 64 then 1#1 else 0#1 := by
  pointwise [val_main_call1_v1, val_main_v71, val_main_v70, val_main_v69, val_main_v68, val_main_v67, val_main_v66, val_main_v65, val_main_v64, val_main_c, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0]
  refine Eq.trans (congrArg₂ (IntOp.cmpi CmpIPredicate.sle) (chunk_eq k) (chunk_eq q)) ?_
  exact cmp_chunk ⟨k.val / 64, by omega⟩ ⟨q.val / 64, by omega⟩

theorem masked_apply (b : Fin 16) (h : Fin 8) (q k : Fin 2048) : val_main_v72 (F := Ideal) x0 x1 x2 x3 (ix4 b h q k) = (if k.val / 64 ≤ q.val / 64 then val_main_v63 (F := Ideal) x0 x1 x2 x3 (ix4 b h q k) else ⊥ : EReal) := by
  pointwise [val_main_v72, val_main_call1_v2, val_main_cst_4, val_main_call1_v0]
  rw [mask_apply]
  have e : (id (constant (F := Ideal) S_ FTy.f32 4286578688#32) ix0 : EReal) = ⊥ := negInf
  by_cases hc : k.val / 64 ≤ q.val / 64
  · rw [if_pos hc, if_pos hc]; rfl
  · rw [if_neg hc, if_neg hc]; exact e

/-- The reference's masked score. -/
theorem masked_eq (hx0 : ∀ i, x0 i ≠ (⊤ : EReal) ∧ x0 i ≠ (⊥ : EReal)) (hx1 : ∀ i, x1 i ≠ (⊤ : EReal) ∧ x1 i ≠ (⊥ : EReal)) (hx2 : ∀ i, x2 i ≠ (⊤ : EReal) ∧ x2 i ≠ (⊥ : EReal))
    (b : Fin 16) (h : Fin 8) (q k : Fin 2048) (r : Fin 32768) (hr : r.val = b.val * 2048 + q.val) :
    val_main_v72 (F := Ideal) x0 x1 x2 x3 (ix4 b h q k) = Attn.masked x0 x1 x2 x3 r h.val k.val := by
  have hb : r.val / 2048 = b.val := by omega
  have hq : r.val % 2048 = q.val := by omega
  have hk : (Fin.ofNat 32768 (r.val / 2048 * 2048 + k.val) : Fin 32768) = ⟨b.val * 2048 + k.val, by omega⟩ := Fin.ext (by show (r.val / 2048 * 2048 + k.val) % 32768 = _; rw [hb]; exact Nat.mod_eq_of_lt (by omega))
  rw [masked_apply, score_apply]
  unfold Attn.masked
  rw [hk, hq]
  refine congrArg (fun z : EReal => if k.val / 64 ≤ q.val / 64 then z else ⊥) ?_
  rw [show (⟨b.val * 2048 + q.val, by omega⟩ : Fin 32768) = r from Fin.ext hr.symm]
  simp only [qrot_apply x0 x3 hx0 b q h _ r hr, krot_apply x2 x3 hx2 b k _ ⟨b.val * 2048 + k.val, by omega⟩ rfl, Attn.X_eq x0 hx0, Attn.X_eq x1 hx1, Attn.sc_eq, ← EReal.coe_mul, Attn.coe_sum, ← EReal.coe_add]
  rfl

end Cert.ReferenceIdeal.Read
-- ==== Proof.Ref2.lean ====
module
public import proofs.«01_k».proof.Proof.Gen.ReferenceIdeal.Read
public import proofs.«01_k».proof.Proof.Ref
public import Idealize.ShloMosaic.PureOps.Ideal.Laws
@[expose] public section
noncomputable section
/-!
  THE REFERENCE in exact arithmetic, element by element.
-/

namespace Cert.ReferenceIdeal.Read
open Cert.ReferenceIdeal Cert.ReferenceIdeal.Gen Idealize.ShloMosaic Idealize.ShloMosaic.TcCoe Idealize.SL.Sem Idealize.ShloMosaic.StableHlo
variable (x0 : (⟨S32768x1536, .f32⟩ : BufTy).Contents (Elt Ideal)) (x1 : (⟨S32768x2048, .f32⟩ : BufTy).Contents (Elt Ideal)) (x2 : (⟨S32768x64, .f32⟩ : BufTy).Contents (Elt Ideal)) (x3 : (⟨S16x2048, .i32⟩ : BufTy).Contents (Elt Ideal))

theorem fold_max {ι : Type} (t : Finset ι) (f : ι → EReal) : t.fold max ⊥ f = t.sup f := rfl

theorem fold_maximumf {ι : Type} (t : Finset ι) (z : EReal) (f : ι → EReal) : t.fold (FloatOps.maximumf (F := Ideal) (φ := .f32)) z f = t.fold max z f := rfl

theorem reduce_max {sh t u : Shape} {axes : List (Fin sh.rank)} (x : FVec Ideal sh .f32) (init : FVec Ideal u .f32) (hr : sh.ReducesTo axes t) (hu : 0 < u.numel) (j : t.Idx)
    (hi : ∀ z, init z = (⊥ : EReal)) {N : ℕ} (f : Fin N → sh.Idx) (hf : ∀ k, hr.drop (f k) = j) (hf' : ∀ i, hr.drop i = j → ∃ k, i = f k) (s : ℕ → EReal) (hs : ∀ k, x (f k) = s k.val) :
    Host.reduce (FloatOps.maximumf (F := Ideal) (φ := .f32)) x init hr hu j = Soft.M s N := by
  rw [Host.reduce_eq_fold, hi, fold_maximumf, fold_max]
  apply le_antisymm
  · refine Finset.sup_le fun i hi => ?_
    obtain ⟨k, rfl⟩ := hf' i (Finset.mem_filter.mp hi).2
    rw [hs]
    exact Soft.le_M s k.isLt
  · refine Finset.sup_le fun k hk => ?_
    have hk := Finset.mem_range.mp hk
    have e := hs ⟨k, hk⟩
    rw [← e]
    exact Finset.le_sup (f := x) (Finset.mem_filter.mpr ⟨Finset.mem_univ _, hf _⟩)

theorem max_apply (b : Fin 16) (h : Fin 8) (q : Fin 2048) (s : ℕ → EReal) (hs : ∀ k : Fin 2048, val_main_v72 (F := Ideal) x0 x1 x2 x3 (ix4 b h q k) = s k.val) :
    val_main_v73 (F := Ideal) x0 x1 x2 x3 (ix3 b h q) = Soft.M s 2048 := by
  unfold val_main_v73
  refine reduce_max (val_main_v72 (F := Ideal) x0 x1 x2 x3) (val_main_cst_5 (F := Ideal)) reducesTo_S16x8x2048x2048_S16x8x2048_d3 h_S_ (ix3 b h q) (fun z => negInf) (fun k => ix4 b h q k) ?_ ?_ s hs
  · intro k
    funext a
    match a with
    | ⟨0, _⟩ => exact Fin.ext ((reducesTo_S16x8x2048x2048_S16x8x2048_d3).drop_apply_val_of_eq _ 0 0)
    | ⟨1, _⟩ => exact Fin.ext ((reducesTo_S16x8x2048x2048_S16x8x2048_d3).drop_apply_val_of_eq _ 1 1)
    | ⟨2, _⟩ => exact Fin.ext ((reducesTo_S16x8x2048x2048_S16x8x2048_d3).drop_apply_val_of_eq _ 2 2)
  · intro i hd
    have e0 : (i 0).val = b.val := ((reducesTo_S16x8x2048x2048_S16x8x2048_d3).drop_apply_val_of_eq i 0 0).symm.trans (congrArg (fun z => (z 0).val) hd)
    have e1 : (i 1).val = h.val := ((reducesTo_S16x8x2048x2048_S16x8x2048_d3).drop_apply_val_of_eq i 1 1).symm.trans (congrArg (fun z => (z 1).val) hd)
    have e2 : (i 2).val = q.val := ((reducesTo_S16x8x2048x2048_S16x8x2048_d3).drop_apply_val_of_eq i 2 2).symm.trans (congrArg (fun z => (z 2).val) hd)
    refine ⟨i 3, ?_⟩
    funext a
    match a with
    | ⟨0, _⟩ => exact Fin.ext e0
    | ⟨1, _⟩ => exact Fin.ext e1
    | ⟨2, _⟩ => exact Fin.ext e2
    | ⟨3, _⟩ => rfl

theorem exp_apply (b : Fin 16) (h : Fin 8) (q k : Fin 2048) (s : ℕ → EReal) (hs : ∀ k : Fin 2048, val_main_v72 (F := Ideal) x0 x1 x2 x3 (ix4 b h q k) = s k.val) :
    val_main_v79 (F := Ideal) x0 x1 x2 x3 (ix4 b h q k) = Ideal.exp (s k.val - Soft.M s 2048) := by
  have e : idx_main_v76 (idx_main_v77 (ix4 b h q k)) = ix3 b h q := by
    funext a
    match a with
    | ⟨0, _⟩ => rfl
    | ⟨1, _⟩ => rfl
    | ⟨2, _⟩ => rfl
  rw [val_main_v79_apply, val_main_v78_apply, val_main_v77_apply, val_main_v76_apply, val_main_v75_apply, val_main_v74_apply, e, hs, max_apply x0 x1 x2 x3 b h q s hs]
  generalize Soft.M s 2048 = z
  have e6 : ∀ i, val_main_cst_6 (F := Ideal) i = (⊥ : EReal) := fun _ => negInf
  rw [e6]
  exact congrArg (fun w : EReal => Ideal.exp (s k.val - w)) (max_eq_right bot_le)

theorem den_apply (b : Fin 16) (h : Fin 8) (q : Fin 2048) (s : ℕ → EReal) (hs : ∀ k : Fin 2048, val_main_v72 (F := Ideal) x0 x1 x2 x3 (ix4 b h q k) = s k.val) :
    val_main_v80 (F := Ideal) x0 x1 x2 x3 (ix3 b h q) = Soft.L s 2048 := by
  pointwise [val_main_v80, val_main_cst_7]
  simp only [exp_apply x0 x1 x2 x3 b h q _ s hs]
  unfold Soft.L
  rw [Finset.sum_range fun k => Ideal.exp (s k - Soft.M s 2048)]

theorem prob_apply (b : Fin 16) (h : Fin 8) (q k : Fin 2048) : val_main_v83 (F := Ideal) x0 x1 x2 x3 (ix4 b h q k) = Ideal.div (val_main_v79 (F := Ideal) x0 x1 x2 x3 (ix4 b h q k)) (val_main_v80 (F := Ideal) x0 x1 x2 x3 (ix3 b h q)) := by
  pointwise [val_main_v83, val_main_v82, val_main_v81]

theorem out_apply (r : Fin 32768) (l : Fin 1024) : val_main_v87 (F := Ideal) x0 x1 x2 x3 (ix2 r l) = val_main_v84 (F := Ideal) x0 x1 x2 x3 (ix4 ⟨r.val / 2048, by omega⟩ ⟨l.val / 128, by omega⟩ ⟨l.val % 128, by omega⟩ ⟨r.val % 2048, by omega⟩) := by
  pointwise [val_main_v87, val_main_v86, val_main_v85]

theorem weighted_apply (b : Fin 16) (h : Fin 8) (d : Fin 128) (q : Fin 2048) : val_main_v84 (F := Ideal) x0 x1 x2 x3 (ix4 b h d q)
    = ∑ k : Fin 2048, (x1 (ix2 ⟨b.val * 2048 + k.val, by omega⟩ ⟨h.val * 256 + (128 + d.val), by omega⟩) : EReal) * val_main_v83 (F := Ideal) x0 x1 x2 x3 (ix4 b h q k) := by
  pointwise [val_main_v84, val_main_v33, val_main_v31]

/-- The reference's result. -/
theorem result_eq (hx0 : ∀ i, x0 i ≠ (⊤ : EReal) ∧ x0 i ≠ (⊥ : EReal)) (hx1 : ∀ i, x1 i ≠ (⊤ : EReal) ∧ x1 i ≠ (⊥ : EReal)) (hx2 : ∀ i, x2 i ≠ (⊤ : EReal) ∧ x2 i ≠ (⊥ : EReal))
    (r : Fin 32768) (l : Fin 1024) : val_main_v87 (F := Ideal) x0 x1 x2 x3 (ix2 r l) = Attn.out x0 x1 x2 x3 r l.val := by
  have hs : ∀ k : Fin 2048, val_main_v72 (F := Ideal) x0 x1 x2 x3 (ix4 ⟨r.val / 2048, by omega⟩ ⟨l.val / 128, by omega⟩ ⟨r.val % 2048, by omega⟩ k) = Attn.masked x0 x1 x2 x3 r (l.val / 128) k.val :=
    fun k => masked_eq x0 x1 x2 x3 hx0 hx1 hx2 _ _ _ k r (by show r.val = r.val / 2048 * 2048 + r.val % 2048; omega)
  rw [out_apply, weighted_apply]
  unfold Attn.out
  rw [Finset.sum_range fun k => Ideal.div (Ideal.exp (Attn.masked x0 x1 x2 x3 r (l.val / 128) k - Soft.M (Attn.masked x0 x1 x2 x3 r (l.val / 128)) 2048)) (Soft.L (Attn.masked x0 x1 x2 x3 r (l.val / 128)) 2048) * Attn.value x1 r l.val k]
  refine Finset.sum_congr rfl fun k _ => ?_
  rw [prob_apply, exp_apply x0 x1 x2 x3 _ _ _ k _ hs, den_apply x0 x1 x2 x3 _ _ _ _ hs, mul_comm]
  refine congrArg₂ (· * ·) rfl ?_
  unfold Attn.value
  congr 1
  congr 1
  · exact Fin.ext (by show _ = (r.val / 2048 * 2048 + k.val) % 32768; rw [Nat.mod_eq_of_lt (by omega)])
  · exact Fin.ext (by show l.val / 128 * 256 + (128 + l.val % 128) = (l.val / 128 * 256 + (128 + l.val % 128)) % 2048; exact (Nat.mod_eq_of_lt (by omega)).symm)

end Cert.ReferenceIdeal.Read
-- ==== Proof.FBody.lean ====
module

public import proofs.«01_k».proof.Proof.Gen.Kernel2Ideal.Frame
public import proofs.«01_k».proof.Proof.Gen.Kernel2Ideal.Skeleton
public import Idealize.ShloMosaic.Lib.Pipeline.ValueKit

@[expose] public section

set_option maxRecDepth 16384

noncomputable section

/-
  THE FEED-FORWARD KERNEL'S BODY. A point (i, j) of its grid works on rows 512 i … of the input and on columns 512 j … of the two wide
  weights. At j = 0 it normalizes the rows and starts the sum, at 0 < j < 10 it adds a tile, at j = 10 it adds the last 384 columns and
  writes the result. Here the body's run in each of the three cases, on any whole memrefs.
-/

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- A store over a whole buffer leaves its payload. -/
theorem read_store_whole {κ : Kind} {sp : Space} {S : Shape} {e : EltTy} (v : View sig κ sp S e) (f : v.ty.Contents (Elt F))
    (L : List (View.Piece (Elt F) S e)) {off : Fin S.rank → ℕ} (inb : ∀ a, off a + S.size a ≤ S.size a) (w : S.Idx → Elt F e) :
    v.read (Elt F) (v.writes (Elt F) f (⟨Rect.unit off S.size inb, w⟩ :: L)) = w := by
  have hz : off = fun _ => 0 := funext fun a => by have := inb a; omega
  subst hz
  funext y
  have hy : (Rect.unit (s := S) (fun _ => 0) S.size inb).emb y = y := by
    funext a
    exact Fin.ext (show 0 + 1 * (y a).val = (y a).val by omega)
  have h := View.read_writes_cons_emb v f (Rect.unit (s := S) (fun _ => 0) S.size inb) w L y
  rwa [hy] at h

/-- A load of a whole buffer reads it. -/
theorem load_whole {κ : Kind} {sp : Space} {S : Shape} {e : EltTy} (v : View sig κ sp S e) (f : v.ty.Contents (Elt F))
    {off : Fin S.rank → ℕ} (inb : ∀ a, off a + S.size a ≤ S.size a) :
    v.readAt (Elt F) (Rect.unit off S.size inb).toLoadRect f = v.read (Elt F) f := by
  have hz : off = fun _ => 0 := funext fun a => by have := inb a; omega
  exact View.ld_unit_zero hz inb _

/-- The first tile of a row block. -/
abbrev condA (i : grid0.Coords) : Prop := (Scalar.cmpi .ne (Scalar.extui (Scalar.cmpi .eq (BitVec.ofNat 32 (i 1).val) 0#32)) 0#32) = 1#1
/-- A tile between the first and the last. -/
abbrev condB (i : grid0.Coords) : Prop := (Scalar.cmpi .ne (Scalar.extui (Scalar.andi (Scalar.cmpi .sgt (BitVec.ofNat 32 (i 1).val) 0#32) (Scalar.cmpi .slt (BitVec.ofNat 32 (i 1).val) 10#32))) 0#32) = 1#1
/-- The last tile. -/
abbrev condC (i : grid0.Coords) : Prop := k0_cond3 i = 1#1

theorem hcondA : ∀ t : Fin cfg0.N, condA (grid0.coords t) ↔ t.val % 11 = 0 :=
  (fun t => by
    have ht : t.val < 704 := Nat.lt_of_lt_of_eq t.isLt N_0
    have e1 : (grid0.coords t 1).val = t.val / 1 % 11 := Pipeline.Grid.coords_val t 1 (by decide) rfl
    simp only [condA, e1]
    word_cmp
   : ∀ t : Fin grid0.N, condA (grid0.coords t) ↔ t.val % 11 = 0)

theorem hcondB : ∀ t : Fin cfg0.N, condB (grid0.coords t) ↔ (t.val % 11 ≠ 0 ∧ t.val % 11 ≠ 10) :=
  (fun t => by
    have ht : t.val < 704 := Nat.lt_of_lt_of_eq t.isLt N_0
    have e1 : (grid0.coords t 1).val = t.val / 1 % 11 := Pipeline.Grid.coords_val t 1 (by decide) rfl
    simp only [condB, e1, Nat.div_one]
    have hj : t.val % 11 < 11 := Nat.mod_lt _ (by decide)
    generalize t.val % 11 = j at hj
    interval_cases j <;> decide
   : ∀ t : Fin grid0.N, condB (grid0.coords t) ↔ (t.val % 11 ≠ 0 ∧ t.val % 11 ≠ 10))

theorem hcondC : ∀ t : Fin cfg0.N, condC (grid0.coords t) ↔ t.val % 11 = 10 :=
  (fun t => by
    have ht : t.val < 704 := Nat.lt_of_lt_of_eq t.isLt N_0
    have e1 : (grid0.coords t 1).val = t.val / 1 % 11 := Pipeline.Grid.coords_val t 1 (by decide) rfl
    simp only [condC, k0_cond3, e1]
    word_cmp
   : ∀ t : Fin grid0.N, condC (grid0.coords t) ↔ t.val % 11 = 10)

set_option maxHeartbeats 1000000 in
/-- The first tile: the rows are normalized and the sum starts at the tile's product. -/
theorem run_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hA : condA i) (hB : ¬condB i) (hC : ¬condC i)
    (x : Vec F S512x2048 .f32) (gp : Vec F S1x2048 .f32) (g : Vec F S2048x512 .bf16) (u : Vec F S2048x512 .bf16) (d : Vec F S512x2048 .bf16) (h : Vec F S512x2048 .bf16) (a : Vec F S512x2048 .f32) (E : Set ℕ) (K : PUnit → sProp (MT nD τ sig Unit (Elt F) ℕ (UR sig nD τ) ℕ)) :
    iprop(owns (c : Thread nD τ) arg2 fullShare x ∗ owns (c : Thread nD τ) arg3 fullShare gp ∗ owns (c : Thread nD τ) arg4 fullShare g ∗ owns (c : Thread nD τ) arg5 fullShare u ∗ owns (c : Thread nD τ) arg6 fullShare d ∗ owns (c : Thread nD τ) arg9 fullShare h ∗ owns (c : Thread nD τ) arg10 fullShare a
        ∗ (iprop(owns (c : Thread nD τ) arg2 fullShare x ∗ owns (c : Thread nD τ) arg3 fullShare gp ∗ owns (c : Thread nD τ) arg4 fullShare g ∗ owns (c : Thread nD τ) arg5 fullShare u ∗ owns (c : Thread nD τ) arg6 fullShare d ∗ owns (c : Thread nD τ) arg9 fullShare (k0_pay5 x gp) ∗ owns (c : Thread nD τ) arg10 fullShare (k0_pay1 (k0_pay6 x gp g u) (k0_pay7 d) (constant S512x2048 .f32 0x00000000#32))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, Hk⟩
  sl_exec (disch := first | sl_exact hA | sl_exact hB | sl_exact hC)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H9]
  · iexists _; isplitr
    swap; · iexact H9
    ipureintro
    refine (read_store_whole _ _ _ _ _).trans ?_
    congr 1
    exacts [(load_whole arg2.view f2 _).trans hf2, (load_whole arg3.view f3 _).trans hf3]
  iexists _; isplitr
  swap; · iexact H10
  ipureintro
  refine (read_store_whole _ _ _ _ _).trans ?_
  unfold run_A.sl.r run_A.sl.r_1 run_A.sl.cst_23
  congr 1
  · congr 1
    exacts [(load_whole arg2.view f2 _).trans hf2, (load_whole arg3.view f3 _).trans hf3, (load_whole arg4.view f4 _).trans hf4, (load_whole arg5.view f5 _).trans hf5]
  · exact congrArg k0_pay7 ((load_whole arg6.view f6 _).trans hf6)

set_option maxHeartbeats 1000000 in
/-- A middle tile: the sum grows by the tile's product. -/
theorem run_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hA : ¬condA i) (hB : condB i) (hC : ¬condC i)
    (g : Vec F S2048x512 .bf16) (u : Vec F S2048x512 .bf16) (d : Vec F S512x2048 .bf16) (h : Vec F S512x2048 .bf16) (a : Vec F S512x2048 .f32) (E : Set ℕ) (K : PUnit → sProp (MT nD τ sig Unit (Elt F) ℕ (UR sig nD τ) ℕ)) :
    iprop(owns (c : Thread nD τ) arg4 fullShare g ∗ owns (c : Thread nD τ) arg5 fullShare u ∗ owns (c : Thread nD τ) arg6 fullShare d ∗ owns (c : Thread nD τ) arg9 fullShare h ∗ owns (c : Thread nD τ) arg10 fullShare a
        ∗ (iprop(owns (c : Thread nD τ) arg4 fullShare g ∗ owns (c : Thread nD τ) arg5 fullShare u ∗ owns (c : Thread nD τ) arg6 fullShare d ∗ owns (c : Thread nD τ) arg9 fullShare h ∗ owns (c : Thread nD τ) arg10 fullShare (k0_pay2 a h g u d)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton, k0_part2_eq_skeleton]
  unfold owns
  iintro ⟨⟨%f4, %hf4, H4⟩, ⟨%f5, %hf5, H5⟩, ⟨%f6, %hf6, H6⟩, ⟨%f9, %hf9, H9⟩, ⟨%f10, %hf10, H10⟩, Hk⟩
  sl_exec (disch := first | sl_exact hA | sl_exact hB | sl_exact hC)
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H9]
  · iexists _; isplitr; · ipureintro; exact hf9
    iexact H9
  iexists _; isplitr
  swap; · iexact H10
  ipureintro
  refine (read_store_whole _ _ _ _ _).trans ?_
  congr 1
  exacts [(load_whole arg10.view f10 _).trans hf10, (load_whole arg9.view f9 _).trans hf9, (load_whole arg4.view f4 _).trans hf4, (load_whole arg5.view f5 _).trans hf5, (load_whole arg6.view f6 _).trans hf6]

set_option maxHeartbeats 1000000 in
/-- The last tile: the sum is completed by 384 columns, normalized, scaled, and added to the rows. -/
theorem run_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hA : ¬condA i) (hB : ¬condB i) (hC : condC i)
    (x : Vec F S512x2048 .f32) (g : Vec F S2048x512 .bf16) (u : Vec F S2048x512 .bf16) (d : Vec F S512x2048 .bf16) (gq : Vec F S1x2048 .f32) (o : Vec F S512x2048 .f32) (h : Vec F S512x2048 .bf16) (a : Vec F S512x2048 .f32) (E : Set ℕ) (K : PUnit → sProp (MT nD τ sig Unit (Elt F) ℕ (UR sig nD τ) ℕ)) :
    iprop(owns (c : Thread nD τ) arg2 fullShare x ∗ owns (c : Thread nD τ) arg4 fullShare g ∗ owns (c : Thread nD τ) arg5 fullShare u ∗ owns (c : Thread nD τ) arg6 fullShare d ∗ owns (c : Thread nD τ) arg7 fullShare gq ∗ owns (c : Thread nD τ) arg8 fullShare o ∗ owns (c : Thread nD τ) arg9 fullShare h ∗ owns (c : Thread nD τ) arg10 fullShare a
        ∗ (iprop(owns (c : Thread nD τ) arg2 fullShare x ∗ owns (c : Thread nD τ) arg4 fullShare g ∗ owns (c : Thread nD τ) arg5 fullShare u ∗ owns (c : Thread nD τ) arg6 fullShare d ∗ owns (c : Thread nD τ) arg7 fullShare gq ∗ owns (c : Thread nD τ) arg8 fullShare (k0_pay3 (k0_pay8 x) (k0_pay9 a h (View.ld g (Rect.unit (s := S2048x512) ![0, 0] S2048x384.size inb_S2048x512_S2048x384_0_0)) (View.ld u (Rect.unit (s := S2048x512) ![0, 0] S2048x384.size inb_S2048x512_S2048x384_0_0)) (View.ld d (Rect.unit (s := S512x2048) ![0, 0] S384x2048.size inb_S512x2048_S384x2048_0_0))) (k0_pay10 gq)) ∗ owns (c : Thread nD τ) arg9 fullShare h ∗ owns (c : Thread nD τ) arg10 fullShare a) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton, k0_part2_eq_skeleton]
  unfold owns
  iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact hA | sl_exact hB | sl_exact hC)
  sl_step
  iapply Hk
  isplitl [H2]
  · iexists _; isplitr; · ipureintro; exact hf2
    iexact H2
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    refine (read_store_whole _ _ _ _ _).trans ?_
    congr 1
    · exact congrArg k0_pay8 ((load_whole arg2.view f2 _).trans hf2)
    · unfold run_C.sl.r_1; congr 1
      exacts [(load_whole arg10.view f10 _).trans hf10, (load_whole arg9.view f9 _).trans hf9, congrArg (fun X => View.ld X (Rect.unit (s := S2048x512) ![0, 0] S2048x384.size inb_S2048x512_S2048x384_0_0)) hf4, congrArg (fun X => View.ld X (Rect.unit (s := S2048x512) ![0, 0] S2048x384.size inb_S2048x512_S2048x384_0_0)) hf5, congrArg (fun X => View.ld X (Rect.unit (s := S512x2048) ![0, 0] S384x2048.size inb_S512x2048_S384x2048_0_0)) hf6]
    · exact congrArg k0_pay10 ((load_whole arg7.view f7 _).trans hf7)
  isplitl [H9]
  · iexists _; isplitr; · ipureintro; exact hf9
    iexact H9
  iexists _; isplitr; · ipureintro; exact hf10
  iexact H10

end Cert.Kernel2Ideal.Gen
-- ==== Proof.FFrame.lean ====
module

public import proofs.«01_k».proof.Proof.FBody

@[expose] public section

set_option maxRecDepth 16384

noncomputable section

/-
  THE FEED-FORWARD KERNEL'S RUN. The three weights' last tiles overhang their arrays, so a staging buffer holds words nothing names past
  column 384 (row 384 of the down weight) there; the body reads none of them at that tile. Here what the two scratch buffers hold after each
  point, the body at every point, the launch and the frame.
-/

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The body's assertions. -/
abbrev FProp (F : FTy → Type) [FloatOps F] : Type := sProp (MT nD τ sig Unit (Elt F) ℕ (UR sig nD τ) ℕ)

variable (m : (ℓ : Loc nD τ sig) → Buf (Elt F) ℓ) (ρ : Dev nD → PrngReg)

/-! ## Where a tile lies in its weight -/

theorem extent_min {ix k d : ℕ} (h : ix * k < d) : (Pipeline.Clip.of ix k d).extent k = min k (d - ix * k) := by
  unfold Pipeline.Clip.of
  by_cases hq : (ix + 1) * k ≤ d
  · rw [if_pos hq]
    show k = _
    rw [Nat.succ_mul] at hq; omega
  · rw [if_neg hq]
    show d - ix * k = _
    rw [Nat.succ_mul] at hq; omega

theorem tile_nat (i : grid0.Coords) : (BitVec.ofNat 32 (i 1).val).toNat = (i 1).val := by
  have h : (i 1).val < 11 := (i 1).isLt
  rw [BitVec.toNat_ofNat, Nat.mod_eq_of_lt (by omega)]

theorem moved_2 (i : grid0.Coords) (j : S2048x512.Idx) (h : (i 1).val * 512 + (j 1).val < 5504) : (cfg0.win 2).moved i j = true := by
  have hi : (i 1).val < 11 := (i 1).isLt
  have h0 : (j 0).val < 2048 := (j 0).isLt
  have h1 : (j 1).val < 512 := (j 1).isLt
  refine ((cfg0.win 2).moved_iff i j).mpr (Fin.forall_fin_two.mpr ⟨?_, ?_⟩)
  · exact h0
  · show (j 1).val < (Pipeline.Clip.of (BitVec.ofNat 32 (i 1).val).toNat 512 5504).extent 512
    rw [tile_nat, extent_min (by omega)]
    omega

theorem moved_3 (i : grid0.Coords) (j : S2048x512.Idx) (h : (i 1).val * 512 + (j 1).val < 5504) : (cfg0.win 3).moved i j = true := by
  have hi : (i 1).val < 11 := (i 1).isLt
  have h0 : (j 0).val < 2048 := (j 0).isLt
  have h1 : (j 1).val < 512 := (j 1).isLt
  refine ((cfg0.win 3).moved_iff i j).mpr (Fin.forall_fin_two.mpr ⟨?_, ?_⟩)
  · exact h0
  · show (j 1).val < (Pipeline.Clip.of (BitVec.ofNat 32 (i 1).val).toNat 512 5504).extent 512
    rw [tile_nat, extent_min (by omega)]
    omega

theorem moved_4 (i : grid0.Coords) (j : S512x2048.Idx) (h : (i 1).val * 512 + (j 0).val < 5504) : (cfg0.win 4).moved i j = true := by
  have hi : (i 1).val < 11 := (i 1).isLt
  have h0 : (j 0).val < 512 := (j 0).isLt
  have h1 : (j 1).val < 2048 := (j 1).isLt
  refine ((cfg0.win 4).moved_iff i j).mpr (Fin.forall_fin_two.mpr ⟨?_, ?_⟩)
  · show (j 0).val < (Pipeline.Clip.of (BitVec.ofNat 32 (i 1).val).toNat 512 5504).extent 512
    rw [tile_nat, extent_min (by omega)]
    omega
  · exact h1

theorem coords_1 : ∀ t : Fin cfg0.N, (grid0.coords t 1).val = t.val % 11 :=
  (fun t => by rw [← Nat.div_one t.val]; exact Pipeline.Grid.coords_val t 1 (by decide) rfl : ∀ t : Fin grid0.N, (grid0.coords t 1).val = t.val % 11)

/-! ## The blocks -/

/-- The rows of the input at a point, -/
def xblk (c : Dev nD) (t : Fin cfg0.N) : Vec F S512x2048 .f32 := iblk m c 0 t
/-- the gain before, -/
def gblk (c : Dev nD) (t : Fin cfg0.N) : Vec F S1x2048 .f32 := iblk m c 1 t
/-- the gain after, -/
def pblk (c : Dev nD) (t : Fin cfg0.N) : Vec F S1x2048 .f32 := iblk m c 5 t
/-- the gate weight's tile, zeros where it overhangs, -/
def wgate (c : Dev nD) (t : Fin cfg0.N) : Vec F S2048x512 .bf16 := (cfg0.win 2).fill (grid0.coords t) (constant S2048x512 .bf16 0x0000#16) (iblk m c 2 t)
/-- the up weight's, -/
def wup (c : Dev nD) (t : Fin cfg0.N) : Vec F S2048x512 .bf16 := (cfg0.win 3).fill (grid0.coords t) (constant S2048x512 .bf16 0x0000#16) (iblk m c 3 t)
/-- and the down weight's. -/
def wdown (c : Dev nD) (t : Fin cfg0.N) : Vec F S512x2048 .bf16 := (cfg0.win 4).fill (grid0.coords t) (constant S512x2048 .bf16 0x0000#16) (iblk m c 4 t)

theorem fill_gate (c : Dev nD) (t : Fin cfg0.N) (d : S2048x512.Idx → Elt F .bf16) (j : S2048x512.Idx) (h : t.val % 11 * 512 + (j 1).val < 5504) :
    (cfg0.win 2).fill (grid0.coords t) d (iblk m c 2 t) j = wgate m c t j := by
  have hm := moved_2 (grid0.coords t) j (by rw [coords_1]; exact h)
  unfold wgate Pipeline.Window.fill
  rw [dif_pos hm, dif_pos hm]

/-- Before the last tile a buffer holds its tile, whatever it held, -/
theorem whole_gate (c : Dev nD) (t : Fin cfg0.N) (h : t.val % 11 ≠ 10) (d : S2048x512.Idx → Elt F .bf16) :
    (cfg0.win 2).fill (grid0.coords t) d (iblk m c 2 t) = wgate m c t :=
  funext fun j => fill_gate m c t d j (by have hj : (j 1).val < 512 := (j 1).isLt; omega)

/-- and at the last what is read of it is the tile's. -/
theorem part_gate (c : Dev nD) (t : Fin cfg0.N) (h : t.val % 11 = 10) (d : S2048x512.Idx → Elt F .bf16) :
    View.ld ((cfg0.win 2).fill (grid0.coords t) d (iblk m c 2 t) : S2048x512.Idx → Elt F .bf16) (Rect.unit (s := S2048x512) ![0, 0] S2048x384.size inb_S2048x512_S2048x384_0_0) = View.ld (wgate m c t) (Rect.unit (s := S2048x512) ![0, 0] S2048x384.size inb_S2048x512_S2048x384_0_0) :=
  funext fun y => fill_gate m c t d _ (by
    have hy : (y 1).val < 384 := (y 1).isLt
    have : (((Rect.unit (s := S2048x512) ![0, 0] S2048x384.size inb_S2048x512_S2048x384_0_0).idx y) 1).val = 0 + 1 * (y 1).val := rfl
    rw [this]; omega)

theorem fill_up (c : Dev nD) (t : Fin cfg0.N) (d : S2048x512.Idx → Elt F .bf16) (j : S2048x512.Idx) (h : t.val % 11 * 512 + (j 1).val < 5504) :
    (cfg0.win 3).fill (grid0.coords t) d (iblk m c 3 t) j = wup m c t j := by
  have hm := moved_3 (grid0.coords t) j (by rw [coords_1]; exact h)
  unfold wup Pipeline.Window.fill
  rw [dif_pos hm, dif_pos hm]

/-- Before the last tile a buffer holds its tile, whatever it held, -/
theorem whole_up (c : Dev nD) (t : Fin cfg0.N) (h : t.val % 11 ≠ 10) (d : S2048x512.Idx → Elt F .bf16) :
    (cfg0.win 3).fill (grid0.coords t) d (iblk m c 3 t) = wup m c t :=
  funext fun j => fill_up m c t d j (by have hj : (j 1).val < 512 := (j 1).isLt; omega)

/-- and at the last what is read of it is the tile's. -/
theorem part_up (c : Dev nD) (t : Fin cfg0.N) (h : t.val % 11 = 10) (d : S2048x512.Idx → Elt F .bf16) :
    View.ld ((cfg0.win 3).fill (grid0.coords t) d (iblk m c 3 t) : S2048x512.Idx → Elt F .bf16) (Rect.unit (s := S2048x512) ![0, 0] S2048x384.size inb_S2048x512_S2048x384_0_0) = View.ld (wup m c t) (Rect.unit (s := S2048x512) ![0, 0] S2048x384.size inb_S2048x512_S2048x384_0_0) :=
  funext fun y => fill_up m c t d _ (by
    have hy : (y 1).val < 384 := (y 1).isLt
    have : (((Rect.unit (s := S2048x512) ![0, 0] S2048x384.size inb_S2048x512_S2048x384_0_0).idx y) 1).val = 0 + 1 * (y 1).val := rfl
    rw [this]; omega)

theorem fill_down (c : Dev nD) (t : Fin cfg0.N) (d : S512x2048.Idx → Elt F .bf16) (j : S512x2048.Idx) (h : t.val % 11 * 512 + (j 0).val < 5504) :
    (cfg0.win 4).fill (grid0.coords t) d (iblk m c 4 t) j = wdown m c t j := by
  have hm := moved_4 (grid0.coords t) j (by rw [coords_1]; exact h)
  unfold wdown Pipeline.Window.fill
  rw [dif_pos hm, dif_pos hm]

/-- Before the last tile a buffer holds its tile, whatever it held, -/
theorem whole_down (c : Dev nD) (t : Fin cfg0.N) (h : t.val % 11 ≠ 10) (d : S512x2048.Idx → Elt F .bf16) :
    (cfg0.win 4).fill (grid0.coords t) d (iblk m c 4 t) = wdown m c t :=
  funext fun j => fill_down m c t d j (by have hj : (j 0).val < 512 := (j 0).isLt; omega)

/-- and at the last what is read of it is the tile's. -/
theorem part_down (c : Dev nD) (t : Fin cfg0.N) (h : t.val % 11 = 10) (d : S512x2048.Idx → Elt F .bf16) :
    View.ld ((cfg0.win 4).fill (grid0.coords t) d (iblk m c 4 t) : S512x2048.Idx → Elt F .bf16) (Rect.unit (s := S512x2048) ![0, 0] S384x2048.size inb_S512x2048_S384x2048_0_0) = View.ld (wdown m c t) (Rect.unit (s := S512x2048) ![0, 0] S384x2048.size inb_S512x2048_S384x2048_0_0) :=
  funext fun y => fill_down m c t d _ (by
    have hy : (y 0).val < 384 := (y 0).isLt
    have : (((Rect.unit (s := S512x2048) ![0, 0] S384x2048.size inb_S512x2048_S384x2048_0_0).idx y) 0).val = 0 + 1 * (y 0).val := rfl
    rw [this]; omega)

/-! ## What the scratch holds after each point -/

/-- The first tile's. -/
def stA (c : Dev nD) (t : Fin cfg0.N) : Vec F S512x2048 .bf16 × Vec F S512x2048 .f32 :=
  (k0_pay5 (xblk m c t) (gblk m c t), k0_pay1 (k0_pay6 (xblk m c t) (gblk m c t) (wgate m c t) (wup m c t)) (k0_pay7 (wdown m c t)) (constant S512x2048 .f32 0x00000000#32))

/-- The normalized rows and the sum after a point: started at a first tile, added to at the tiles between, kept at the last. -/
def st (c : Dev nD) : (n : ℕ) → n < cfg0.N → Vec F S512x2048 .bf16 × Vec F S512x2048 .f32
  | 0, hn => stA m c ⟨0, hn⟩
  | n + 1, hn =>
    if (n + 1) % 11 = 0 then stA m c ⟨n + 1, hn⟩
    else if (n + 1) % 11 = 10 then st c n (Nat.lt_of_succ_lt hn)
    else ((st c n (Nat.lt_of_succ_lt hn)).1, k0_pay2 (st c n (Nat.lt_of_succ_lt hn)).2 (st c n (Nat.lt_of_succ_lt hn)).1 (wgate m c ⟨n + 1, hn⟩) (wup m c ⟨n + 1, hn⟩) (wdown m c ⟨n + 1, hn⟩))

theorem st_A (c : Dev nD) (t : Fin cfg0.N) (h : t.val % 11 = 0) : st m c t.val t.isLt = stA m c t := by
  obtain ⟨n, hn⟩ := t
  cases n with
  | zero => rfl
  | succ n => exact if_pos h

theorem st_B (c : Dev nD) (t : Fin cfg0.N) (h : t.val % 11 ≠ 0) (h' : t.val % 11 ≠ 10) (hl : t.val - 1 < cfg0.N) :
    st m c t.val t.isLt = ((st m c (t.val - 1) hl).1, k0_pay2 (st m c (t.val - 1) hl).2 (st m c (t.val - 1) hl).1 (wgate m c t) (wup m c t) (wdown m c t)) := by
  obtain ⟨n, hn⟩ := t
  cases n with
  | zero => exact absurd (Nat.zero_mod _) h
  | succ n => exact (if_neg h).trans (if_neg h')

theorem st_C (c : Dev nD) (t : Fin cfg0.N) (h : t.val % 11 = 10) (hl : t.val - 1 < cfg0.N) :
    st m c t.val t.isLt = st m c (t.val - 1) hl := by
  obtain ⟨n, hn⟩ := t
  cases n with
  | zero => exact absurd ((Nat.zero_mod _).symm.trans h) (by decide)
  | succ n => exact (if_neg (by dsimp only at h; omega)).trans (if_pos h)

/-- The 384 columns of a wide weight's last tile, -/
abbrev rcol : Rect S2048x512 := Rect.unit (s := S2048x512) ![0, 0] S2048x384.size inb_S2048x512_S2048x384_0_0
/-- the 384 rows of the down weight's. -/
abbrev rrow : Rect S512x2048 := Rect.unit (s := S512x2048) ![0, 0] S384x2048.size inb_S512x2048_S384x2048_0_0

/-- The result at a last tile. -/
def ores (c : Dev nD) (t : Fin cfg0.N) : Vec F S512x2048 .f32 :=
  k0_pay3 (k0_pay8 (xblk m c t)) (k0_pay9 (st m c t.val t.isLt).2 (st m c t.val t.isLt).1 (View.ld (wgate m c t) rcol) (View.ld (wup m c t) rcol) (View.ld (wdown m c t) rrow)) (k0_pay10 (pblk m c t))

/-- The result read off the staging buffers, whatever they hold past the arrays' ends. -/
theorem ores_eq (c : Dev nD) (t : Fin cfg0.N) (h : t.val % 11 = 10) (hl : t.val - 1 < cfg0.N) (d2 : S2048x512.Idx → Elt F .bf16) (d3 : S2048x512.Idx → Elt F .bf16) (d4 : S512x2048.Idx → Elt F .bf16) :
    ores m c t = k0_pay3 (k0_pay8 (xblk m c t)) (k0_pay9 (st m c (t.val - 1) hl).2 (st m c (t.val - 1) hl).1
      (View.ld ((cfg0.win 2).fill (grid0.coords t) d2 (iblk m c 2 t) : S2048x512.Idx → Elt F .bf16) rcol)
      (View.ld ((cfg0.win 3).fill (grid0.coords t) d3 (iblk m c 3 t) : S2048x512.Idx → Elt F .bf16) rcol)
      (View.ld ((cfg0.win 4).fill (grid0.coords t) d4 (iblk m c 4 t) : S512x2048.Idx → Elt F .bf16) rrow)) (k0_pay10 (pblk m c t)) := by
  unfold ores
  rw [st_C m c t h hl, ← part_gate m c t h d2, ← part_up m c t h d3, ← part_down m c t h d4]

/-- The scratch operands: the normalized rows and the sum. -/
abbrev scM0_0 : Memref sig .tc .vmem S512x2048 .bf16 := Memref.whole cc0_scratch0
abbrev scM0_1 : Memref sig .tc .vmem S512x2048 .f32 := Memref.whole cc0_scratch1

/-- The launch's invariant with the scratch operands as memrefs. -/
theorem PhiA0_eq (c : Dev nD) :
    (Pipeline.ΦA spec0 c : FProp F)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Before the first point the scratch holds anything, afterwards what the point before left. -/
def PhiS (c : Dev nD) : (n : ℕ) → n ≤ cfg0.N → FProp F
  | 0, _ => Pipeline.ΦA spec0 c
  | n + 1, hn => iprop(iprop(owns (c : Thread nD τ) scM0_0 fullShare ((st m c n hn).1) ∗ owns (c : Thread nD τ) scM0_1 fullShare ((st m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((st m c n hn).1) ∗ owns (c : Thread nD τ) scM0_1 fullShare ((st m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((st m c (n - 1) (by omega)).1) ∗ owns (c : Thread nD τ) scM0_1 fullShare ((st m c (n - 1) (by omega)).2)) ∗ (∃ r, prngReg c r)) := by
  cases n with
  | zero => exact absurd rfl hz
  | succ n => rfl

/-- The proof data: the arrays as the region finds them, an input's buffer at its block (a weight's at its tile), the result's at `ores`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wgate m c t
    | ⟨3, _⟩ => wup m c t
    | ⟨4, _⟩ => wdown m c t
    | ⟨5, _⟩ => iblk m c 5 t
    | ⟨6, _⟩ => ores m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wgate m c t := by dsimp only [dats]
theorem after0_3 (c : Dev nD) (t : Fin cfg0.N) : (dats m 0 c).after 3 t = wup m c t := by dsimp only [dats]
theorem after0_4 (c : Dev nD) (t : Fin cfg0.N) : (dats m 0 c).after 4 t = wdown m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = ores m c t := by dsimp only [dats]

theorem before0_0 (c : Dev nD) (t : Fin cfg0.N) (d) : (dats m 0 c).before 0 t d = xblk m c t :=
  before0_0_of m (dats m 0 c) (A_eq m c 0) (after0_0 m c) t d
theorem before0_1 (c : Dev nD) (t : Fin cfg0.N) (d) : (dats m 0 c).before 1 t d = gblk m c t :=
  before0_1_of m (dats m 0 c) (A_eq m c 1) (after0_1 m c) t d
theorem before0_5 (c : Dev nD) (t : Fin cfg0.N) (d) : (dats m 0 c).before 5 t d = pblk m c t :=
  before0_5_of m (dats m 0 c) (A_eq m c 5) (after0_5 m c) t d
theorem before0_2 (c : Dev nD) (t : Fin cfg0.N) (d) : (dats m 0 c).before 2 t d = (cfg0.win 2).fill (grid0.coords t) d (iblk m c 2 t) := by
  unfold Dat.before; rw [if_pos (fetch0_2 t)]; rfl
theorem before0_3 (c : Dev nD) (t : Fin cfg0.N) (d) : (dats m 0 c).before 3 t d = (cfg0.win 3).fill (grid0.coords t) d (iblk m c 3 t) := by
  unfold Dat.before; rw [if_pos (fetch0_3 t)]; rfl
theorem before0_4 (c : Dev nD) (t : Fin cfg0.N) (d) : (dats m 0 c).before 4 t d = (cfg0.win 4).fill (grid0.coords t) d (iblk m c 4 t) := by
  unfold Dat.before; rw [if_pos (fetch0_4 t)]; rfl

/-! ## The body at every point -/

/-- What the body is called with at a point, window by window, -/
def bodyPre (c : Dev nD) (t : Fin cfg0.N) : FProp F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- what it returns in the result's window: the buffer untouched, or at a last tile the result, -/
def post6 (c : Dev nD) (t : Fin cfg0.N) : FProp F :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

/-- and in all of them. -/
def bodyPost (c : Dev nD) (t : Fin cfg0.N) : FProp F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (grid0.coords t) d ((cfg0.win 2).cut (grid0.coords t) ((dats m 0 c).after 2 t))))
    ∗ (∃ d, owns (c : Thread nD τ) (st0_3 t) fullShare ((cfg0.win 3).fill (grid0.coords t) d ((cfg0.win 3).cut (grid0.coords t) ((dats m 0 c).after 3 t))))
    ∗ (∃ d, owns (c : Thread nD τ) (st0_4 t) fullShare ((cfg0.win 4).fill (grid0.coords t) d ((cfg0.win 4).cut (grid0.coords t) ((dats m 0 c).after 4 t))))
    ∗ owns (c : Thread nD τ) (st0_5 t) fullShare ((dats m 0 c).after 5 t)
    ∗ post6 m c t)

theorem post6_last (c : Dev nD) (t : Fin cfg0.N) (h : t.val % 11 = 10) :
    post6 m c t = owns (c : Thread nD τ) (st0_6 t) fullShare (ores m c t) := by
  have hi : cfg0.idle 6 (cfg0.grid.coords t) = false := by
    show (!(k0_cond3 (grid0.coords t) == 1#1)) = false
    rw [(hcondC t).mpr h]; rfl
  unfold post6
  rw [hi, after0_6]

theorem post6_idle (c : Dev nD) (t : Fin cfg0.N) (h : t.val % 11 ≠ 10) :
    post6 m c t = iprop(∃ d, owns (c : Thread nD τ) (st0_6 t) fullShare ((dats m 0 c).before 6 t d)) := by
  have hi : cfg0.idle 6 (cfg0.grid.coords t) = true := by
    show (!(k0_cond3 (grid0.coords t) == 1#1)) = true
    rw [Bool.not_eq_true', beq_eq_false_iff_ne]
    exact fun hc => h ((hcondC t).mp hc)
  have hf : (cfg0.win 6).flush t = false := by
    rw [Bool.eq_false_iff]; exact fun hc => h ((flush0_6 t).mp hc)
  unfold post6
  rw [hi, hf]

theorem cut_2 (c : Dev nD) (t : Fin cfg0.N) : (cfg0.win 2).cut (grid0.coords t) (wgate m c t) = iblk m c 2 t := (cfg0.win 2).cut_fill _ _ _
theorem cut_3 (c : Dev nD) (t : Fin cfg0.N) : (cfg0.win 3).cut (grid0.coords t) (wup m c t) = iblk m c 3 t := (cfg0.win 3).cut_fill _ _ _
theorem cut_4 (c : Dev nD) (t : Fin cfg0.N) : (cfg0.win 4).cut (grid0.coords t) (wdown m c t) = iblk m c 4 t := (cfg0.win 4).cut_fill _ _ _

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 704 := lt_of_lt_of_eq t.isLt (show cfg0.N = 704 from N_0)
  have hl : t.val - 1 < cfg0.N := Nat.lt_of_le_of_lt (Nat.sub_le _ _) t.isLt
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, cut_2, cut_3, cut_4]
  rw [show (dats m 0 c).Φ t.succ = PhiS m c (t.val + 1) t.isLt from rfl, PhiS_succ, PhiS_castSucc m c t]
  by_cases h0 : t.val % 11 = 0
  · have hC : t.val % 11 ≠ 10 := by omega
    rw [post6_idle m c t hC, st_A m c t h0]
    by_cases hz : t.val = 0
    · rw [PhiS_zero m c _ _ hz, PhiA0_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      rw [whole_gate m c t hC d2, whole_up m c t hC d3, whole_down m c t hC d4]
      iapply (run_A c (grid0.coords t) _ _ _ _ _ _ _ _ _ _ _ _ _ _ _ _ _ _ ((hcondA t).mpr h0) (fun hb => ((hcondB t).mp hb).1 h0) (fun hc => hC ((hcondC t).mp hc)) (xblk m c t) (gblk m c t) (wgate m c t) (wup m c t) (wdown m c t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexists d2; rw [whole_gate m c t hC d2]; iexact H2
      isplitl [H3]; · iexists d3; rw [whole_up m c t hC d3]; iexact H3
      isplitl [H4]; · iexists d4; rw [whole_down m c t hC d4]; iexact H4
      isplitl [H5]; · iexact H5
      iexists d6; iexact H6
    · rw [PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      rw [whole_gate m c t hC d2, whole_up m c t hC d3, whole_down m c t hC d4]
      iapply (run_A c (grid0.coords t) _ _ _ _ _ _ _ _ _ _ _ _ _ _ _ _ _ _ ((hcondA t).mpr h0) (fun hb => ((hcondB t).mp hb).1 h0) (fun hc => hC ((hcondC t).mp hc)) (xblk m c t) (gblk m c t) (wgate m c t) (wup m c t) (wdown m c t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexists d2; rw [whole_gate m c t hC d2]; iexact H2
      isplitl [H3]; · iexists d3; rw [whole_up m c t hC d3]; iexact H3
      isplitl [H4]; · iexists d4; rw [whole_down m c t hC d4]; iexact H4
      isplitl [H5]; · iexact H5
      iexists d6; iexact H6
  · rw [PhiS_pos m c _ _ (by rintro hz; rw [hz] at h0; exact h0 rfl)]
    by_cases hC : t.val % 11 = 10
    · rw [post6_last m c t hC, st_C m c t hC hl]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_C c (grid0.coords t) _ _ _ _ _ _ _ _ _ _ _ _ _ _ _ _ _ _ (fun ha => h0 ((hcondA t).mp ha)) (fun hb => ((hcondB t).mp hb).2 hC) ((hcondC t).mpr hC) (xblk m c t) ((cfg0.win 2).fill (grid0.coords t) d2 (iblk m c 2 t)) ((cfg0.win 3).fill (grid0.coords t) d3 (iblk m c 3 t)) ((cfg0.win 4).fill (grid0.coords t) d4 (iblk m c 4 t)) (pblk m c t) _ _ _ Set.univ _)
      isplitl [H0]; · iexact H0
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H2, H3, H4, H5, H6, HS0, HS1⟩
      rw [ores_eq m c t hC hl d2 d3 d4]
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexists d2; iexact H2
      isplitl [H3]; · iexists d3; iexact H3
      isplitl [H4]; · iexists d4; iexact H4
      isplitl [H5]; · iexact H5
      iexact H6
    · rw [post6_idle m c t hC, st_B m c t h0 hC hl]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      rw [whole_gate m c t hC d2, whole_up m c t hC d3, whole_down m c t hC d4]
      iapply (run_B c (grid0.coords t) _ _ _ _ _ _ _ _ _ _ _ _ _ _ _ _ _ _ (fun ha => h0 ((hcondA t).mp ha)) ((hcondB t).mpr ⟨h0, hC⟩) (fun hc => hC ((hcondC t).mp hc)) (wgate m c t) (wup m c t) (wdown m c t) _ _ Set.univ _)
      isplitl [H2]; · iexact H2
      isplitl [H3]; · iexact H3
      isplitl [H4]; · iexact H4
      isplitl [HS0]; · iexact HS0
      isplitl [HS1]; · iexact HS1
      iintro ⟨H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexists d2; rw [whole_gate m c t hC d2]; iexact H2
      isplitl [H3]; · iexists d3; rw [whole_up m c t hC d3]; iexact H3
      isplitl [H4]; · iexists d4; rw [whole_down m c t hC d4]; iexact H4
      isplitl [H5]; · iexact H5
      iexists d6; iexact H6

theorem defs₀_row (t : Fin cfg0.N) :
    defs₀ (F := F) .tc cfg0.body (cfg0.bodyArgs t (cfg0.slots t)) = bodyAt0 t := by
  unfold defs₀; rw [Defs.onTc_tc]

/-- The library's body obligation, the overhanging windows on the part their transfers move. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 704 := N_0; omega)

theorem share_full (c : Dev nD) (w : Fin cfg0.W) : (dats m 0 c).share w = fullShare := by
  unfold Dat.share; split <;> rfl

set_option backward.isDefEq.respectTransparency.types false in
/-- THE LAUNCH: every fair execution ends with the pipeline's arrays at what the proof data says, every other unscoped buffer as the region
    found it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := share_full m)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.Ffn.lean ====
module

public import proofs.«01_k».proof.Proof.FFrame
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

/-!
  THE FEED-FORWARD KERNEL in exact arithmetic: one row of it, and what the scratch buffers and the output block hold of each row.
-/

namespace Cert.Ffn

/-- The factor a row of sum of squares `s` is scaled by, -/
def rs (s : EReal) : EReal := Ideal.rsqrt (Ideal.div s (Ideal.ofBits .f32 1157627904#32) + Ideal.ofBits .f32 897988541#32)
/-- a row scaled, with a gain, -/
def nrm (v g : Fin 2048 → EReal) (k : Fin 2048) : EReal := v k * rs (∑ x, v x * v x) * g k
/-- the gated activation, -/
def act (a b : EReal) : EReal := a * Ideal.div 1 (1 + Ideal.exp (0 - a)) * b
/-- one hidden unit's share of an output column, -/
def part (h : Fin 2048 → EReal) (wg wu wd : ℕ → Fin 2048 → EReal) (n : Fin 2048) (j : ℕ) : EReal :=
  act (∑ x, h x * wg j x) (∑ x, h x * wu j x) * wd j n
/-- the first `N` hidden units', -/
def down (h : Fin 2048 → EReal) (wg wu wd : ℕ → Fin 2048 → EReal) (N : ℕ) (n : Fin 2048) : EReal :=
  ∑ j ∈ Finset.range N, part h wg wu wd n j
/-- and the row the layer gives. -/
def row (x g p : Fin 2048 → EReal) (wg wu wd : ℕ → Fin 2048 → EReal) (n : Fin 2048) : EReal :=
  x n + Ideal.ofBits .f32 1056964608#32 * (down (nrm x g) wg wu wd 5504 n * rs (∑ y, down (nrm x g) wg wu wd 5504 y * down (nrm x g) wg wu wd 5504 y) * p n)

end Cert.Ffn

namespace Cert.Kernel2Ideal.Gen
open Cert.Ffn

theorem pay4_apply (x : Vec Ideal S512x2048 .f32) (g : Vec Ideal S1x2048 .f32) (r : Fin 512) (k : Fin 2048) :
    (k0_pay4 x g (ix2 r k) : EReal) = nrm (fun k => (x (ix2 r k) : EReal)) (fun k => (g (ix2 0 k) : EReal)) k := by
  pointwise [k0_pay4]
  rfl

theorem pay5_apply (x : Vec Ideal S512x2048 .f32) (g : Vec Ideal S1x2048 .f32) (r : Fin 512) (k : Fin 2048) :
    (k0_pay5 x g (ix2 r k) : EReal) = nrm (fun k => (x (ix2 r k) : EReal)) (fun k => (g (ix2 0 k) : EReal)) k := by
  rw [← pay4_apply]
  unfold k0_pay5
  generalize k0_pay4 x g = h
  pointwise []

theorem pay6_apply (x : Vec Ideal S512x2048 .f32) (g : Vec Ideal S1x2048 .f32) (wg wu : Vec Ideal S2048x512 .bf16) (r : Fin 512) (j : Fin 512) :
    (k0_pay6 x g wg wu (ix2 r j) : EReal) = act (∑ y, nrm (fun k => (x (ix2 r k) : EReal)) (fun k => (g (ix2 0 k) : EReal)) y * (wg (ix2 y j) : EReal)) (∑ y, nrm (fun k => (x (ix2 r k) : EReal)) (fun k => (g (ix2 0 k) : EReal)) y * (wu (ix2 y j) : EReal)) := by
  have e := pay4_apply x g r
  unfold k0_pay6
  simp only [← e]
  clear e
  generalize k0_pay4 x g = h
  pointwise []
  rfl

theorem pay1_apply (p : FVec Ideal S512x512 .bf16) (d : Vec Ideal S512x2048 .bf16) (r : Fin 512) (n : Fin 2048) :
    (k0_pay1 p (k0_pay7 d) (constant S512x2048 .f32 0x00000000#32) (ix2 r n) : EReal) = ∑ j, (p (ix2 r j) : EReal) * (d (ix2 j n) : EReal) := by
  pointwise [k0_pay1, k0_pay7]

theorem pay2_apply (a : Vec Ideal S512x2048 .f32) (h : Vec Ideal S512x2048 .bf16) (wg wu : Vec Ideal S2048x512 .bf16) (d : Vec Ideal S512x2048 .bf16) (r : Fin 512) (n : Fin 2048) :
    (k0_pay2 a h wg wu d (ix2 r n) : EReal) = (a (ix2 r n) : EReal) + ∑ j, act (∑ y, (h (ix2 r y) : EReal) * (wg (ix2 y j) : EReal)) (∑ y, (h (ix2 r y) : EReal) * (wu (ix2 y j) : EReal)) * (d (ix2 j n) : EReal) := by
  pointwise [k0_pay2]
  rfl

theorem pay9_apply (a : Vec Ideal S512x2048 .f32) (h : Vec Ideal S512x2048 .bf16) (wg wu : Vec Ideal S2048x384 .bf16) (d : Vec Ideal S384x2048 .bf16) (r : Fin 512) (n : Fin 2048) (D : Fin 2048 → EReal)
    (hD : ∀ n, D n = (a (ix2 r n) : EReal) + ∑ j, act (∑ y, (h (ix2 r y) : EReal) * (wg (ix2 y j) : EReal)) (∑ y, (h (ix2 r y) : EReal) * (wu (ix2 y j) : EReal)) * (d (ix2 j n) : EReal)) :
    (k0_pay9 a h wg wu d (ix2 r n) : EReal) = D n * rs (∑ y, D y * D y) := by
  simp only [hD]
  pointwise [k0_pay9]
  rfl

theorem pay3_apply (x : Vec Ideal S512x2048 .f32) (y : Vec Ideal S512x2048 .f32) (g : Vec Ideal S1x2048 .f32) (r : Fin 512) (n : Fin 2048) :
    (k0_pay3 (k0_pay8 x) y (k0_pay10 g) (ix2 r n) : EReal) = (x (ix2 r n) : EReal) + Ideal.ofBits .f32 1056964608#32 * ((y (ix2 r n) : EReal) * (g (ix2 0 n) : EReal)) := by
  pointwise [k0_pay3, k0_pay8, k0_pay10]

end Cert.Kernel2Ideal.Gen
end
-- ==== Proof.FKern.lean ====
module

public import proofs.«01_k».proof.Proof.Ffn

@[expose] public section

set_option maxRecDepth 16384

noncomputable section

open Idealize.ShloMosaic Idealize.ShloMosaic.TcCoe Idealize.SL.Sem

/-!
  THE FEED-FORWARD KERNEL'S RESULT, index by index, in exact arithmetic.
-/

namespace Cert.Kernel2Ideal.Gen
open Cert.Ffn
variable (m : (ℓ : Loc nD τ sig) → Buf (Elt Ideal) ℓ) (c : Dev nD)

/-- The windows' blocks, by grid point. -/
theorem idxs : ∀ t : Fin grid0.N,
    win0_0.index t (0 : Fin 2) = t.val / 11 ∧ win0_0.index t (1 : Fin 2) = 0 ∧ win0_1.index t (0 : Fin 2) = 0 ∧ win0_1.index t (1 : Fin 2) = 0
    ∧ win0_2.index t (0 : Fin 2) = 0 ∧ win0_2.index t (1 : Fin 2) = t.val % 11 ∧ win0_3.index t (0 : Fin 2) = 0 ∧ win0_3.index t (1 : Fin 2) = t.val % 11
    ∧ win0_4.index t (0 : Fin 2) = t.val % 11 ∧ win0_4.index t (1 : Fin 2) = 0 ∧ win0_5.index t (0 : Fin 2) = 0 ∧ win0_5.index t (1 : Fin 2) = 0
    ∧ win0_6.index t (0 : Fin 2) = t.val / 11 ∧ win0_6.index t (1 : Fin 2) = 0 := by
  decide +kernel

/-- The rows of the input, -/
def xrow (R : ℕ) (k : Fin 2048) : EReal := (V m c main_v0 : FVec Ideal S32768x2048 .f32) (ix2 (Fin.ofNat 32768 R) k)
/-- the gains, -/
def gpre (k : Fin 2048) : EReal := (V m c main_v1 : FVec Ideal S1x2048 .f32) (ix2 0 k)
def gpost (k : Fin 2048) : EReal := (V m c main_v5 : FVec Ideal S1x2048 .f32) (ix2 0 k)
/-- and the weights, by hidden unit. -/
def uGate (j : ℕ) (k : Fin 2048) : EReal := (V m c main_v2 : FVec Ideal S2048x5504 .bf16) (ix2 k (Fin.ofNat 5504 j))
def uUp (j : ℕ) (k : Fin 2048) : EReal := (V m c main_v3 : FVec Ideal S2048x5504 .bf16) (ix2 k (Fin.ofNat 5504 j))
def uDown (j : ℕ) (k : Fin 2048) : EReal := (V m c main_v4 : FVec Ideal S5504x2048 .bf16) (ix2 (Fin.ofNat 5504 j) k)

theorem xblk_apply (t : Fin cfg0.N) (r : Fin 512) (k : Fin 2048) : (xblk m c t (ix2 r k) : EReal) = xrow m c (t.val / 11 * 512 + r.val) k := by
  have hI := idxs t
  have ht : t.val < 704 := lt_of_lt_of_eq t.isLt N_0
  unfold xrow xblk
  show V m c main_v0 _ = V m c main_v0 _
  congr 1
  blk_ext [hI]
  all_goals (simp [ix2, Fin.ofNat]; try omega)

theorem gblk_apply (t : Fin cfg0.N) (k : Fin 2048) : (gblk m c t (ix2 0 k) : EReal) = gpre m c k := by
  have hI := idxs t
  unfold gpre gblk
  show V m c main_v1 _ = V m c main_v1 _
  congr 1
  blk_ext [hI]

theorem pblk_apply (t : Fin cfg0.N) (k : Fin 2048) : (pblk m c t (ix2 0 k) : EReal) = gpost m c k := by
  have hI := idxs t
  unfold gpost pblk
  show V m c main_v5 _ = V m c main_v5 _
  congr 1
  blk_ext [hI]

theorem wgate_apply (t : Fin cfg0.N) (k : Fin 2048) (j : Fin 512) (h : t.val % 11 * 512 + j.val < 5504) : (wgate m c t (ix2 k j) : EReal) = uGate m c (t.val % 11 * 512 + j.val) k := by
  have hI := idxs t
  have hm := moved_2 (grid0.coords t) (ix2 k j) (by rw [coords_1]; exact h)
  unfold uGate wgate Pipeline.Window.fill
  rw [dif_pos hm]
  show V m c main_v2 _ = V m c main_v2 _
  congr 1
  blk_ext [hI]
  all_goals (simp [ix2, Fin.ofNat]; try omega)

theorem wup_apply (t : Fin cfg0.N) (k : Fin 2048) (j : Fin 512) (h : t.val % 11 * 512 + j.val < 5504) : (wup m c t (ix2 k j) : EReal) = uUp m c (t.val % 11 * 512 + j.val) k := by
  have hI := idxs t
  have hm := moved_3 (grid0.coords t) (ix2 k j) (by rw [coords_1]; exact h)
  unfold uUp wup Pipeline.Window.fill
  rw [dif_pos hm]
  show V m c main_v3 _ = V m c main_v3 _
  congr 1
  blk_ext [hI]
  all_goals (simp [ix2, Fin.ofNat]; try omega)

theorem wdown_apply (t : Fin cfg0.N) (j : Fin 512) (k : Fin 2048) (h : t.val % 11 * 512 + j.val < 5504) : (wdown m c t (ix2 j k) : EReal) = uDown m c (t.val % 11 * 512 + j.val) k := by
  have hI := idxs t
  have hm := moved_4 (grid0.coords t) (ix2 j k) (by rw [coords_1]; exact h)
  unfold uDown wdown Pipeline.Window.fill
  rw [dif_pos hm]
  show V m c main_v4 _ = V m c main_v4 _
  congr 1
  blk_ext [hI]
  all_goals (simp [ix2, Fin.ofNat]; try omega)

/-- The normalized row, -/
abbrev hrow (R : ℕ) : Fin 2048 → EReal := nrm (xrow m c R) (gpre m c)

/-- and a tile's hidden units' share. -/
theorem tile_sum (R q L : ℕ) (n : Fin 2048) (f : Fin L → EReal)
    (hf : ∀ j : Fin L, f j = part (hrow m c R) (uGate m c) (uUp m c) (uDown m c) n (q * 512 + j.val)) :
    down (hrow m c R) (uGate m c) (uUp m c) (uDown m c) (q * 512) n + ∑ j, f j = down (hrow m c R) (uGate m c) (uUp m c) (uDown m c) (q * 512 + L) n := by
  unfold down
  rw [Finset.sum_range_add, Finset.sum_range (fun x => part (hrow m c R) (uGate m c) (uUp m c) (uDown m c) n (q * 512 + x))]
  exact congrArg _ (Finset.sum_congr rfl fun j _ => hf j)

theorem first_1 (t : Fin cfg0.N) (r : Fin 512) (k : Fin 2048) :
    ((stA m c t).1 (ix2 r k) : EReal) = hrow m c (t.val / 11 * 512 + r.val) k := by
  unfold stA
  refine (pay5_apply _ _ r k).trans ?_
  simp only [xblk_apply, gblk_apply]

theorem first_2 (t : Fin cfg0.N) (h : t.val % 11 = 0) (r : Fin 512) (n : Fin 2048) :
    ((stA m c t).2 (ix2 r n) : EReal) = down (hrow m c (t.val / 11 * 512 + r.val)) (uGate m c) (uUp m c) (uDown m c) (0 * 512 + 512) n := by
  unfold stA
  refine (pay1_apply _ _ r n).trans ?_
  have e0 : down (hrow m c (t.val / 11 * 512 + r.val)) (uGate m c) (uUp m c) (uDown m c) (0 * 512) n = 0 := by
    unfold down; rw [Nat.zero_mul, Finset.sum_range_zero]
  refine (zero_add _).symm.trans ((congrArg (· + _) e0.symm).trans (tile_sum m c _ 0 512 n _ fun j => ?_))
  refine (congrArg (· * _) (pay6_apply _ _ _ _ r j)).trans ?_
  simp only [xblk_apply, gblk_apply]
  have hj : t.val % 11 * 512 + j.val < 5504 := by omega
  simp only [wgate_apply m c t _ j hj, wup_apply m c t _ j hj, wdown_apply m c t j _ hj, h]
  rfl

/-- What the scratch holds after a point. -/
theorem st_rows (n : ℕ) (hn : n < cfg0.N) (r : Fin 512) :
    (∀ k : Fin 2048, ((st m c n hn).1 (ix2 r k) : EReal) = hrow m c (n / 11 * 512 + r.val) k)
    ∧ (∀ k : Fin 2048, ((st m c n hn).2 (ix2 r k) : EReal) = down (hrow m c (n / 11 * 512 + r.val)) (uGate m c) (uUp m c) (uDown m c) (min (n % 11 + 1) 10 * 512) k) := by
  induction n using Nat.strongRecOn with
  | ind n ih =>
    by_cases hA : n % 11 = 0
    · have e := st_A m c ⟨n, hn⟩ hA
      dsimp only at e
      rw [e]
      refine ⟨first_1 m c ⟨n, hn⟩ r, fun k => (first_2 m c ⟨n, hn⟩ hA r k).trans ?_⟩
      rw [hA]; rfl
    · have hl : n - 1 < cfg0.N := by omega
      obtain ⟨i1, i2⟩ := ih (n - 1) (by omega) hl
      have hd : (n - 1) / 11 = n / 11 := by omega
      have hq : (n - 1) % 11 + 1 = n % 11 := by omega
      rw [hd] at i1 i2
      rw [hq] at i2
      by_cases hC : n % 11 = 10
      · have e := st_C m c ⟨n, hn⟩ hC hl
        dsimp only at e
        rw [e]
        refine ⟨i1, fun k => (i2 k).trans ?_⟩
        rw [hC]; rfl
      · have e := st_B m c ⟨n, hn⟩ hA hC hl
        dsimp only at e
        rw [e]
        refine ⟨i1, fun k => (pay2_apply _ _ _ _ _ r k).trans ?_⟩
        have hb : n % 11 < 10 := by omega
        rw [i2 k, Nat.min_eq_left (by omega), Nat.min_eq_left (by omega), Nat.succ_mul]
        refine tile_sum m c _ (n % 11) 512 k _ fun j => ?_
        have hj : (⟨n, hn⟩ : Fin cfg0.N).val % 11 * 512 + j.val < 5504 := by dsimp only; omega
        simp only [wgate_apply m c ⟨n, hn⟩ _ j hj, wup_apply m c ⟨n, hn⟩ _ j hj, wdown_apply m c ⟨n, hn⟩ j _ hj, i1]
        rfl

/-- The result's block at a last tile. -/
theorem ores_apply (t : Fin cfg0.N) (h : t.val % 11 = 10) (r : Fin 512) (n : Fin 2048) :
    (ores m c t (ix2 r n) : EReal) = row (xrow m c (t.val / 11 * 512 + r.val)) (gpre m c) (gpost m c) (uGate m c) (uUp m c) (uDown m c) n := by
  obtain ⟨s1, s2⟩ := st_rows m c t.val t.isLt r
  unfold ores
  refine (pay3_apply _ _ _ r n).trans ?_
  rw [pay9_apply _ _ _ _ _ r n (down (hrow m c (t.val / 11 * 512 + r.val)) (uGate m c) (uUp m c) (uDown m c) 5504) (fun k => ?_)]
  · rw [xblk_apply, pblk_apply]; rfl
  · rw [s2 k, h]
    refine (tile_sum m c _ 10 384 k _ fun j => ?_).symm
    have hj : t.val % 11 * 512 + j.val < 5504 := by omega
    have g1 : ∀ y, (View.ld (wgate m c t) rcol (ix2 y j) : EReal) = uGate m c (10 * 512 + j.val) y := fun y => by
      have := wgate_apply m c t y ⟨j.val, by omega⟩ hj
      rw [h] at this
      rw [← this]
      unfold View.ld
      congr 1
      funext a; apply Fin.ext
      match a with
      | ⟨0, _⟩ => show 0 + 1 * y.val = y.val; omega
      | ⟨1, _⟩ => show 0 + 1 * j.val = j.val; omega
    have g2 : ∀ y, (View.ld (wup m c t) rcol (ix2 y j) : EReal) = uUp m c (10 * 512 + j.val) y := fun y => by
      have := wup_apply m c t y ⟨j.val, by omega⟩ hj
      rw [h] at this
      rw [← this]
      unfold View.ld
      congr 1
      funext a; apply Fin.ext
      match a with
      | ⟨0, _⟩ => show 0 + 1 * y.val = y.val; omega
      | ⟨1, _⟩ => show 0 + 1 * j.val = j.val; omega
    have g3 : (View.ld (wdown m c t) rrow (ix2 j k) : EReal) = uDown m c (10 * 512 + j.val) k := by
      have := wdown_apply m c t ⟨j.val, by omega⟩ k hj
      rw [h] at this
      rw [← this]
      unfold View.ld
      congr 1
      funext a; apply Fin.ext
      match a with
      | ⟨0, _⟩ => show 0 + 1 * j.val = j.val; omega
      | ⟨1, _⟩ => show 0 + 1 * k.val = k.val; omega
    simp only [g1, g2, s1]
    rw [g3]
    rfl

/-! ## The array after the run -/

/-- The result. -/
def G6 : Buf (Elt Ideal) ((c : Thread nD τ).loc main_v6) := fun i =>
  row (xrow m c (i 0).val) (gpre m c) (gpost m c) (uGate m c) (uUp m c) (uDown m c) (Fin.ofNat 2048 (i 1).val)

/-- What a last tile's point writes back is its block of the result. -/
theorem flushed6_eq (t : Fin cfg0.N) (hf : (cfg0.win 6).flush t = true) :
    (dats m 0 c).flushed 6 t = ((cfg0.win 6).blk t).view.read (Elt Ideal) (G6 m c) := by
  have hl := (flush0_6 t).mp hf
  have hI := idxs t
  show (cfg0.win 6).cut (grid0.coords t) ((dats m 0 c).after 6 t) = _
  rw [after0_6]
  funext y
  have hy0 : (y 0).val < 512 := (y 0).isLt
  have hy1 : (y 1).val < 2048 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  have hx : (cfg0.win 6).xinj (grid0.coords t) y = ix2 ⟨(y 0).val, hy0⟩ ⟨(y 1).val, hy1⟩ := by
    funext a; apply Fin.ext
    match a with
    | ⟨0, _⟩ => rfl
    | ⟨1, _⟩ => rfl
  show ores m c t ((cfg0.win 6).xinj (grid0.coords t) y) = G6 m c (((cfg0.win 6).blk t).view.emb y)
  rw [hx]
  refine (ores_apply m c t hl ⟨(y 0).val, hy0⟩ ⟨(y 1).val, hy1⟩).trans ?_
  unfold G6
  rw [show (((cfg0.win 6).blk t).view.emb y 0).val = t.val / 11 * 512 + (y 0).val by omega]
  rw [show (Fin.ofNat 2048 (((cfg0.win 6).blk t).view.emb y 1).val) = ⟨(y 1).val, hy1⟩ from Fin.ext (by
    show (((cfg0.win 6).blk t).view.emb y 1).val % 2048 = (y 1).val; omega)]

/-- The written blocks cover the array. -/
theorem cover6 (i : S32768x2048.Idx) : ∃ t : Fin cfg0.N, (cfg0.win 6).flush t = true ∧ i ∈ ((cfg0.win 6).blk t).view.set := by
  have hi0 : (i 0).val < 32768 := (i 0).isLt
  have hi1 : (i 1).val < 2048 := (i 1).isLt
  have hlt : 11 * ((i 0).val / 512) + 10 < cfg0.N := lt_of_lt_of_eq (by omega) N_0.symm
  have hI := idxs ⟨11 * ((i 0).val / 512) + 10, hlt⟩
  refine ⟨⟨11 * ((i 0).val / 512) + 10, hlt⟩, (flush0_6 _).mpr (by dsimp only; omega), ?_⟩
  generalize ht : (⟨11 * ((i 0).val / 512) + 10, hlt⟩ : Fin cfg0.N) = t at hI
  have hv : t.val = 11 * ((i 0).val / 512) + 10 := by rw [← ht]
  show i ∈ ((View.whole main_v6).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

theorem final6 : (dats m 0 c).arrAt 6 cfg0.N = G6 m c :=
  (dats m 0 c).arrAt_eq_of_cover 6 _ (fun t hf => flushed6_eq m c t hf) (fun i => cover6 i)

/-! ## The operands, of the arguments -/

theorem xrow_eq (R : Fin 32768) (k : Fin 2048) : xrow m c R.val k = ((m ((c.tc : Thread nD τ).loc main_arg0) : FVec Ideal S16x2048x2048 .f32) (ix3 ⟨R.val / 2048, by omega⟩ ⟨R.val % 2048, by omega⟩ k) : EReal) := by
  unfold xrow
  rw [show Fin.ofNat 32768 R.val = R from Fin.ext (Nat.mod_eq_of_lt R.isLt)]
  entry_read
  pointwise

theorem gpre_eq (k : Fin 2048) : gpre m c k = ((m ((c.tc : Thread nD τ).loc main_arg1) : FVec Ideal S2048 .f32) (ix1 k) : EReal) := by
  unfold gpre
  entry_read
  pointwise

theorem gpost_eq (k : Fin 2048) : gpost m c k = ((m ((c.tc : Thread nD τ).loc main_arg5) : FVec Ideal S2048 .f32) (ix1 k) : EReal) := by
  unfold gpost
  entry_read
  pointwise

theorem uGate_eq (j : ℕ) (k : Fin 2048) : uGate m c j k = ((m ((c.tc : Thread nD τ).loc main_arg2) : FVec Ideal S2048x5504 .f32) (ix2 k (Fin.ofNat 5504 j)) : EReal) := by
  unfold uGate
  entry_read
  pointwise

theorem uUp_eq (j : ℕ) (k : Fin 2048) : uUp m c j k = ((m ((c.tc : Thread nD τ).loc main_arg3) : FVec Ideal S2048x5504 .f32) (ix2 k (Fin.ofNat 5504 j)) : EReal) := by
  unfold uUp
  entry_read
  pointwise

theorem uDown_eq (j : ℕ) (k : Fin 2048) : uDown m c j k = ((m ((c.tc : Thread nD τ).loc main_arg4) : FVec Ideal S5504x2048 .f32) (ix2 (Fin.ofNat 5504 j) k) : EReal) := by
  unfold uDown
  entry_read
  pointwise

/-! ## The run -/

variable (ρ : Dev nD → PrngReg)

theorem kept0 (r : PUnit × MemSt nD τ sig (Elt Ideal)) (h : Pipeline.FramePost cfgs (dats m) 0 (V m) r) :
    r.2.mem ((c : Thread nD τ).loc main_arg0) = m ((c : Thread nD τ).loc main_arg0) :=
  ((h c).2 main_arg0 (Pipeline.mem_restRefs_of main_arg0 (by decide) (by decide))).trans (V_main_arg0 m c)
theorem kept1 (r : PUnit × MemSt nD τ sig (Elt Ideal)) (h : Pipeline.FramePost cfgs (dats m) 0 (V m) r) :
    r.2.mem ((c : Thread nD τ).loc main_arg1) = m ((c : Thread nD τ).loc main_arg1) :=
  ((h c).2 main_arg1 (Pipeline.mem_restRefs_of main_arg1 (by decide) (by decide))).trans (V_main_arg1 m c)
theorem kept2 (r : PUnit × MemSt nD τ sig (Elt Ideal)) (h : Pipeline.FramePost cfgs (dats m) 0 (V m) r) :
    r.2.mem ((c : Thread nD τ).loc main_arg2) = m ((c : Thread nD τ).loc main_arg2) :=
  ((h c).2 main_arg2 (Pipeline.mem_restRefs_of main_arg2 (by decide) (by decide))).trans (V_main_arg2 m c)
theorem kept3 (r : PUnit × MemSt nD τ sig (Elt Ideal)) (h : Pipeline.FramePost cfgs (dats m) 0 (V m) r) :
    r.2.mem ((c : Thread nD τ).loc main_arg3) = m ((c : Thread nD τ).loc main_arg3) :=
  ((h c).2 main_arg3 (Pipeline.mem_restRefs_of main_arg3 (by decide) (by decide))).trans (V_main_arg3 m c)
theorem kept4 (r : PUnit × MemSt nD τ sig (Elt Ideal)) (h : Pipeline.FramePost cfgs (dats m) 0 (V m) r) :
    r.2.mem ((c : Thread nD τ).loc main_arg4) = m ((c : Thread nD τ).loc main_arg4) :=
  ((h c).2 main_arg4 (Pipeline.mem_restRefs_of main_arg4 (by decide) (by decide))).trans (V_main_arg4 m c)
theorem kept5 (r : PUnit × MemSt nD τ sig (Elt Ideal)) (h : Pipeline.FramePost cfgs (dats m) 0 (V m) r) :
    r.2.mem ((c : Thread nD τ).loc main_arg5) = m ((c : Thread nD τ).loc main_arg5) :=
  ((h c).2 main_arg5 (Pipeline.mem_restRefs_of main_arg5 (by decide) (by decide))).trans (V_main_arg5 m c)

/-- The run leaves the result and the arguments as they were. -/
theorem run : θ_run defs (onTc (τ := τ) (main (F := Ideal))) ⟨m, fun _ => 0, ρ⟩ fun r => ∀ c : Dev nD,
      r.2.mem ((c.tc : Thread nD τ).loc main_v6) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final6 m c), kept0 m c r h, kept1 m c r h, kept2 m c r h, kept3 m c r h, kept4 m c r h, kept5 m c r h⟩)
    (run_main m ρ)

end Cert.Kernel2Ideal.Gen
end
-- ==== Proof.FRef.lean ====
module

public import proofs.«01_k».proof.Proof.Ffn
public import proofs.«01_k».proof.Proof.Gen.Reference2Ideal.Read

@[expose] public section

set_option maxRecDepth 16384

noncomputable section

open Idealize.ShloMosaic Idealize.ShloMosaic.TcCoe Idealize.SL.Sem

/-!
  THE FEED-FORWARD REFERENCE in exact arithmetic, row by row.
-/

namespace Cert.Reference2Ideal.Read
open Cert.Reference2Ideal Cert.Reference2Ideal.Gen Cert.Ffn

variable (x0 : (⟨S16x2048x2048, .f32⟩ : BufTy).Contents (Elt Ideal)) (x1 : (⟨S2048, .f32⟩ : BufTy).Contents (Elt Ideal)) (x2 : (⟨S2048x5504, .f32⟩ : BufTy).Contents (Elt Ideal)) (x3 : (⟨S2048x5504, .f32⟩ : BufTy).Contents (Elt Ideal)) (x4 : (⟨S5504x2048, .f32⟩ : BufTy).Contents (Elt Ideal)) (x5 : (⟨S2048, .f32⟩ : BufTy).Contents (Elt Ideal))

theorem v12_apply (b : Fin 16) (q : Fin 2048) (k : Fin 2048) :
    (val_main_v12 (F := Ideal) x0 x1 (ix3 b q k) : EReal) = nrm (fun k => (x0 (ix3 b q k) : EReal)) (fun k => (x1 (ix1 k) : EReal)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v16_apply (b : Fin 16) (q : Fin 2048) (j : Fin 5504) :
    (val_main_v16 (F := Ideal) x0 x1 x2 x3 (ix3 b q j) : EReal) = act (∑ y, nrm (fun k => (x0 (ix3 b q k) : EReal)) (fun k => (x1 (ix1 k) : EReal)) y * (x2 (ix2 y j) : EReal)) (∑ y, nrm (fun k => (x0 (ix3 b q k) : EReal)) (fun k => (x1 (ix1 k) : EReal)) y * (x3 (ix2 y j) : EReal)) := by
  have e := v12_apply x0 x1 b q
  simp only [← e]
  clear e
  unfold val_main_v16 val_main_v15 val_main_v14 val_main_call0_v5 val_main_call0_v3 val_main_call0_v1 val_main_call0_v0 val_main_v13
  generalize val_main_v12 (F := Ideal) x0 x1 = h
  pointwise [val_main_call0_v4, val_main_call0_v2, val_main_call0_cst, val_main_call0_cst_0]
  unfold act
  rw [zero_sub]

/-- A weight by hidden unit. -/
def byUnit (w : (⟨S2048x5504, .f32⟩ : BufTy).Contents (Elt Ideal)) (j : ℕ) (k : Fin 2048) : EReal := w (ix2 k (Fin.ofNat 5504 j))
def downUnit (w : (⟨S5504x2048, .f32⟩ : BufTy).Contents (Elt Ideal)) (j : ℕ) (k : Fin 2048) : EReal := w (ix2 (Fin.ofNat 5504 j) k)

theorem v17_apply (b : Fin 16) (q : Fin 2048) (n : Fin 2048) :
    (val_main_v17 (F := Ideal) x0 x1 x2 x3 x4 (ix3 b q n) : EReal) = down (nrm (fun k => (x0 (ix3 b q k) : EReal)) (fun k => (x1 (ix1 k) : EReal))) (byUnit x2) (byUnit x3) (downUnit x4) 5504 n := by
  have e := v16_apply x0 x1 x2 x3 b q
  unfold down
  rw [Finset.sum_range]
  unfold part byUnit downUnit
  simp only [Fin.ofNat_val_eq_self]
  simp only [← e]
  clear e
  unfold val_main_v17
  generalize val_main_v16 (F := Ideal) x0 x1 x2 x3 = h
  pointwise []

theorem v33_apply (b : Fin 16) (q : Fin 2048) (n : Fin 2048) :
    (val_main_v33 (F := Ideal) x0 x1 x2 x3 x4 x5 (ix3 b q n) : EReal) = row (fun k => (x0 (ix3 b q k) : EReal)) (fun k => (x1 (ix1 k) : EReal)) (fun k => (x5 (ix1 k) : EReal)) (byUnit x2) (byUnit x3) (downUnit x4) n := by
  have e := v17_apply x0 x1 x2 x3 x4 b q
  unfold row
  simp only [← e]
  clear e
  unfold val_main_v33 val_main_v32 val_main_v30 val_main_v27 val_main_v26 val_main_v25 val_main_v24 val_main_v22 val_main_v20 val_main_v19 val_main_v18
  generalize val_main_v17 (F := Ideal) x0 x1 x2 x3 x4 = h
  pointwise [val_main_v31, val_main_cst_5, val_main_v29, val_main_v28, val_main_v23, val_main_v21, val_main_cst_2, val_main_cst_3, val_main_cst_4]
  rfl

theorem v34_apply (R : Fin 32768) (n : Fin 2048) :
    (val_main_v34 (F := Ideal) x0 x1 x2 x3 x4 x5 (ix2 R n) : EReal) = row (fun k => (x0 (ix3 ⟨R.val / 2048, by omega⟩ ⟨R.val % 2048, by omega⟩ k) : EReal)) (fun k => (x1 (ix1 k) : EReal)) (fun k => (x5 (ix1 k) : EReal)) (byUnit x2) (byUnit x3) (downUnit x4) n := by
  have e := v33_apply x0 x1 x2 x3 x4 x5 ⟨R.val / 2048, by omega⟩ ⟨R.val % 2048, by omega⟩ n
  rw [← e]
  clear e
  unfold val_main_v34
  generalize val_main_v33 (F := Ideal) x0 x1 x2 x3 x4 x5 = h
  pointwise []

end Cert.Reference2Ideal.Read
end
-- ==== Proof.FSame.lean ====
module

public import proofs.«01_k».proof.Defs
public import proofs.«01_k».proof.Proof.Gen.Kernel2
public import proofs.«01_k».proof.Proof.FFrame

@[expose] public section

set_option maxRecDepth 16384

noncomputable section

open Idealize.ShloMosaic Idealize.SL.Sem

/-!
  THE FEED-FORWARD PROGRAM AS PRINTED has the text of the one printed for exact arithmetic, so its frame is read off the other's run.
-/

namespace Cert.Kernel2.Same

/-- The two programs' bodies, -/
theorem body : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) =>
    show Cert.Kernel2.cc0_ffn (F := Bits) _ _ _ _ _ _ _ _ _ _ _ _ _ _ _ _ _ _ _ = Cert.Kernel2Ideal.cc0_ffn (F := Bits) _ _ _ _ _ _ _ _ _ _ _ _ _ _ _ _ _ _ _
    rfl

/-- and with the pipeline around them. -/
theorem table : Cert.Kernel2.defs (F := Bits) = Cert.Kernel2Ideal.defs (F := Bits) := by
  unfold Cert.Kernel2.defs Cert.Kernel2Ideal.defs
  exact congrArg (Pipeline.defs Cert.Kernel2.pcfgs) body

theorem frame : (haveI := Cert.Kernel2.Gen.facts; Cert.quiescent_Kernel2) := fun m ρ _ => by
  have h := Cert.Kernel2Ideal.Gen.frame (F := Bits) m ρ
  rw [← table] at h
  exact (θ_run Cert.Kernel2.defs _ _).mono (fun _ h => h) h

end Cert.Kernel2.Same

end
-- ==== Proof.Xat.lean ====
module

public import proofs.«01_k».proof.Proof.Ffn
public import proofs.«01_k».proof.Proof.Soft
public import proofs.«01_k».proof.Proof.Gen.Kernel3Ideal.Value

@[expose] public section

set_option maxRecDepth 16384

noncomputable section

open Idealize.ShloMosaic Idealize.ShloMosaic.TcCoe Idealize.SL.Sem

/-!
  THE CROSS-ATTENTION KERNEL in exact arithmetic: one row of it.
-/

namespace Cert.Xat
open Cert.Ffn

/-- One weight, -/
def prob (s : ℕ → EReal) (j : ℕ) : EReal := Ideal.div (Ideal.exp (s j - Soft.M s 256)) (Soft.L s 256)
/-- a head's score of a memory token, -/
def score (q : Fin 256 → EReal) (k : ℕ → Fin 256 → EReal) (j : ℕ) : EReal := ∑ e, q e * k j e
/-- and a head's output. -/
def head (s : ℕ → EReal) (v : Fin 256 → Fin 256 → EReal) (d : Fin 256) : EReal := ∑ j, prob s j.val * v j d
/-- The row the layer gives, of the heads' outputs side by side. -/
def outRow (x p : Fin 2048 → EReal) (wo : Fin 1024 → Fin 2048 → EReal) (o : Fin 1024 → EReal) (n : Fin 2048) : EReal :=
  x n + (∑ l, o l * wo l n) * rs (∑ y, (∑ l, o l * wo l y) * (∑ l, o l * wo l y)) * p n

theorem sup_eq (s : ℕ → EReal) : (Finset.univ.sup fun j : Fin 256 => s j.val) = Soft.M s 256 := by
  have h := Soft.M_add s 0 256
  rw [Soft.M_zero] at h
  simp only [Nat.zero_add] at h
  rw [h]
  exact (max_eq_right bot_le).symm

theorem sum_eq (s : ℕ → EReal) : (∑ j : Fin 256, Ideal.exp (s j.val - Soft.M s 256)) = Soft.L s 256 := by
  unfold Soft.L
  rw [Finset.sum_range fun k => Ideal.exp (s k - Soft.M s 256)]

end Cert.Xat

namespace Cert.Kernel3Ideal.Gen
open Cert.Ffn Cert.Xat

theorem pay3_apply (x : Vec Ideal S512x2048 .f32) (g : Vec Ideal S1x2048 .f32) (w : Vec Ideal S2048x1024 .bf16) (r : Fin 512) (l : Fin 1024) :
    (k0_pay3 x g w (ix2 r l) : EReal) = ∑ y, nrm (fun k => (x (ix2 r k) : EReal)) (fun k => (g (ix2 0 k) : EReal)) y * (w (ix2 y l) : EReal) := by
  pointwise [k0_pay3, k0_pay2]
  rfl

/-- The scores of a block's row in one head, -/
theorem pay5_apply (q : FVec Ideal S512x1024 .bf16) (k v : Vec Ideal S256x256 .bf16) (r : Fin 512) (d : Fin 256) (s : ℕ → EReal)
    (hs : ∀ j : Fin 256, (∑ e : Fin 256, (q (ix2 r ⟨256 + e.val, by omega⟩) : EReal) * (k (ix2 j e) : EReal)) = s j.val) :
    (k0_pay5 q k v (ix2 r d) : EReal) = head s (fun j d => (v (ix2 j d) : EReal)) d := by
  pointwise [k0_pay5]
  simp only [hs, sup_eq, sum_eq]
  rfl

theorem pay6_apply (q : FVec Ideal S512x1024 .bf16) (k v : Vec Ideal S256x256 .bf16) (r : Fin 512) (d : Fin 256) (s : ℕ → EReal)
    (hs : ∀ j : Fin 256, (∑ e : Fin 256, (q (ix2 r ⟨512 + e.val, by omega⟩) : EReal) * (k (ix2 j e) : EReal)) = s j.val) :
    (k0_pay6 q k v (ix2 r d) : EReal) = head s (fun j d => (v (ix2 j d) : EReal)) d := by
  pointwise [k0_pay6]
  simp only [hs, sup_eq, sum_eq]
  rfl

theorem pay4_apply (x : Vec Ideal S512x2048 .f32) (g : Vec Ideal S1x2048 .f32) (w : Vec Ideal S2048x1024 .bf16) (k v : Vec Ideal S256x256 .bf16) (r : Fin 512) (d : Fin 256) (s : ℕ → EReal)
    (hs : ∀ j : Fin 256, (∑ e : Fin 256, (k0_pay3 x g w (ix2 r ⟨e.val, by omega⟩) : EReal) * (k (ix2 j e) : EReal)) = s j.val) :
    (k0_pay4 x g w k v (ix2 r d) : EReal) = head s (fun j d => (v (ix2 j d) : EReal)) d := by
  unfold k0_pay4
  generalize k0_pay3 x g w = q at hs
  pointwise []
  simp only [Nat.zero_add, hs, sup_eq, sum_eq]
  rfl

/-- The last head's output, -/
def last (q : FVec Ideal S512x1024 .bf16) (k v : Vec Ideal S256x256 .bf16) : FVec Ideal S512x256 .bf16 :=
  have v80 : FVec Ideal S512x256 .f32 := matmul dot_S512x256_S256x256_S512x256_1_1_0_0_n_n none (k0_pay9 q) (k0_pay7 k) (constant S512x256 .f32 0x00000000#32)
  have v81 : FVec Ideal S512 .f32 := multiReduction .maximumf [1] S512 v80 0xFF800000#32 reduces_S512x256_S512 (.inl rfl) rfl
  have v84 : FVec Ideal S512x256 .f32 := subf v80 (broadcastTo S512x256 (shapeCast S512x1 v81 shapeCasts_S512_S512x1) broadcasts_S512x1_S512x256)
  have v85 : FVec Ideal S512x256 .f32 := exp v84
  have v86 : FVec Ideal S512 .f32 := multiReduction .add [1] S512 v85 0x00000000#32 reduces_S512x256_S512 (.inl rfl) rfl
  have v89 : FVec Ideal S512x256 .f32 := divf v85 (broadcastTo S512x256 (shapeCast S512x1 v86 shapeCasts_S512_S512x1) broadcasts_S512x1_S512x256)
  truncf .bf16 (matmul dot_S512x256_S256x256_S512x256_1_0_0_1_n_n none (truncf .bf16 v89 bitsLt_bf16_f32) (k0_pay8 v) (constant S512x256 .f32 0x00000000#32)) bitsLt_bf16_f32

theorem last_apply (q : FVec Ideal S512x1024 .bf16) (k v : Vec Ideal S256x256 .bf16) (r : Fin 512) (d : Fin 256) (s : ℕ → EReal)
    (hs : ∀ j : Fin 256, (∑ e : Fin 256, (q (ix2 r ⟨768 + e.val, by omega⟩) : EReal) * (k (ix2 j e) : EReal)) = s j.val) :
    (last q k v (ix2 r d) : EReal) = head s (fun j d => (v (ix2 j d) : EReal)) d := by
  pointwise [last, k0_pay9, k0_pay7, k0_pay8]
  simp only [hs, sup_eq, sum_eq]
  rfl

/-- and what follows the heads. -/
def fin (x : FVec Ideal S512x2048 .f32) (a b d e : FVec Ideal S512x256 .bf16) (w : Vec Ideal S1024x2048 .bf16) (g : Vec Ideal S1x2048 .f32) : FVec Ideal S512x2048 .f32 :=
  have v93 : FVec Ideal S512x1024 .bf16 := concatenate S512x1024 1 [⟨S512x256, a⟩, ⟨S512x256, b⟩, ⟨S512x256, d⟩, ⟨S512x256, e⟩] concatenates_S512x256_S512x256_S512x256_S512x256_S512x1024_d1
  have v95 : FVec Ideal S1024x2048 .bf16 := shapeCast S1024x2048 w shapeCasts_S1024x2048_S1024x2048
  have v98 : FVec Ideal S1x2048 .f32 := shapeCast S1x2048 g shapeCasts_S1x2048_S1x2048
  have v96 : FVec Ideal S512x2048 .f32 := matmul dot_S512x1024_S1024x2048_S512x2048_1_0_0_1_n_n none v93 v95 (constant S512x2048 .f32 0x00000000#32)
  have v100 : FVec Ideal S512 .f32 := multiReduction .add [1] S512 (mulf v96 v96) 0x00000000#32 reduces_S512x2048_S512 (.inl rfl) rfl
  have v103 : FVec Ideal S512x1 .f32 := divf (shapeCast S512x1 v100 shapeCasts_S512_S512x1) (broadcast S512x1 (Scalar.ofBits .f32 0x45000000#32))
  have v106 : FVec Ideal S512x1 .f32 := rsqrt (addf v103 (broadcast S512x1 (Scalar.ofBits .f32 0x358637BD#32)))
  addf x (mulf (mulf v96 (broadcastTo S512x2048 v106 broadcasts_S512x1_S512x2048)) (broadcastTo S512x2048 v98 broadcasts_S1x2048_S512x2048))

theorem pay1_eq (x : FVec Ideal S512x2048 .f32) (a b d : FVec Ideal S512x256 .bf16) (q : FVec Ideal S512x1024 .bf16) (k v : Vec Ideal S256x256 .bf16) (w : Vec Ideal S1024x2048 .bf16) (g : Vec Ideal S1x2048 .f32) :
    k0_pay1 x a b d (k0_pay7 k) (k0_pay8 v) (k0_pay9 q) w g = fin x a b d (last q k v) w g := rfl

/-- The heads' outputs side by side. -/
theorem fin_apply (x : FVec Ideal S512x2048 .f32) (a b d e : FVec Ideal S512x256 .bf16) (w : Vec Ideal S1024x2048 .bf16) (g : Vec Ideal S1x2048 .f32) (r : Fin 512) (n : Fin 2048)
    (H : ℕ → Fin 256 → EReal) (ha : ∀ i, (a (ix2 r i) : EReal) = H 0 i) (hb : ∀ i, (b (ix2 r i) : EReal) = H 1 i) (hd : ∀ i, (d (ix2 r i) : EReal) = H 2 i) (he : ∀ i, (e (ix2 r i) : EReal) = H 3 i) :
    (fin x a b d e w g (ix2 r n) : EReal) = outRow (fun k => (x (ix2 r k) : EReal)) (fun k => (g (ix2 0 k) : EReal)) (fun l k => (w (ix2 l k) : EReal)) (fun l => H (l.val / 256) ⟨l.val % 256, by omega⟩) n := by
  have hc : ∀ l : Fin 1024, (concatenate S512x1024 1 [⟨S512x256, a⟩, ⟨S512x256, b⟩, ⟨S512x256, d⟩, ⟨S512x256, e⟩] concatenates_S512x256_S512x256_S512x256_S512x256_S512x1024_d1 (ix2 r l) : EReal) = H (l.val / 256) ⟨l.val % 256, by omega⟩ := by
    intro l
    pointwise
    simp only [ha, hb, hd, he]
    by_cases h1 : l.val < 256
    · rw [dif_pos h1]; simp only [show l.val / 256 = 0 by omega, show l.val % 256 = l.val by omega]
    · rw [dif_neg h1]
      by_cases h2 : l.val - 256 < 256
      · rw [dif_pos h2]; simp only [show l.val / 256 = 1 by omega, show l.val % 256 = l.val - 256 by omega]
      · rw [dif_neg h2]
        by_cases h3 : l.val - 256 - 256 < 256
        · rw [dif_pos h3]; simp only [show l.val / 256 = 2 by omega, show l.val % 256 = l.val - 256 - 256 by omega]
        · rw [dif_neg h3]; simp only [show l.val / 256 = 3 by omega, show l.val % 256 = l.val - 256 - 256 - 256 by omega]
  unfold outRow
  simp only [← hc]
  clear hc
  unfold fin
  generalize concatenate S512x1024 1 [⟨S512x256, a⟩, ⟨S512x256, b⟩, ⟨S512x256, d⟩, ⟨S512x256, e⟩] concatenates_S512x256_S512x256_S512x256_S512x256_S512x1024_d1 = h
  pointwise
  rfl

end Cert.Kernel3Ideal.Gen
end
-- ==== Proof.XKern.lean ====
module

public import proofs.«01_k».proof.Proof.Xat

@[expose] public section

set_option maxRecDepth 16384

noncomputable section

open Idealize.ShloMosaic Idealize.ShloMosaic.TcCoe Idealize.SL.Sem

/-!
  THE CROSS-ATTENTION KERNEL'S RESULT, index by index, in exact arithmetic.
-/

namespace Cert.Xat
open Cert.Ffn

/-- A row's query, of the scaled weights, by column, -/
def kq (x g : Fin 2048 → EReal) (w : Fin 2048 → ℕ → EReal) (l : ℕ) : EReal := ∑ y, nrm x g y * w y l
/-- its score of a memory token in a head, -/
def ks (q : ℕ → EReal) (kv : ℕ → ℕ → EReal) (h : ℕ) (j : ℕ) : EReal := score (fun e => q (h * 256 + e.val)) (fun j e => kv j (h * 256 + e.val)) j
/-- and the head's output. -/
def kh (q : ℕ → EReal) (kv : ℕ → ℕ → EReal) (h : ℕ) (d : Fin 256) : EReal := head (ks q kv h) (fun j d => kv j.val (1024 + (h * 256 + d.val))) d

theorem scale_sum (c : EReal) (h0 : 0 ≤ c) (h1 : c ≠ ⊤) (h : Fin 2048 → EReal) (w : Fin 2048 → Fin 256 → EReal) (k : Fin 256 → EReal) :
    (∑ e, (∑ y, h y * (w y e * c)) * k e) = (∑ e, (∑ y, h y * w y e) * k e) * c := by
  rw [mul_comm _ c, Soft.mul_sum h0 h1]
  refine Finset.sum_congr rfl fun e _ => ?_
  rw [← mul_assoc, Soft.mul_sum h0 h1]
  refine congrArg (· * _) (Finset.sum_congr rfl fun y _ => ?_)
  rw [← mul_assoc, mul_comm]

theorem scale_pos : (0 : EReal) ≤ Ideal.ofBits .f32 1031798784#32 := by
  simp [Ideal.ofBits, Ideal.ieee]
  rw [← EReal.coe_mul]
  exact EReal.coe_nonneg.mpr (by norm_num)
theorem scale_top : Ideal.ofBits .f32 1031798784#32 ≠ (⊤ : EReal) := by
  simp [Ideal.ofBits, Ideal.ieee]
  rw [← EReal.coe_mul]
  exact EReal.coe_ne_top _

end Cert.Xat

namespace Cert.Kernel3Ideal.Gen
open Cert.Ffn Cert.Xat

/-- A block's columns of keys and values, read at a head. -/
theorem ld_cols (x : Vec Ideal S256x2048 .bf16) (o : ℕ) (inb : ∀ a, (![0, o] : Fin 2 → Nat) a + S256x256.size a ≤ S256x2048.size a) (j e : Fin 256) :
    (View.ld x (Rect.unit (s := S256x2048) ![0, o] S256x256.size inb) (ix2 j e) : EReal) = x (ix2 (Fin.ofNat 256 j.val) (Fin.ofNat 2048 (o + e.val))) := by
  have h : o + 256 ≤ 2048 := inb 1
  refine View.ld_unit_apply_of x _ _ _ _ _ fun a => ?_
  match a with
  | ⟨0, _⟩ => show j.val % 256 = 0 + j.val; omega
  | ⟨1, _⟩ => show (o + e.val) % 2048 = o + e.val; omega

/-- One row of what a point writes. -/
theorem out_apply (x0 : Vec Ideal S512x2048 .f32) (x1 : Vec Ideal S1x2048 .f32) (x2 : Vec Ideal S2048x1024 .bf16) (x3 : Vec Ideal S256x2048 .bf16) (x4 : Vec Ideal S1024x2048 .bf16) (x5 : Vec Ideal S1x2048 .f32) (r : Fin 512) (n : Fin 2048)
    (q : ℕ → EReal) (hq : q = kq (fun k => (x0 (ix2 r k) : EReal)) (fun k => (x1 (ix2 0 k) : EReal)) (fun y l => x2 (ix2 y (Fin.ofNat 1024 l))))
    (kv : ℕ → ℕ → EReal) (hkv : kv = fun j l => x3 (ix2 (Fin.ofNat 256 j) (Fin.ofNat 2048 l))) :
    (out0_6 x0 x1 x2 x3 x4 x5 (ix2 r n) : EReal) = outRow (fun k => (x0 (ix2 r k) : EReal)) (fun k => (x5 (ix2 0 k) : EReal)) (fun l k => (x4 (ix2 l k) : EReal)) (fun l => kh q kv (l.val / 256) ⟨l.val % 256, by omega⟩) n := by
  have hQ : ∀ l : Fin 1024, (k0_pay3 x0 x1 x2 (ix2 r l) : EReal) = q l.val := fun l => by
    rw [pay3_apply, hq]; unfold kq; simp only [Fin.ofNat_val_eq_self]
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e4 : View.ld x4 r0_11 = x4 := View.ld_unit_lit _ _ (by decide)
  have e5 : View.ld x5 r0_1 = x5 := View.ld_unit_lit _ _ (by decide)
  unfold out0_6 k0_pay10
  rw [e0, e1, e2, e4, e5]
  have ex : k0_pay2 x0 = x0 := by
    funext i
    obtain ⟨r, k, rfl⟩ : ∃ (r : Fin 512) (k : Fin 2048), i = ix2 r k := ⟨i 0, i 1, eq_ix2 i⟩
    pointwise [k0_pay2]
  rw [View.canon_cons_unit_lit _ _ _ (by decide), pay1_eq, ex]
  refine fin_apply _ _ _ _ _ _ _ r n (kh q kv) (fun d => ?_) (fun d => ?_) (fun d => ?_) (fun d => ?_)
  · refine (pay4_apply _ _ _ _ _ r d (ks q kv 0) fun j => ?_).trans ?_
    · unfold ks score; rw [hkv]
      exact Finset.sum_congr rfl fun e _ => congrArg₂ (· * ·) (by rw [hQ]; congr 1; (try dsimp only); try omega) (by rw [ld_cols])
    · unfold kh; congr 1; funext j d; rw [ld_cols, hkv]; congr 3; omega
  · refine (pay5_apply _ _ _ r d (ks q kv 1) fun j => ?_).trans ?_
    · unfold ks score; rw [hkv]
      exact Finset.sum_congr rfl fun e _ => congrArg₂ (· * ·) (by rw [hQ]) (by rw [ld_cols])
    · unfold kh; congr 1; funext j d; rw [ld_cols, hkv]; congr 3; omega
  · refine (pay6_apply _ _ _ r d (ks q kv 2) fun j => ?_).trans ?_
    · unfold ks score; rw [hkv]
      exact Finset.sum_congr rfl fun e _ => congrArg₂ (· * ·) (by rw [hQ]) (by rw [ld_cols])
    · unfold kh; congr 1; funext j d; rw [ld_cols, hkv]; congr 3; omega
  · refine (last_apply _ _ _ r d (ks q kv 3) fun j => ?_).trans ?_
    · unfold ks score; rw [hkv]
      exact Finset.sum_congr rfl fun e _ => congrArg₂ (· * ·) (by rw [hQ]) (by rw [ld_cols])
    · unfold kh; congr 1; funext j d; rw [ld_cols, hkv]; congr 3; omega

variable (m : (ℓ : Loc nD τ sig) → Buf (Elt Ideal) ℓ) (c : Dev nD)

/-- The windows' blocks, by grid point. -/
theorem idxs : ∀ t : Fin grid0.N,
    win0_0.index t (0 : Fin 2) = t.val ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) = t.val / 4 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = t.val ∧ win0_6.index t (1 : Fin 2) = 0 := by
  decide +kernel

/-- The rows of the input, -/
def xrow (R : ℕ) (k : Fin 2048) : EReal := (V m c main_v6 : FVec Ideal S32768x2048 .f32) (ix2 (Fin.ofNat 32768 R) k)
/-- the gains, -/
def gpre (k : Fin 2048) : EReal := (V m c main_v7 : FVec Ideal S1x2048 .f32) (ix2 0 k)
def gpost (k : Fin 2048) : EReal := (V m c main_v10 : FVec Ideal S1x2048 .f32) (ix2 0 k)
/-- the weights, -/
def wq (y : Fin 2048) (l : ℕ) : EReal := (V m c main_v5 : FVec Ideal S2048x1024 .bf16) (ix2 y (Fin.ofNat 1024 l))
def wo (l : Fin 1024) (k : Fin 2048) : EReal := (V m c main_v9 : FVec Ideal S1024x2048 .bf16) (ix2 l k)
/-- and the memory of a batch. -/
def mem (b : ℕ) (j : ℕ) (l : ℕ) : EReal := (V m c main_v8 : FVec Ideal S4096x2048 .bf16) (ix2 (Fin.ofNat 4096 (b * 256 + j % 256)) (Fin.ofNat 2048 l))

theorem blk0 (t : Fin cfg0.N) (r : Fin 512) (k : Fin 2048) : ((iblk m c 0 t : Vec Ideal S512x2048 .f32) (ix2 r k) : EReal) = xrow m c (t.val * 512 + r.val) k := by
  have hI := idxs t
  have ht : t.val < 64 := lt_of_lt_of_eq t.isLt N_0
  unfold xrow iblk
  show V m c main_v6 _ = V m c main_v6 _
  congr 1
  blk_ext [hI]
  all_goals (simp [ix2, Fin.ofNat]; try omega)

theorem blk1 (t : Fin cfg0.N) (k : Fin 2048) : ((iblk m c 1 t : Vec Ideal S1x2048 .f32) (ix2 0 k) : EReal) = gpre m c k := by
  have hI := idxs t
  unfold gpre iblk
  show V m c main_v7 _ = V m c main_v7 _
  congr 1
  blk_ext [hI]

theorem blk2 (t : Fin cfg0.N) (y : Fin 2048) (l : ℕ) : ((iblk m c 2 t : Vec Ideal S2048x1024 .bf16) (ix2 y (Fin.ofNat 1024 l)) : EReal) = wq m c y l := by
  have hI := idxs t
  unfold wq iblk
  show V m c main_v5 _ = V m c main_v5 _
  congr 1
  blk_ext [hI]

theorem blk3 (t : Fin cfg0.N) (j l : ℕ) : ((iblk m c 3 t : Vec Ideal S256x2048 .bf16) (ix2 (Fin.ofNat 256 j) (Fin.ofNat 2048 l)) : EReal) = mem m c (t.val / 4) j l := by
  have hI := idxs t
  have ht : t.val < 64 := lt_of_lt_of_eq t.isLt N_0
  unfold mem iblk
  show V m c main_v8 _ = V m c main_v8 _
  congr 1
  blk_ext [hI]
  all_goals (simp [ix2, Fin.ofNat]; try omega)

theorem blk4 (t : Fin cfg0.N) (l : Fin 1024) (k : Fin 2048) : ((iblk m c 4 t : Vec Ideal S1024x2048 .bf16) (ix2 l k) : EReal) = wo m c l k := by
  have hI := idxs t
  unfold wo iblk
  show V m c main_v9 _ = V m c main_v9 _
  congr 1
  blk_ext [hI]

theorem blk5 (t : Fin cfg0.N) (k : Fin 2048) : ((iblk m c 5 t : Vec Ideal S1x2048 .f32) (ix2 0 k) : EReal) = gpost m c k := by
  have hI := idxs t
  unfold gpost iblk
  show V m c main_v10 _ = V m c main_v10 _
  congr 1
  blk_ext [hI]

/-! ## The array after the run -/

/-- One row of the result, -/
def resRow (R : ℕ) (n : Fin 2048) : EReal :=
  outRow (xrow m c R) (gpost m c) (wo m c) (fun l => kh (kq (xrow m c R) (gpre m c) (wq m c)) (mem m c (R / 2048)) (l.val / 256) ⟨l.val % 256, by omega⟩) n
/-- and the result. -/
def G6 : Buf (Elt Ideal) ((c : Thread nD τ).loc main_v11) := fun i => resRow m c (i 0).val (Fin.ofNat 2048 (i 1).val)

theorem blk_row (t : Fin cfg0.N) (r : Fin 512) (n : Fin 2048) :
    ((out0_6 (iblk m c 0 t) (iblk m c 1 t) (iblk m c 2 t) (iblk m c 3 t) (iblk m c 4 t) (iblk m c 5 t) : Vec Ideal S512x2048 .f32) (ix2 r n) : EReal) = resRow m c (t.val * 512 + r.val) n := by
  refine (out_apply _ _ _ _ _ _ r n _ rfl _ rfl).trans ?_
  simp only [blk0, blk1, blk2, blk3, blk4, blk5]
  unfold resRow
  rw [show (t.val * 512 + r.val) / 2048 = t.val / 4 by omega]

/-- What a point writes back is its block of the result. -/
theorem flushed6_eq (t : Fin cfg0.N) :
    (dats m 0 c).flushed 6 t = ((cfg0.win 6).blk t).view.read (Elt Ideal) (G6 m c) := by
  have hI := idxs t
  rw [Value.flushed6]
  funext y
  have hy0 : (y 0).val < 512 := (y 0).isLt
  have hy1 : (y 1).val < 2048 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  have hx : (cfg0.win 6).xinj (grid0.coords t) y = ix2 ⟨(y 0).val, hy0⟩ ⟨(y 1).val, hy1⟩ := by
    funext a; apply Fin.ext
    match a with
    | ⟨0, _⟩ => rfl
    | ⟨1, _⟩ => rfl
  show (out0_6 (iblk m c 0 t) (iblk m c 1 t) (iblk m c 2 t) (iblk m c 3 t) (iblk m c 4 t) (iblk m c 5 t) : Vec Ideal S512x2048 .f32) ((cfg0.win 6).xinj (grid0.coords t) y) = G6 m c (((cfg0.win 6).blk t).view.emb y)
  rw [hx]
  refine (blk_row m c t ⟨(y 0).val, hy0⟩ ⟨(y 1).val, hy1⟩).trans ?_
  unfold G6
  rw [show (((cfg0.win 6).blk t).view.emb y 0).val = t.val * 512 + (y 0).val by omega]
  rw [show (Fin.ofNat 2048 (((cfg0.win 6).blk t).view.emb y 1).val) = ⟨(y 1).val, hy1⟩ from Fin.ext (by
    show (((cfg0.win 6).blk t).view.emb y 1).val % 2048 = (y 1).val; omega)]

/-- The written blocks cover the array. -/
theorem covered (i : S32768x2048.Idx) : ∃ t : Fin cfg0.N, (cfg0.win 6).flush t = true ∧ i ∈ ((cfg0.win 6).blk t).view.set := by
  have hi0 : (i 0).val < 32768 := (i 0).isLt
  have hi1 : (i 1).val < 2048 := (i 1).isLt
  have hlt : (i 0).val / 512 < cfg0.N := lt_of_lt_of_eq (by omega) N_0.symm
  have hI := idxs ⟨(i 0).val / 512, hlt⟩
  refine ⟨⟨(i 0).val / 512, hlt⟩, flush0_6 _, ?_⟩
  generalize ht : (⟨(i 0).val / 512, hlt⟩ : Fin cfg0.N) = t at hI
  have hv : t.val = (i 0).val / 512 := by rw [← ht]
  show i ∈ ((View.whole main_v11).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

theorem final6 : (dats m 0 c).arrAt 6 cfg0.N = G6 m c :=
  (dats m 0 c).arrAt_eq_of_cover 6 _ (fun t hf => flushed6_eq m c t) (fun i => covered i)

variable (ρ : Dev nD → PrngReg)

/-- The run leaves the result and the arguments as they were. -/
theorem run : θ_run defs (onTc (τ := τ) (main (F := Ideal))) ⟨m, fun _ => 0, ρ⟩ fun r => ∀ c : Dev nD,
      r.2.mem ((c.tc : Thread nD τ).loc main_v11) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final6 m c), (h c).2⟩) (Value.run_blocks m ρ)

/-! ## The operands, of the arguments -/

theorem xrow_eq (R : Fin 32768) (k : Fin 2048) : xrow m c R.val k = ((m ((c.tc : Thread nD τ).loc main_arg0) : FVec Ideal S16x2048x2048 .f32) (ix3 ⟨R.val / 2048, by omega⟩ ⟨R.val % 2048, by omega⟩ k) : EReal) := by
  unfold xrow
  rw [show Fin.ofNat 32768 R.val = R from Fin.ext (Nat.mod_eq_of_lt R.isLt)]
  entry_read
  pointwise

theorem gpre_eq (k : Fin 2048) : gpre m c k = ((m ((c.tc : Thread nD τ).loc main_arg1) : FVec Ideal S2048 .f32) (ix1 k) : EReal) := by
  unfold gpre
  entry_read
  pointwise

theorem gpost_eq (k : Fin 2048) : gpost m c k = ((m ((c.tc : Thread nD τ).loc main_arg5) : FVec Ideal S2048 .f32) (ix1 k) : EReal) := by
  unfold gpost
  entry_read
  pointwise

/-- The query weights. -/
abbrev arg2 : (⟨2, ![2048, 1024]⟩ : Shape).Idx → EReal := m ((c.tc : Thread nD τ).loc main_arg2)

theorem wq_eq (y : Fin 2048) (l : ℕ) : wq m c y l = (arg2 m c (ix2 y (Fin.ofNat 1024 l)) * Ideal.ofBits .f32 1031798784#32 : EReal) := by
  unfold wq
  entry_read
  pointwise

theorem wo_eq (l : Fin 1024) (k : Fin 2048) : wo m c l k = ((m ((c.tc : Thread nD τ).loc main_arg4) : FVec Ideal S1024x2048 .f32) (ix2 l k) : EReal) := by
  unfold wo
  entry_read
  pointwise

theorem kv_eq (b : Fin 16) (j : Fin 256) (p : Fin 2) (h : Fin 4) (d : Fin 256) : mem m c b.val j.val (p.val * 1024 + (h.val * 256 + d.val)) = ((m ((c.tc : Thread nD τ).loc main_arg3) : FVec Ideal S16x256x2048 .f32) (ix3 b j ⟨h.val * 512 + (p.val * 256 + d.val), by omega⟩) : EReal) := by
  unfold mem
  rw [show Fin.ofNat 4096 (b.val * 256 + j.val % 256) = (⟨b.val * 256 + j.val, by omega⟩ : Fin 4096) from Fin.ext (by show (b.val * 256 + j.val % 256) % 4096 = _; dsimp only; omega),
    show Fin.ofNat 2048 (p.val * 1024 + (h.val * 256 + d.val)) = (⟨p.val * 1024 + (h.val * 256 + d.val), by omega⟩ : Fin 2048) from Fin.ext (by show (p.val * 1024 + (h.val * 256 + d.val)) % 2048 = _; dsimp only; omega)]
  entry_read
  pointwise
  refine congrArg (m ((c.tc : Thread nD τ).loc main_arg3)) ?_
  congr 1
  · exact Fin.ext (by show (b.val * 256 + j.val) / 256 = b.val; omega)
  · exact Fin.ext (by show (b.val * 256 + j.val) % 256 = j.val; omega)
  · exact Fin.ext (by
      show (p.val * 1024 + (h.val * 256 + d.val)) / 256 % 4 * 512 + (p.val * 1024 + (h.val * 256 + d.val)) / 1024 * 256 + (p.val * 1024 + (h.val * 256 + d.val)) % 256 = h.val * 512 + (p.val * 256 + d.val)
      omega)

end Cert.Kernel3Ideal.Gen
end
-- ==== Proof.XRef.lean ====
module

public import proofs.«01_k».proof.Proof.Xat
public import proofs.«01_k».proof.Proof.Ref2
public import proofs.«01_k».proof.Proof.Gen.Reference3Ideal.Read

@[expose] public section

set_option maxRecDepth 16384

noncomputable section

open Idealize.ShloMosaic Idealize.ShloMosaic.TcCoe Idealize.SL.Sem

/-!
  THE CROSS-ATTENTION REFERENCE in exact arithmetic, row by row.
-/

namespace Cert.Reference3Ideal.Read
open Cert.Reference3Ideal Cert.Reference3Ideal.Gen Cert.Ffn Cert.Xat

variable (x0 : (⟨S16x2048x2048, .f32⟩ : BufTy).Contents (Elt Ideal)) (x1 : (⟨S2048, .f32⟩ : BufTy).Contents (Elt Ideal)) (x2 : (⟨S2048x1024, .f32⟩ : BufTy).Contents (Elt Ideal)) (x3 : (⟨S16x256x2048, .f32⟩ : BufTy).Contents (Elt Ideal)) (x4 : (⟨S1024x2048, .f32⟩ : BufTy).Contents (Elt Ideal)) (x5 : (⟨S2048, .f32⟩ : BufTy).Contents (Elt Ideal))

theorem v12_apply (b : Fin 16) (q : Fin 2048) (k : Fin 2048) :
    (val_main_v12 (F := Ideal) x0 x1 (ix3 b q k) : EReal) = nrm (fun k => (x0 (ix3 b q k) : EReal)) (fun k => (x1 (ix1 k) : EReal)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- A row's query, -/
def qry (b : Fin 16) (q : Fin 2048) (h : Fin 4) (e : Fin 256) : EReal :=
  ∑ y, nrm (fun k => (x0 (ix3 b q k) : EReal)) (fun k => (x1 (ix1 k) : EReal)) y * (x2 (ix2 y ⟨h.val * 256 + e.val, by omega⟩) : EReal)
/-- a memory token's key, -/
def key (b : Fin 16) (h : Fin 4) (j : ℕ) (e : Fin 256) : EReal := x3 (ix3 b (Fin.ofNat 256 j) ⟨h.val * 512 + e.val, by omega⟩)
/-- its value, -/
def val (b : Fin 16) (h : Fin 4) (j : Fin 256) (d : Fin 256) : EReal := x3 (ix3 b j ⟨h.val * 512 + (256 + d.val), by omega⟩)
/-- and the score of the two. -/
def scr (b : Fin 16) (q : Fin 2048) (h : Fin 4) (j : ℕ) : EReal := score (qry x0 x1 x2 b q h) (key x3 b h) j * Ideal.ofBits .f32 1031798784#32

theorem v14_apply (b : Fin 16) (q : Fin 2048) (h : Fin 4) (e : Fin 256) :
    (val_main_v14 (F := Ideal) x0 x1 x2 (ix4 b q h e) : EReal) = qry x0 x1 x2 b q h e := by
  have e' := v12_apply x0 x1 b q
  unfold qry
  simp only [← e']
  clear e'
  unfold val_main_v14 val_main_v13
  generalize val_main_v12 (F := Ideal) x0 x1 = h
  pointwise []

theorem v20_apply (b : Fin 16) (h : Fin 4) (q : Fin 2048) (j : Fin 256) :
    (val_main_v20 (F := Ideal) x0 x1 x2 x3 (ix4 b h q j) : EReal) = scr x0 x1 x2 x3 b q h j.val := by
  have e' := v14_apply x0 x1 x2 b q h
  unfold scr score
  simp only [← e']
  clear e'
  unfold val_main_v20 val_main_v18 key
  generalize val_main_v14 (F := Ideal) x0 x1 x2 = h
  pointwise [val_main_v19, val_main_cst_2, val_main_v16, val_main_v15]
  simp only [Fin.ofNat_val_eq_self]

theorem max_apply (b : Fin 16) (h : Fin 4) (q : Fin 2048) : (val_main_v21 (F := Ideal) x0 x1 x2 x3 (ix3 b h q) : EReal) = Soft.M (scr x0 x1 x2 x3 b q h) 256 := by
  unfold val_main_v21
  refine Cert.ReferenceIdeal.Read.reduce_max (val_main_v20 (F := Ideal) x0 x1 x2 x3) (val_main_cst_3 (F := Ideal)) reducesTo_S16x4x2048x256_S16x4x2048_d3 h_S_ (ix3 b h q) (fun z => Cert.ReferenceIdeal.Read.negInf) (fun k => ix4 b h q k) ?_ ?_ _ (fun k => v20_apply x0 x1 x2 x3 b h q k)
  · intro k
    funext a
    match a with
    | ⟨0, _⟩ => exact Fin.ext ((reducesTo_S16x4x2048x256_S16x4x2048_d3).drop_apply_val_of_eq _ 0 0)
    | ⟨1, _⟩ => exact Fin.ext ((reducesTo_S16x4x2048x256_S16x4x2048_d3).drop_apply_val_of_eq _ 1 1)
    | ⟨2, _⟩ => exact Fin.ext ((reducesTo_S16x4x2048x256_S16x4x2048_d3).drop_apply_val_of_eq _ 2 2)
  · intro i hd
    have e0 : (i 0).val = b.val := ((reducesTo_S16x4x2048x256_S16x4x2048_d3).drop_apply_val_of_eq i 0 0).symm.trans (congrArg (fun z => (z 0).val) hd)
    have e1 : (i 1).val = h.val := ((reducesTo_S16x4x2048x256_S16x4x2048_d3).drop_apply_val_of_eq i 1 1).symm.trans (congrArg (fun z => (z 1).val) hd)
    have e2 : (i 2).val = q.val := ((reducesTo_S16x4x2048x256_S16x4x2048_d3).drop_apply_val_of_eq i 2 2).symm.trans (congrArg (fun z => (z 2).val) hd)
    refine ⟨i 3, ?_⟩
    funext a
    match a with
    | ⟨0, _⟩ => exact Fin.ext e0
    | ⟨1, _⟩ => exact Fin.ext e1
    | ⟨2, _⟩ => exact Fin.ext e2
    | ⟨3, _⟩ => rfl

theorem exp_apply (b : Fin 16) (h : Fin 4) (q : Fin 2048) (j : Fin 256) :
    (val_main_v27 (F := Ideal) x0 x1 x2 x3 (ix4 b h q j) : EReal) = Ideal.exp (scr x0 x1 x2 x3 b q h j.val - Soft.M (scr x0 x1 x2 x3 b q h) 256) := by
  have e : idx_main_v24 (idx_main_v25 (ix4 b h q j)) = ix3 b h q := by
    funext a
    match a with
    | ⟨0, _⟩ => rfl
    | ⟨1, _⟩ => rfl
    | ⟨2, _⟩ => rfl
  rw [val_main_v27_apply, val_main_v26_apply, val_main_v25_apply, val_main_v24_apply, val_main_v23_apply, val_main_v22_apply, e, v20_apply, max_apply]
  generalize Soft.M (scr x0 x1 x2 x3 b q h) 256 = z
  have e6 : ∀ i, val_main_cst_4 (F := Ideal) i = (⊥ : EReal) := fun _ => Cert.ReferenceIdeal.Read.negInf
  rw [e6]
  exact congrArg (fun w : EReal => Ideal.exp (scr x0 x1 x2 x3 b q h j.val - w)) (max_eq_right bot_le)

theorem v31_apply (b : Fin 16) (h : Fin 4) (q : Fin 2048) (j : Fin 256) :
    (val_main_v31 (F := Ideal) x0 x1 x2 x3 (ix4 b h q j) : EReal) = prob (scr x0 x1 x2 x3 b q h) j.val := by
  have e' := exp_apply x0 x1 x2 x3 b h q
  unfold prob
  rw [← sum_eq]
  simp only [← e']
  clear e'
  unfold val_main_v31 val_main_v30 val_main_v29 val_main_v28
  generalize val_main_v27 (F := Ideal) x0 x1 x2 x3 = h
  pointwise [val_main_cst_5]

theorem v34_apply (b : Fin 16) (q : Fin 2048) (l : Fin 1024) :
    (val_main_v34 (F := Ideal) x0 x1 x2 x3 (ix3 b q l) : EReal) = head (scr x0 x1 x2 x3 b q ⟨l.val / 256, by omega⟩) (val x3 b ⟨l.val / 256, by omega⟩) ⟨l.val % 256, by omega⟩ := by
  have e' := v31_apply x0 x1 x2 x3 b ⟨l.val / 256, by omega⟩ q
  unfold head
  simp only [← e', mul_comm (val_main_v31 (F := Ideal) x0 x1 x2 x3 _)]
  clear e'
  unfold val_main_v34 val_main_v33 val_main_v32 val
  generalize val_main_v31 (F := Ideal) x0 x1 x2 x3 = h
  pointwise [val_main_v17, val_main_v15]

theorem v49_apply (b : Fin 16) (q : Fin 2048) (n : Fin 2048) :
    (val_main_v49 (F := Ideal) x0 x1 x2 x3 x4 x5 (ix3 b q n) : EReal) = outRow (fun k => (x0 (ix3 b q k) : EReal)) (fun k => (x5 (ix1 k) : EReal)) (fun l k => (x4 (ix2 l k) : EReal)) (fun l => head (scr x0 x1 x2 x3 b q ⟨l.val / 256, by omega⟩) (val x3 b ⟨l.val / 256, by omega⟩) ⟨l.val % 256, by omega⟩) n := by
  have e' := v34_apply x0 x1 x2 x3 b q
  unfold outRow
  simp only [← e']
  clear e'
  unfold val_main_v49 val_main_v48 val_main_v45 val_main_v44 val_main_v43 val_main_v42 val_main_v40 val_main_v38 val_main_v37 val_main_v36 val_main_v35
  generalize val_main_v34 (F := Ideal) x0 x1 x2 x3 = h
  pointwise [val_main_v47, val_main_v46, val_main_v41, val_main_v39, val_main_cst_6, val_main_cst_7, val_main_cst_8]
  rfl

theorem v50_apply (R : Fin 32768) (n : Fin 2048) :
    (val_main_v50 (F := Ideal) x0 x1 x2 x3 x4 x5 (ix2 R n) : EReal) = val_main_v49 (F := Ideal) x0 x1 x2 x3 x4 x5 (ix3 ⟨R.val / 2048, by omega⟩ ⟨R.val % 2048, by omega⟩ n) := by
  unfold val_main_v50
  generalize val_main_v49 (F := Ideal) x0 x1 x2 x3 x4 x5 = h
  pointwise []

end Cert.Reference3Ideal.Read
end
-- ==== Proof.XEq.lean ====
module

public import proofs.«01_k».proof.Proof.XKern
public import proofs.«01_k».proof.Proof.XRef

@[expose] public section

set_option maxRecDepth 16384

noncomputable section

open Idealize.ShloMosaic Idealize.ShloMosaic.TcCoe Idealize.SL.Sem

/-!
  ONE HEAD of the cross-attention, in kernel and reference.
-/

namespace Cert.Xat
open Cert.Ffn Cert.Kernel3Ideal
variable (m : (ℓ : Loc nD τ sig) → Buf (Elt Ideal) ℓ) (c : Dev nD)

/-- The scores agree: the scale leaves the weights for the score. -/
theorem score_eq (x0 : Cert.Kernel3Ideal.S16x2048x2048.Idx → EReal) (x1 : Cert.Kernel3Ideal.S2048.Idx → EReal) (b : Fin 16) (q : Fin 2048) (h : Fin 4) (j : Fin 256) :
    Cert.Reference3Ideal.Read.scr x0 x1 (Gen.arg2 m c) (m ((c.tc : Thread nD τ).loc main_arg3)) b q h j.val
      = ks (kq (fun k => x0 (ix3 b q k)) (fun k => x1 (ix1 k)) (Gen.wq m c)) (Gen.mem m c b.val) h.val j.val := by
  unfold ks kq score Cert.Reference3Ideal.Read.scr score Cert.Reference3Ideal.Read.qry Cert.Reference3Ideal.Read.key
  simp only [Gen.wq_eq]
  rw [scale_sum _ scale_pos scale_top]
  refine congrArg (· * _) (Finset.sum_congr rfl fun e _ => ?_)
  refine congrArg₂ (· * ·) (Finset.sum_congr rfl fun y _ => ?_) ?_
  · refine congrArg (_ * ·) (congrArg (Gen.arg2 m c) (congrArg (ix2 y) (Fin.ext ?_)))
    show h.val * 256 + e.val = (h.val * 256 + e.val) % 1024
    omega
  · have g := Gen.kv_eq m c b j 0 h e
    simp only [Fin.val_zero, Nat.zero_mul, Nat.zero_add] at g
    rw [g, Fin.ofNat_val_eq_self]

theorem head_eq (x0 : Cert.Kernel3Ideal.S16x2048x2048.Idx → EReal) (x1 : Cert.Kernel3Ideal.S2048.Idx → EReal) (b : Fin 16) (q : Fin 2048) (h : Fin 4) (d : Fin 256) :
    head (Cert.Reference3Ideal.Read.scr x0 x1 (Gen.arg2 m c) (m ((c.tc : Thread nD τ).loc main_arg3)) b q h) (Cert.Reference3Ideal.Read.val (m ((c.tc : Thread nD τ).loc main_arg3)) b h) d
      = kh (kq (fun k => x0 (ix3 b q k)) (fun k => x1 (ix1 k)) (Gen.wq m c)) (Gen.mem m c b.val) h.val d := by
  unfold kh head prob
  have e := score_eq m c x0 x1 b q h
  rw [← sum_eq, ← sum_eq, ← sup_eq, ← sup_eq]
  simp only [e]
  refine Finset.sum_congr rfl fun j _ => congrArg₂ (· * ·) rfl ?_
  have g := Gen.kv_eq m c b j 1 h d
  simp only [Fin.val_one, Nat.one_mul] at g
  rw [g]
  rfl

end Cert.Xat
end
-- ==== Proof.XSame.lean ====
module

public import proofs.«01_k».proof.Defs
public import proofs.«01_k».proof.Proof.Gen.Kernel3
public import proofs.«01_k».proof.Proof.Gen.Kernel3Ideal.Frame

@[expose] public section

set_option maxRecDepth 16384

noncomputable section

open Idealize.ShloMosaic Idealize.SL.Sem

/-!
  THE CROSS-ATTENTION PROGRAM AS PRINTED has the text of the one printed for exact arithmetic, so its frame is read off the other's run.
-/

namespace Cert.Kernel3.Same

/-- The two programs' bodies, -/
theorem body : Cert.Kernel3.defs₀ (F := Bits) = Cert.Kernel3Ideal.defs₀ (F := Bits) := by
  unfold Cert.Kernel3.defs₀ Cert.Kernel3Ideal.defs₀
  refine congrArg Defs.onTc (funext fun l => funext fun x => ?_)
  match l, x with
  | 0, (t, s) =>
    show Cert.Kernel3.cc0_xattn (F := Bits) _ _ _ _ _ _ _ _ _ _ _ _ _ _ _ = Cert.Kernel3Ideal.cc0_xattn (F := Bits) _ _ _ _ _ _ _ _ _ _ _ _ _ _ _
    rfl

/-- and with the pipeline around them. -/
theorem table : Cert.Kernel3.defs (F := Bits) = Cert.Kernel3Ideal.defs (F := Bits) := by
  unfold Cert.Kernel3.defs Cert.Kernel3Ideal.defs
  exact congrArg (Pipeline.defs Cert.Kernel3.pcfgs) body

theorem frame : (haveI := Cert.Kernel3.Gen.facts; Cert.quiescent_Kernel3) := fun m ρ _ => by
  have h := Cert.Kernel3Ideal.Gen.frame (F := Bits) m ρ
  rw [← table] at h
  exact (θ_run Cert.Kernel3.defs _ _).mono (fun _ h => h) h

end Cert.Kernel3.Same

end
-- ==== Proof.PBody.lean ====
module

public import proofs.«01_k».proof.Proof.Gen.Kernel4Ideal.Frame
public import proofs.«01_k».proof.Proof.Gen.Kernel4Ideal.Skeleton
public import Idealize.ShloMosaic.Lib.Pipeline.ValueKit

@[expose] public section

set_option maxRecDepth 16384

noncomputable section

/-
  THE INPUT PROJECTION'S BODY. A point (i, j) of its grid works on rows 1024 i … of the input and on columns 768 j … of the weight. At j = 0
  it normalizes the rows; at every j it writes a tile of the product; at j = 9 and at j = 10 it also multiplies the normalized latents of that
  tile by the weights of q and of kv. Here the body's run in each of the four cases, on any whole memrefs.
-/

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- A store over a whole buffer leaves its payload. -/
theorem read_store_whole {κ : Kind} {sp : Space} {S : Shape} {e : EltTy} (v : View sig κ sp S e) (f : v.ty.Contents (Elt F))
    (L : List (View.Piece (Elt F) S e)) {off : Fin S.rank → ℕ} (inb : ∀ a, off a + S.size a ≤ S.size a) (w : S.Idx → Elt F e) :
    v.read (Elt F) (v.writes (Elt F) f (⟨Rect.unit off S.size inb, w⟩ :: L)) = w := by
  have hz : off = fun _ => 0 := funext fun a => by have := inb a; omega
  subst hz
  funext y
  have hy : (Rect.unit (s := S) (fun _ => 0) S.size inb).emb y = y := by
    funext a
    exact Fin.ext (show 0 + 1 * (y a).val = (y a).val by omega)
  have h := View.read_writes_cons_emb v f (Rect.unit (s := S) (fun _ => 0) S.size inb) w L y
  rwa [hy] at h

/-- A load of a whole buffer reads it. -/
theorem load_whole {κ : Kind} {sp : Space} {S : Shape} {e : EltTy} (v : View sig κ sp S e) (f : v.ty.Contents (Elt F))
    {off : Fin S.rank → ℕ} (inb : ∀ a, off a + S.size a ≤ S.size a) :
    v.readAt (Elt F) (Rect.unit off S.size inb).toLoadRect f = v.read (Elt F) f := by
  have hz : off = fun _ => 0 := funext fun a => by have := inb a; omega
  exact View.ld_unit_zero hz inb _

theorem hcond1 : ∀ t : Fin cfg0.N, k0_cond1 (grid0.coords t) = 1#1 ↔ t.val % 11 = 0 :=
  (fun t => by
    have ht : t.val < 352 := Nat.lt_of_lt_of_eq t.isLt N_0
    have e1 : (grid0.coords t 1).val = t.val / 1 % 11 := Pipeline.Grid.coords_val t 1 (by decide) rfl
    simp only [k0_cond1, e1, Nat.div_one]
    have hj : t.val % 11 < 11 := Nat.mod_lt _ (by decide)
    generalize t.val % 11 = j at hj
    interval_cases j <;> decide
   : ∀ t : Fin grid0.N, k0_cond1 (grid0.coords t) = 1#1 ↔ t.val % 11 = 0)

theorem hcond2 : ∀ t : Fin cfg0.N, k0_cond2 (grid0.coords t) = 1#1 ↔ t.val % 11 ≠ 0 :=
  (fun t => by
    have ht : t.val < 352 := Nat.lt_of_lt_of_eq t.isLt N_0
    have e1 : (grid0.coords t 1).val = t.val / 1 % 11 := Pipeline.Grid.coords_val t 1 (by decide) rfl
    simp only [k0_cond2, e1, Nat.div_one]
    have hj : t.val % 11 < 11 := Nat.mod_lt _ (by decide)
    generalize t.val % 11 = j at hj
    interval_cases j <;> decide
   : ∀ t : Fin grid0.N, k0_cond2 (grid0.coords t) = 1#1 ↔ t.val % 11 ≠ 0)

theorem hcond3 : ∀ t : Fin cfg0.N, k0_cond3 (grid0.coords t) = 1#1 ↔ t.val % 11 = 9 :=
  (fun t => by
    have ht : t.val < 352 := Nat.lt_of_lt_of_eq t.isLt N_0
    have e1 : (grid0.coords t 1).val = t.val / 1 % 11 := Pipeline.Grid.coords_val t 1 (by decide) rfl
    simp only [k0_cond3, e1, Nat.div_one]
    have hj : t.val % 11 < 11 := Nat.mod_lt _ (by decide)
    generalize t.val % 11 = j at hj
    interval_cases j <;> decide
   : ∀ t : Fin grid0.N, k0_cond3 (grid0.coords t) = 1#1 ↔ t.val % 11 = 9)

theorem hcond4 : ∀ t : Fin cfg0.N, k0_cond4 (grid0.coords t) = 1#1 ↔ t.val % 11 = 10 :=
  (fun t => by
    have ht : t.val < 352 := Nat.lt_of_lt_of_eq t.isLt N_0
    have e1 : (grid0.coords t 1).val = t.val / 1 % 11 := Pipeline.Grid.coords_val t 1 (by decide) rfl
    simp only [k0_cond4, e1, Nat.div_one]
    have hj : t.val % 11 < 11 := Nat.mod_lt _ (by decide)
    generalize t.val % 11 = j at hj
    interval_cases j <;> decide
   : ∀ t : Fin grid0.N, k0_cond4 (grid0.coords t) = 1#1 ↔ t.val % 11 = 10)

set_option maxHeartbeats 1000000 in
/-- The first tile: the rows are normalized. -/
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1x256 .f32) (harg7 : arg7.IsWhole) (arg8 : Memref sig .tc .vmem S256x2048 .bf16) (harg8 : arg8.IsWhole) (arg9 : Memref sig .tc .vmem S1024x768 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .bf16) (harg12 : arg12.IsWhole)
    (h1 : k0_cond1 i = 1#1) (h2 : ¬k0_cond2 i = 1#1)
    (x : Vec F S1024x2048 .f32) (gp : Vec F S1x2048 .f32) (w : Vec F S2048x768 .bf16) (o : Vec F S1024x768 .bf16) (h : Vec F S1024x2048 .bf16) (E : Set ℕ) (K : PUnit → sProp (MT nD τ sig Unit (Elt F) ℕ (UR sig nD τ) ℕ)) :
    iprop(owns (c : Thread nD τ) arg2 fullShare x ∗ owns (c : Thread nD τ) arg3 fullShare gp ∗ owns (c : Thread nD τ) arg4 fullShare w ∗ owns (c : Thread nD τ) arg9 fullShare o ∗ owns (c : Thread nD τ) arg12 fullShare h
        ∗ (iprop(owns (c : Thread nD τ) arg2 fullShare x ∗ owns (c : Thread nD τ) arg3 fullShare gp ∗ owns (c : Thread nD τ) arg4 fullShare w ∗ owns (c : Thread nD τ) arg9 fullShare (k0_pay3 x gp w) ∗ owns (c : Thread nD τ) arg12 fullShare (k0_pay2 x gp)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  unfold owns
  iintro ⟨⟨%f2, %hf2, H2⟩, ⟨%f3, %hf3, H3⟩, ⟨%f4, %hf4, H4⟩, ⟨%f9, %hf9, H9⟩, ⟨%f12, %hf12, H12⟩, Hk⟩
  sl_exec (disch := first | sl_exact h1 | sl_exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H9]
  · iexists _; isplitr
    swap; · iexact H9
    ipureintro
    refine (read_store_whole _ _ _ _ _).trans ?_
    congr 1
    exacts [(load_whole arg2.view f2 _).trans hf2, (load_whole arg3.view f3 _).trans hf3, (load_whole arg4.view f4 _).trans hf4]
  iexists _; isplitr
  swap; · iexact H12
  ipureintro
  refine (read_store_whole _ _ _ _ _).trans ?_
  congr 1
  exacts [(load_whole arg2.view f2 _).trans hf2, (load_whole arg3.view f3 _).trans hf3]

set_option maxHeartbeats 1000000 in
/-- A tile of neither latent. -/
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1x256 .f32) (harg7 : arg7.IsWhole) (arg8 : Memref sig .tc .vmem S256x2048 .bf16) (harg8 : arg8.IsWhole) (arg9 : Memref sig .tc .vmem S1024x768 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .bf16) (harg12 : arg12.IsWhole)
    (h1 : ¬k0_cond1 i = 1#1) (h2 : k0_cond2 i = 1#1) (h3 : ¬k0_cond3 i = 1#1) (h4 : ¬k0_cond4 i = 1#1)
    (w : Vec F S2048x768 .bf16) (o : Vec F S1024x768 .bf16) (h : Vec F S1024x2048 .bf16) (E : Set ℕ) (K : PUnit → sProp (MT nD τ sig Unit (Elt F) ℕ (UR sig nD τ) ℕ)) :
    iprop(owns (c : Thread nD τ) arg4 fullShare w ∗ owns (c : Thread nD τ) arg9 fullShare o ∗ owns (c : Thread nD τ) arg12 fullShare h
        ∗ (iprop(owns (c : Thread nD τ) arg4 fullShare w ∗ owns (c : Thread nD τ) arg9 fullShare (k0_pay5 h w) ∗ owns (c : Thread nD τ) arg12 fullShare h) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  unfold owns
  iintro ⟨⟨%f4, %hf4, H4⟩, ⟨%f9, %hf9, H9⟩, ⟨%f12, %hf12, H12⟩, Hk⟩
  sl_exec (disch := first | sl_exact h1 | sl_exact h2 | sl_exact h3 | sl_exact h4)
  sl_step
  iapply Hk
  isplitl [H4]
  · iexists _; isplitr; · ipureintro; exact hf4
    iexact H4
  isplitl [H9]
  · iexists _; isplitr
    swap; · iexact H9
    ipureintro
    refine (read_store_whole _ _ _ _ _).trans ?_
    congr 1
    exacts [(load_whole arg12.view f12 _).trans hf12, (load_whole arg4.view f4 _).trans hf4]
  iexists _; isplitr; · ipureintro; exact hf12
  iexact H12

set_option maxHeartbeats 1000000 in
/-- The tile with the latent of q. -/
theorem run_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1x256 .f32) (harg7 : arg7.IsWhole) (arg8 : Memref sig .tc .vmem S256x2048 .bf16) (harg8 : arg8.IsWhole) (arg9 : Memref sig .tc .vmem S1024x768 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .bf16) (harg12 : arg12.IsWhole)
    (h1 : ¬k0_cond1 i = 1#1) (h2 : k0_cond2 i = 1#1) (h3 : k0_cond3 i = 1#1) (h4 : ¬k0_cond4 i = 1#1)
    (w : Vec F S2048x768 .bf16) (gq : Vec F S1x512 .f32) (wq : Vec F S512x2048 .bf16) (o : Vec F S1024x768 .bf16) (q : Vec F S1024x2048 .bf16) (h : Vec F S1024x2048 .bf16) (E : Set ℕ) (K : PUnit → sProp (MT nD τ sig Unit (Elt F) ℕ (UR sig nD τ) ℕ)) :
    iprop(owns (c : Thread nD τ) arg4 fullShare w ∗ owns (c : Thread nD τ) arg5 fullShare gq ∗ owns (c : Thread nD τ) arg6 fullShare wq ∗ owns (c : Thread nD τ) arg9 fullShare o ∗ owns (c : Thread nD τ) arg10 fullShare q ∗ owns (c : Thread nD τ) arg12 fullShare h
        ∗ (iprop(owns (c : Thread nD τ) arg4 fullShare w ∗ owns (c : Thread nD τ) arg5 fullShare gq ∗ owns (c : Thread nD τ) arg6 fullShare wq ∗ owns (c : Thread nD τ) arg9 fullShare (k0_pay5 h w) ∗ owns (c : Thread nD τ) arg10 fullShare (k0_pay6 h w gq wq) ∗ owns (c : Thread nD τ) arg12 fullShare h) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  unfold owns
  iintro ⟨⟨%f4, %hf4, H4⟩, ⟨%f5, %hf5, H5⟩, ⟨%f6, %hf6, H6⟩, ⟨%f9, %hf9, H9⟩, ⟨%f10, %hf10, H10⟩, ⟨%f12, %hf12, H12⟩, Hk⟩
  sl_exec (disch := first | sl_exact h1 | sl_exact h2 | sl_exact h3 | sl_exact h4)
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H9]
  · iexists _; isplitr
    swap; · iexact H9
    ipureintro
    refine (read_store_whole _ _ _ _ _).trans ?_
    congr 1
    exacts [(load_whole arg12.view f12 _).trans hf12, (load_whole arg4.view f4 _).trans hf4]
  isplitl [H10]
  · iexists _; isplitr
    swap; · iexact H10
    ipureintro
    refine (read_store_whole _ _ _ _ _).trans ?_
    congr 1
    exacts [(load_whole arg12.view f12 _).trans hf12, (load_whole arg4.view f4 _).trans hf4, (load_whole arg5.view f5 _).trans hf5, (load_whole arg6.view f6 _).trans hf6]
  iexists _; isplitr; · ipureintro; exact hf12
  iexact H12

set_option maxHeartbeats 1000000 in
/-- The tile with the latent of kv. -/
theorem run_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1x256 .f32) (harg7 : arg7.IsWhole) (arg8 : Memref sig .tc .vmem S256x2048 .bf16) (harg8 : arg8.IsWhole) (arg9 : Memref sig .tc .vmem S1024x768 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .bf16) (harg12 : arg12.IsWhole)
    (h1 : ¬k0_cond1 i = 1#1) (h2 : k0_cond2 i = 1#1) (h3 : ¬k0_cond3 i = 1#1) (h4 : k0_cond4 i = 1#1)
    (w : Vec F S2048x768 .bf16) (gk : Vec F S1x256 .f32) (wk : Vec F S256x2048 .bf16) (o : Vec F S1024x768 .bf16) (kv : Vec F S1024x2048 .bf16) (h : Vec F S1024x2048 .bf16) (E : Set ℕ) (K : PUnit → sProp (MT nD τ sig Unit (Elt F) ℕ (UR sig nD τ) ℕ)) :
    iprop(owns (c : Thread nD τ) arg4 fullShare w ∗ owns (c : Thread nD τ) arg7 fullShare gk ∗ owns (c : Thread nD τ) arg8 fullShare wk ∗ owns (c : Thread nD τ) arg9 fullShare o ∗ owns (c : Thread nD τ) arg11 fullShare kv ∗ owns (c : Thread nD τ) arg12 fullShare h
        ∗ (iprop(owns (c : Thread nD τ) arg4 fullShare w ∗ owns (c : Thread nD τ) arg7 fullShare gk ∗ owns (c : Thread nD τ) arg8 fullShare wk ∗ owns (c : Thread nD τ) arg9 fullShare (k0_pay5 h w) ∗ owns (c : Thread nD τ) arg11 fullShare (k0_pay7 h w gk wk) ∗ owns (c : Thread nD τ) arg12 fullShare h) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  unfold owns
  iintro ⟨⟨%f4, %hf4, H4⟩, ⟨%f7, %hf7, H7⟩, ⟨%f8, %hf8, H8⟩, ⟨%f9, %hf9, H9⟩, ⟨%f11, %hf11, H11⟩, ⟨%f12, %hf12, H12⟩, Hk⟩
  sl_exec (disch := first | sl_exact h1 | sl_exact h2 | sl_exact h3 | sl_exact h4)
  sl_step
  iapply Hk
  isplitl [H4]
  · iexists _; isplitr; · ipureintro; exact hf4
    iexact H4
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    refine (read_store_whole _ _ _ _ _).trans ?_
    congr 1
    exacts [(load_whole arg12.view f12 _).trans hf12, (load_whole arg4.view f4 _).trans hf4]
  isplitl [H11]
  · iexists _; isplitr
    swap; · iexact H11
    ipureintro
    refine (read_store_whole _ _ _ _ _).trans ?_
    congr 1
    exacts [(load_whole arg12.view f12 _).trans hf12, (load_whole arg4.view f4 _).trans hf4, (load_whole arg7.view f7 _).trans hf7, (load_whole arg8.view f8 _).trans hf8]
  iexists _; isplitr; · ipureintro; exact hf12
  iexact H12

end Cert.Kernel4Ideal.Gen
-- ==== Proof.PFrame.lean ====
module

public import proofs.«01_k».proof.Proof.PBody

@[expose] public section

set_option maxRecDepth 16384

noncomputable section

/-
  THE INPUT PROJECTION'S RUN: what the scratch buffer and the results' buffers hold after each point, the body at every point, the launch and
  the frame.
-/

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The body's assertions. -/
abbrev FProp (F : FTy → Type) [FloatOps F] : Type := sProp (MT nD τ sig Unit (Elt F) ℕ (UR sig nD τ) ℕ)

variable (m : (ℓ : Loc nD τ sig) → Buf (Elt F) ℓ) (ρ : Dev nD → PrngReg)

/-! ## The blocks: the rows, the gain, the weight's tile, and each latent's gain and weight -/

def xblk (c : Dev nD) (t : Fin cfg0.N) : Vec F S1024x2048 .f32 := iblk m c 0 t
def gblk (c : Dev nD) (t : Fin cfg0.N) : Vec F S1x2048 .f32 := iblk m c 1 t
def wblk (c : Dev nD) (t : Fin cfg0.N) : Vec F S2048x768 .bf16 := iblk m c 2 t
def gqblk (c : Dev nD) (t : Fin cfg0.N) : Vec F S1x512 .f32 := iblk m c 3 t
def wqblk (c : Dev nD) (t : Fin cfg0.N) : Vec F S512x2048 .bf16 := iblk m c 4 t
def gkblk (c : Dev nD) (t : Fin cfg0.N) : Vec F S1x256 .f32 := iblk m c 5 t
def wkblk (c : Dev nD) (t : Fin cfg0.N) : Vec F S256x2048 .bf16 := iblk m c 6 t

/-! ## What the buffers hold after each point -/

/-- The normalized rows: of the last first tile. -/
def sh (c : Dev nD) : (n : ℕ) → n < cfg0.N → Vec F S1024x2048 .bf16
  | 0, hn => k0_pay2 (xblk m c ⟨0, hn⟩) (gblk m c ⟨0, hn⟩)
  | n + 1, hn => if (n + 1) % 11 = 0 then k0_pay2 (xblk m c ⟨n + 1, hn⟩) (gblk m c ⟨n + 1, hn⟩) else sh c n (Nat.lt_of_succ_lt hn)

theorem sh_first (c : Dev nD) (t : Fin cfg0.N) (h : t.val % 11 = 0) : sh m c t.val t.isLt = k0_pay2 (xblk m c t) (gblk m c t) := by
  obtain ⟨n, hn⟩ := t
  cases n with
  | zero => rfl
  | succ n => exact if_pos h

theorem sh_next (c : Dev nD) (t : Fin cfg0.N) (h : t.val % 11 ≠ 0) (hl : t.val - 1 < cfg0.N) : sh m c t.val t.isLt = sh m c (t.val - 1) hl := by
  obtain ⟨n, hn⟩ := t
  cases n with
  | zero => exact absurd (Nat.zero_mod _) h
  | succ n => exact if_neg h

/-- A tile of the product, -/
def ot (c : Dev nD) (t : Fin cfg0.N) : Vec F S1024x768 .bf16 :=
  if t.val % 11 = 0 then k0_pay3 (xblk m c t) (gblk m c t) (wblk m c t) else k0_pay5 (sh m c t.val t.isLt) (wblk m c t)
/-- the queries of the latent in a tile, -/
def qt (c : Dev nD) (t : Fin cfg0.N) : Vec F S1024x2048 .bf16 := k0_pay6 (sh m c t.val t.isLt) (wblk m c t) (gqblk m c t) (wqblk m c t)
/-- as they stand at the last tile, -/
def ql (c : Dev nD) (t : Fin cfg0.N) : Vec F S1024x2048 .bf16 :=
  if t.val % 11 = 10 then qt m c ⟨t.val - 1, Nat.lt_of_le_of_lt (Nat.sub_le _ _) t.isLt⟩ else qt m c t
/-- and the keys and values of the latent in a tile. -/
def kt (c : Dev nD) (t : Fin cfg0.N) : Vec F S1024x2048 .bf16 := k0_pay7 (sh m c t.val t.isLt) (wblk m c t) (gkblk m c t) (wkblk m c t)

/-- The scratch operand. -/
abbrev scM0_0 : Memref sig .tc .vmem S1024x2048 .bf16 := Memref.whole cc0_scratch0

/-- The launch's invariant with the scratch operand as a memref. -/
theorem PhiA0_eq (c : Dev nD) :
    (Pipeline.ΦA spec0 c : FProp F) = iprop((∃ d, owns (c : Thread nD τ) scM0_0 fullShare d) ∗ (∃ r, prngReg c r)) := by
  unfold Pipeline.ΦA; rw [scopedRest0_eq]; simp only [scM0_0, owns_whole]; try rfl

/-- Before the first point the scratch holds anything, afterwards what the point before left. -/
def PhiS (c : Dev nD) : (n : ℕ) → n ≤ cfg0.N → FProp F
  | 0, _ => Pipeline.ΦA spec0 c
  | n + 1, hn => iprop(owns (c : Thread nD τ) scM0_0 fullShare (sh m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (sh m c n hn) ∗ (∃ r, prngReg c r)) := rfl

theorem PhiS_pos (c : Dev nD) (n : ℕ) (h : n ≤ cfg0.N) (hz : n ≠ 0) :
    PhiS m c n h = iprop(owns (c : Thread nD τ) scM0_0 fullShare (sh m c (n - 1) (by omega)) ∗ (∃ r, prngReg c r)) := by
  cases n with
  | zero => exact absurd rfl hz
  | succ n => rfl

/-- The proof data: the arrays as the region finds them, an input's buffer at its block, the results' at what is said above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => ot m c t
    | ⟨8, _⟩ => ql m c t
    | ⟨9, _⟩ => kt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = ot m c t := by dsimp only [dats]
theorem after0_8 (c : Dev nD) (t : Fin cfg0.N) : (dats m 0 c).after 8 t = ql m c t := by dsimp only [dats]
theorem after0_9 (c : Dev nD) (t : Fin cfg0.N) : (dats m 0 c).after 9 t = kt m c t := by dsimp only [dats]

theorem before0_0 (c : Dev nD) (t : Fin cfg0.N) (d) : (dats m 0 c).before 0 t d = xblk m c t :=
  before0_0_of m (dats m 0 c) (A_eq m c 0) (after0_0 m c) t d
theorem before0_1 (c : Dev nD) (t : Fin cfg0.N) (d) : (dats m 0 c).before 1 t d = gblk m c t :=
  before0_1_of m (dats m 0 c) (A_eq m c 1) (after0_1 m c) t d
theorem before0_2 (c : Dev nD) (t : Fin cfg0.N) (d) : (dats m 0 c).before 2 t d = wblk m c t :=
  before0_2_of m (dats m 0 c) (A_eq m c 2) (after0_2 m c) t d
theorem before0_3 (c : Dev nD) (t : Fin cfg0.N) (d) : (dats m 0 c).before 3 t d = gqblk m c t :=
  before0_3_of m (dats m 0 c) (A_eq m c 3) (after0_3 m c) t d
theorem before0_4 (c : Dev nD) (t : Fin cfg0.N) (d) : (dats m 0 c).before 4 t d = wqblk m c t :=
  before0_4_of m (dats m 0 c) (A_eq m c 4) (after0_4 m c) t d
theorem before0_5 (c : Dev nD) (t : Fin cfg0.N) (d) : (dats m 0 c).before 5 t d = gkblk m c t :=
  before0_5_of m (dats m 0 c) (A_eq m c 5) (after0_5 m c) t d
theorem before0_6 (c : Dev nD) (t : Fin cfg0.N) (d) : (dats m 0 c).before 6 t d = wkblk m c t :=
  before0_6_of m (dats m 0 c) (A_eq m c 6) (after0_6 m c) t d

/-! ## Where a result's buffer is left alone -/

theorem idle_7 (t : Fin cfg0.N) : cfg0.idle 7 (cfg0.grid.coords t) = false := by
  show (!(k0_cond1 (grid0.coords t) == 1#1) && !(k0_cond2 (grid0.coords t) == 1#1)) = false
  by_cases h : t.val % 11 = 0
  · rw [(hcond1 t).mpr h]; rfl
  · rw [(hcond2 t).mpr h]; exact Bool.and_false _

theorem idle_8 (t : Fin cfg0.N) (h : t.val % 11 = 9) : cfg0.idle 8 (cfg0.grid.coords t) = false := by
  show (!(k0_cond2 (grid0.coords t) == 1#1 && k0_cond3 (grid0.coords t) == 1#1)) = false
  rw [(hcond2 t).mpr (by omega), (hcond3 t).mpr h]; rfl

theorem idle_8' (t : Fin cfg0.N) (h : t.val % 11 ≠ 9) : cfg0.idle 8 (cfg0.grid.coords t) = true := by
  show (!(k0_cond2 (grid0.coords t) == 1#1 && k0_cond3 (grid0.coords t) == 1#1)) = true
  rw [Bool.not_eq_true', Bool.and_eq_false_iff]
  exact .inr (beq_eq_false_iff_ne.mpr fun hc => h ((hcond3 t).mp hc))

theorem idle_9 (t : Fin cfg0.N) (h : t.val % 11 = 10) : cfg0.idle 9 (cfg0.grid.coords t) = false := by
  show (!(k0_cond2 (grid0.coords t) == 1#1 && k0_cond4 (grid0.coords t) == 1#1)) = false
  rw [(hcond2 t).mpr (by omega), (hcond4 t).mpr h]; rfl

theorem idle_9' (t : Fin cfg0.N) (h : t.val % 11 ≠ 10) : cfg0.idle 9 (cfg0.grid.coords t) = true := by
  show (!(k0_cond2 (grid0.coords t) == 1#1 && k0_cond4 (grid0.coords t) == 1#1)) = true
  rw [Bool.not_eq_true', Bool.and_eq_false_iff]
  exact .inr (beq_eq_false_iff_ne.mpr fun hc => h ((hcond4 t).mp hc))

/-- At the last tile the buffer of the queries still holds what the tile before wrote. -/
theorem before0_8_last (c : Dev nD) (t : Fin cfg0.N) (h : t.val % 11 = 10) (d) : (dats m 0 c).before 8 t d = ql m c t := by
  have hf : (cfg0.win 8).flush ⟨t.val - 1, Nat.lt_of_le_of_lt (Nat.sub_le _ _) t.isLt⟩ = false := by
    rw [Bool.eq_false_iff]; intro hc; have := (flush0_8 _).mp hc; dsimp only at this; omega
  have hi := idle_8 ⟨t.val - 1, Nat.lt_of_le_of_lt (Nat.sub_le _ _) t.isLt⟩ (by dsimp only; omega)
  rw [Dat.before_of_pos (dats m 0 c) 8 t (by omega) rfl d, hf, if_neg Bool.false_ne_true]
  unfold Dat.left
  rw [hi]
  show (dats m 0 c).after 8 _ = _
  rw [after0_8]
  unfold ql
  rw [if_pos h, if_neg (by dsimp only; omega)]

/-! ## The body at every point -/

/-- What the body is called with at a point, window by window, -/
def bodyPre (c : Dev nD) (t : Fin cfg0.N) : FProp F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- what it returns in a result's window, -/
def post7 (c : Dev nD) (t : Fin cfg0.N) : FProp F :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)
def post8 (c : Dev nD) (t : Fin cfg0.N) : FProp F :=
  match cfg0.idle 8 (cfg0.grid.coords t) with
  | true =>
    match (cfg0.win 8).flush t with
    | false => iprop(∃ d, owns (c : Thread nD τ) (st0_8 t) fullShare ((dats m 0 c).before 8 t d))
    | true => owns (c : Thread nD τ) (st0_8 t) fullShare ((dats m 0 c).after 8 t)
  | false => owns (c : Thread nD τ) (st0_8 t) fullShare ((dats m 0 c).after 8 t)
def post9 (c : Dev nD) (t : Fin cfg0.N) : FProp F :=
  match cfg0.idle 9 (cfg0.grid.coords t) with
  | true =>
    match (cfg0.win 9).flush t with
    | false => iprop(∃ d, owns (c : Thread nD τ) (st0_9 t) fullShare ((dats m 0 c).before 9 t d))
    | true => owns (c : Thread nD τ) (st0_9 t) fullShare ((dats m 0 c).after 9 t)
  | false => owns (c : Thread nD τ) (st0_9 t) fullShare ((dats m 0 c).after 9 t)

/-- and in all of them. -/
def bodyPost (c : Dev nD) (t : Fin cfg0.N) : FProp F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ post7 m c t ∗ post8 m c t ∗ post9 m c t)

theorem post7_eq (c : Dev nD) (t : Fin cfg0.N) : post7 m c t = owns (c : Thread nD τ) (st0_7 t) fullShare (ot m c t) := by
  unfold post7; rw [idle_7 t, after0_7]

theorem post8_at (c : Dev nD) (t : Fin cfg0.N) (h : t.val % 11 = 9) : post8 m c t = owns (c : Thread nD τ) (st0_8 t) fullShare (qt m c t) := by
  unfold post8; rw [idle_8 t h, after0_8]; unfold ql; rw [if_neg (by omega)]

theorem post8_last (c : Dev nD) (t : Fin cfg0.N) (h : t.val % 11 = 10) : post8 m c t = owns (c : Thread nD τ) (st0_8 t) fullShare (ql m c t) := by
  unfold post8; rw [idle_8' t (by omega), (flush0_8 t).mpr h, after0_8]

theorem post8_idle (c : Dev nD) (t : Fin cfg0.N) (h : t.val % 11 ≠ 9) (h' : t.val % 11 ≠ 10) : post8 m c t = iprop(∃ d, owns (c : Thread nD τ) (st0_8 t) fullShare ((dats m 0 c).before 8 t d)) := by
  have hf : (cfg0.win 8).flush t = false := by
    rw [Bool.eq_false_iff]; exact fun hc => h' ((flush0_8 t).mp hc)
  unfold post8; rw [idle_8' t h, hf]

theorem post9_last (c : Dev nD) (t : Fin cfg0.N) (h : t.val % 11 = 10) : post9 m c t = owns (c : Thread nD τ) (st0_9 t) fullShare (kt m c t) := by
  unfold post9; rw [idle_9 t h, after0_9]

theorem post9_idle (c : Dev nD) (t : Fin cfg0.N) (h : t.val % 11 ≠ 10) : post9 m c t = iprop(∃ d, owns (c : Thread nD τ) (st0_9 t) fullShare ((dats m 0 c).before 9 t d)) := by
  have hf : (cfg0.win 9).flush t = false := by
    rw [Bool.eq_false_iff]; exact fun hc => h ((flush0_9 t).mp hc)
  unfold post9; rw [idle_9' t h, hf]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 352 := lt_of_lt_of_eq t.isLt (show cfg0.N = 352 from N_0)
  have hl : t.val - 1 < cfg0.N := Nat.lt_of_le_of_lt (Nat.sub_le _ _) t.isLt
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, post7_eq]
  rw [show (dats m 0 c).Φ t.succ = PhiS m c (t.val + 1) t.isLt from rfl, PhiS_succ, PhiS_castSucc m c t]
  by_cases h0 : t.val % 11 = 0
  · rw [post8_idle m c t (by omega) (by omega), post9_idle m c t (by omega), sh_first m c t h0,
      show ot m c t = k0_pay3 (xblk m c t) (gblk m c t) (wblk m c t) from if_pos h0]
    by_cases hz : t.val = 0
    · rw [PhiS_zero m c _ _ hz, PhiA0_eq]
      iintro ⟨⟨⟨%e0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) _ _ _ _ _ _ _ _ _ _ _ _ _ _ _ _ _ _ _ _ _ _ ((hcond1 t).mpr h0) (fun hb => ((hcond2 t).mp hb) h0) (xblk m c t) (gblk m c t) (wblk m c t) _ _ Set.univ _)
      isplitl [H0]; · iexact H0
      isplitl [H1]; · iexact H1
      isplitl [H2]; · iexact H2
      isplitl [H7]; · iexact H7
      isplitl [HS0]; · iexact HS0
      iintro ⟨H0, H1, H2, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      iexists d9; iexact H9
    · rw [PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) _ _ _ _ _ _ _ _ _ _ _ _ _ _ _ _ _ _ _ _ _ _ ((hcond1 t).mpr h0) (fun hb => ((hcond2 t).mp hb) h0) (xblk m c t) (gblk m c t) (wblk m c t) _ _ Set.univ _)
      isplitl [H0]; · iexact H0
      isplitl [H1]; · iexact H1
      isplitl [H2]; · iexact H2
      isplitl [H7]; · iexact H7
      isplitl [HS0]; · iexact HS0
      iintro ⟨H0, H1, H2, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      iexists d9; iexact H9
  · rw [PhiS_pos m c _ _ (by rintro hz; rw [hz] at h0; exact h0 rfl),
      show ot m c t = k0_pay5 (sh m c t.val t.isLt) (wblk m c t) from if_neg h0]
    by_cases hC : t.val % 11 = 9
    · rw [post8_at m c t hC, post9_idle m c t (by omega)]
      unfold qt
      rw [sh_next m c t h0 hl]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_C c (grid0.coords t) _ _ _ _ _ _ _ _ _ _ _ _ _ _ _ _ _ _ _ _ _ _ (fun ha => h0 ((hcond1 t).mp ha)) ((hcond2 t).mpr h0) ((hcond3 t).mpr hC) (fun hd => by have := (hcond4 t).mp hd; omega) (wblk m c t) (gqblk m c t) (wqblk m c t) _ _ _ Set.univ _)
      isplitl [H2]; · iexact H2
      isplitl [H3]; · iexact H3
      isplitl [H4]; · iexact H4
      isplitl [H7]; · iexact H7
      isplitl [H8]; · iexact H8
      isplitl [HS0]; · iexact HS0
      iintro ⟨H2, H3, H4, H7, H8, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists d9; iexact H9
    · by_cases hD : t.val % 11 = 10
      · rw [post8_last m c t hD, post9_last m c t hD]
        unfold kt
        rw [sh_next m c t h0 hl]
        simp only [before0_8_last m c t hD]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (run_D c (grid0.coords t) _ _ _ _ _ _ _ _ _ _ _ _ _ _ _ _ _ _ _ _ _ _ (fun ha => h0 ((hcond1 t).mp ha)) ((hcond2 t).mpr h0) (fun hc => hC ((hcond3 t).mp hc)) ((hcond4 t).mpr hD) (wblk m c t) (gkblk m c t) (wkblk m c t) _ _ _ Set.univ _)
        isplitl [H2]; · iexact H2
        isplitl [H5]; · iexact H5
        isplitl [H6]; · iexact H6
        isplitl [H7]; · iexact H7
        isplitl [H9]; · iexact H9
        isplitl [HS0]; · iexact HS0
        iintro ⟨H2, H5, H6, H7, H9, HS0⟩
        isplitl [HS0 Hg]
        · isplitl [HS0]; · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · rw [post8_idle m c t hC hD, post9_idle m c t hD, sh_next m c t h0 hl]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (run_B c (grid0.coords t) _ _ _ _ _ _ _ _ _ _ _ _ _ _ _ _ _ _ _ _ _ _ (fun ha => h0 ((hcond1 t).mp ha)) ((hcond2 t).mpr h0) (fun hc => hC ((hcond3 t).mp hc)) (fun hd => hD ((hcond4 t).mp hd)) (wblk m c t) _ _ Set.univ _)
        isplitl [H2]; · iexact H2
        isplitl [H7]; · iexact H7
        isplitl [HS0]; · iexact HS0
        iintro ⟨H2, H7, HS0⟩
        isplitl [HS0 Hg]
        · isplitl [HS0]; · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists d8; iexact H8
        iexists d9; iexact H9

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 352 := N_0; omega)

theorem share_full (c : Dev nD) (w : Fin cfg0.W) : (dats m 0 c).share w = fullShare := by
  unfold Dat.share; split <;> rfl

set_option backward.isDefEq.respectTransparency.types false in
/-- THE LAUNCH: every fair execution ends with the pipeline's arrays at what the proof data says, every other unscoped buffer as the region
    found it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := share_full m)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel4Ideal.Gen

end
-- ==== Proof.Proj.lean ====
module

public import proofs.«01_k».proof.Proof.PFrame
public import proofs.«01_k».proof.Proof.Soft
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

/-!
  THE INPUT PROJECTION in exact arithmetic: what the body writes of one row.
-/

namespace Cert.Proj

/-- A row scaled by the root of its mean square, the mean over `w` entries, with a gain. -/
def nrm {n : ℕ} (w : BitVec 32) (v g : Fin n → EReal) (k : Fin n) : EReal :=
  v k * Ideal.rsqrt (Ideal.div (∑ x, v x * v x) (Ideal.ofBits .f32 w) + Ideal.ofBits .f32 897988541#32) * g k

/-- The row's product with a column of a weight, -/
def proj (x g : Fin 2048 → EReal) (w : ℕ → Fin 2048 → EReal) (l : ℕ) : EReal := ∑ y, nrm 1157627904#32 x g y * w l y
/-- and a latent's: the latent normalized, times a column of its own weight. -/
def up {n : ℕ} (w : BitVec 32) (v g u : Fin n → EReal) : EReal := ∑ e, nrm w v g e * u e

/-- The column of the input weight a column of the first result is of, -/
def col (l : ℕ) : ℕ :=
  if l < 4096 then 4160 + l else if l < 7168 then 832 + (l - 4096) else if l < 7936 then l - 7168
  else if l < 8192 then 3904 + (l - 7936) else if l < 8320 then 768 + l % 64 else 768 + (l + 32) % 64
/-- and the column of the weight of q a column of the second is of. -/
def qcol (n : ℕ) : ℕ :=
  if n < 1024 then n / 128 * 192 + n % 128 else if n < 1536 then (n - 1024) / 64 * 192 + (128 + n % 64)
  else (n - 1536) / 64 * 192 + (128 + (n + 32) % 64)

theorem col0 {l : ℕ} (c0 : l < 4096) : 4160 + l = col l := by
  unfold col; split_ifs <;> omega
theorem col1 {l : ℕ} (c0 : ¬ l < 4096) (c1 : l - 4096 < 3072) : 832 + (l - 4096) = col l := by
  unfold col; split_ifs <;> omega
theorem col2 {l : ℕ} (c0 : ¬ l < 4096) (c1 : ¬ l - 4096 < 3072) (c2 : l - 4096 - 3072 < 768) : l - 4096 - 3072 = col l := by
  unfold col; split_ifs <;> omega
theorem col3 {l : ℕ} (c0 : ¬ l < 4096) (c1 : ¬ l - 4096 < 3072) (c2 : ¬ l - 4096 - 3072 < 768) (c3 : l - 4096 - 3072 - 768 < 256) : 3904 + (l - 4096 - 3072 - 768) = col l := by
  unfold col; split_ifs <;> omega
theorem col4 {l : ℕ} (c0 : ¬ l < 4096) (c1 : ¬ l - 4096 < 3072) (c2 : ¬ l - 4096 - 3072 < 768) (c3 : ¬ l - 4096 - 3072 - 768 < 256) (c4 : l - 4096 - 3072 - 768 - 256 < 64) : 768 + (l - 4096 - 3072 - 768 - 256) = col l := by
  unfold col; split_ifs <;> omega
theorem col5 {l : ℕ} (c0 : ¬ l < 4096) (c1 : ¬ l - 4096 < 3072) (c2 : ¬ l - 4096 - 3072 < 768) (c3 : ¬ l - 4096 - 3072 - 768 < 256) (c4 : ¬ l - 4096 - 3072 - 768 - 256 < 64) (c5 : l - 4096 - 3072 - 768 - 256 - 64 < 64) : 768 + (l - 4096 - 3072 - 768 - 256 - 64) = col l := by
  unfold col; split_ifs <;> omega
theorem col6 {l : ℕ} (c0 : ¬ l < 4096) (c1 : ¬ l - 4096 < 3072) (c2 : ¬ l - 4096 - 3072 < 768) (c3 : ¬ l - 4096 - 3072 - 768 < 256) (c4 : ¬ l - 4096 - 3072 - 768 - 256 < 64) (c5 : ¬ l - 4096 - 3072 - 768 - 256 - 64 < 64) (c6 : l - 4096 - 3072 - 768 - 256 - 64 - 64 < 64) : 768 + (l - 4096 - 3072 - 768 - 256 - 64 - 64 + 32) % 64 = col l := by
  unfold col; split_ifs <;> omega
theorem col7 {l : ℕ} (c0 : ¬ l < 4096) (c1 : ¬ l - 4096 < 3072) (c2 : ¬ l - 4096 - 3072 < 768) (c3 : ¬ l - 4096 - 3072 - 768 < 256) (c4 : ¬ l - 4096 - 3072 - 768 - 256 < 64) (c5 : ¬ l - 4096 - 3072 - 768 - 256 - 64 < 64) (c6 : ¬ l - 4096 - 3072 - 768 - 256 - 64 - 64 < 64) (hl : l < 8448) : 768 + (l - 4096 - 3072 - 768 - 256 - 64 - 64 - 64 + 32) % 64 = col l := by
  unfold col; split_ifs <;> omega
theorem col_at (f : (⟨2, ![2048, 8256]⟩ : Shape).Idx → EReal) (y : Fin 2048) {l a : ℕ} (h : a < 8256) (e : a = col l) : f (ix2 y ⟨a, h⟩) = f (ix2 y (Fin.ofNat 8256 (col l))) :=
  congrArg f (congrArg (ix2 y) (Fin.ext (e ▸ (Nat.mod_eq_of_lt h).symm)))
theorem qcol0 {n : ℕ} (c0 : n < 1024) : n / 128 * 192 + n % 128 = qcol n := by
  unfold qcol; split_ifs <;> omega
theorem qcol1 {n : ℕ} (c0 : ¬ n < 1024) (c1 : n - 1024 < 512) : (n - 1024) / 64 * 192 + (128 + (n - 1024) % 64) = qcol n := by
  unfold qcol; split_ifs <;> omega
theorem qcol2 {n : ℕ} (c0 : ¬ n < 1024) (c1 : ¬ n - 1024 < 512) (hn : n < 2048) : (n - 1024 - 512) / 64 * 192 + (128 + (n - 1024 - 512 + 32) % 64) = qcol n := by
  unfold qcol; split_ifs <;> omega

theorem rcol0 {l : ℕ} (c0 : l < 4096) : 4160 + l = col l := by
  unfold col; split_ifs <;> omega
theorem rcol1 {l : ℕ} (c0 : ¬ l < 4096) (c1 : l - 4096 < 3072) : 832 + (l - 4096) = col l := by
  unfold col; split_ifs <;> omega
theorem rcol2 {l : ℕ} (c0 : ¬ l < 4096) (c1 : ¬ l - 4096 < 3072) (c2 : l - 4096 - 3072 < 512) : l - 4096 - 3072 = col l := by
  unfold col; split_ifs <;> omega
theorem rcol3 {l : ℕ} (c0 : ¬ l < 4096) (c1 : ¬ l - 4096 < 3072) (c2 : ¬ l - 4096 - 3072 < 512) (c3 : l - 4096 - 3072 - 512 < 256) : 512 + (l - 4096 - 3072 - 512) = col l := by
  unfold col; split_ifs <;> omega
theorem rcol4 {l : ℕ} (c0 : ¬ l < 4096) (c1 : ¬ l - 4096 < 3072) (c2 : ¬ l - 4096 - 3072 < 512) (c3 : ¬ l - 4096 - 3072 - 512 < 256) (c4 : l - 4096 - 3072 - 512 - 256 < 256) : 832 + (3072 + (l - 4096 - 3072 - 512 - 256)) = col l := by
  unfold col; split_ifs <;> omega
theorem rcol5 {l : ℕ} (c0 : ¬ l < 4096) (c1 : ¬ l - 4096 < 3072) (c2 : ¬ l - 4096 - 3072 < 512) (c3 : ¬ l - 4096 - 3072 - 512 < 256) (c4 : ¬ l - 4096 - 3072 - 512 - 256 < 256) (c5 : l - 4096 - 3072 - 512 - 256 - 256 < 64) : 768 + (l - 4096 - 3072 - 512 - 256 - 256) = col l := by
  unfold col; split_ifs <;> omega
theorem rcol6 {l : ℕ} (c0 : ¬ l < 4096) (c1 : ¬ l - 4096 < 3072) (c2 : ¬ l - 4096 - 3072 < 512) (c3 : ¬ l - 4096 - 3072 - 512 < 256) (c4 : ¬ l - 4096 - 3072 - 512 - 256 < 256) (c5 : ¬ l - 4096 - 3072 - 512 - 256 - 256 < 64) (c6 : l - 4096 - 3072 - 512 - 256 - 256 - 64 < 64) : 768 + (l - 4096 - 3072 - 512 - 256 - 256 - 64) = col l := by
  unfold col; split_ifs <;> omega
theorem rcol7 {l : ℕ} (c0 : ¬ l < 4096) (c1 : ¬ l - 4096 < 3072) (c2 : ¬ l - 4096 - 3072 < 512) (c3 : ¬ l - 4096 - 3072 - 512 < 256) (c4 : ¬ l - 4096 - 3072 - 512 - 256 < 256) (c5 : ¬ l - 4096 - 3072 - 512 - 256 - 256 < 64) (c6 : ¬ l - 4096 - 3072 - 512 - 256 - 256 - 64 < 64) (c7 : l - 4096 - 3072 - 512 - 256 - 256 - 64 - 64 < 64) : 768 + ((l - 4096 - 3072 - 512 - 256 - 256 - 64 - 64) + 32) % 64 = col l := by
  unfold col; split_ifs <;> omega
theorem rcol8 {l : ℕ} (c0 : ¬ l < 4096) (c1 : ¬ l - 4096 < 3072) (c2 : ¬ l - 4096 - 3072 < 512) (c3 : ¬ l - 4096 - 3072 - 512 < 256) (c4 : ¬ l - 4096 - 3072 - 512 - 256 < 256) (c5 : ¬ l - 4096 - 3072 - 512 - 256 - 256 < 64) (c6 : ¬ l - 4096 - 3072 - 512 - 256 - 256 - 64 < 64) (c7 : ¬ l - 4096 - 3072 - 512 - 256 - 256 - 64 - 64 < 64) (hl : l < 8448) : 768 + ((l - 4096 - 3072 - 512 - 256 - 256 - 64 - 64 - 64) + 32) % 64 = col l := by
  unfold col; split_ifs <;> omega
theorem rcol_at (f : (⟨3, ![16, 2048, 8256]⟩ : Shape).Idx → EReal) (b : Fin 16) (y : Fin 2048) {l a : ℕ} (h : a < 8256) (e : a = col l) : f (ix3 b y ⟨a, h⟩) = f (ix3 b y (Fin.ofNat 8256 (col l))) :=
  congrArg f (congrArg (ix3 b y) (Fin.ext (e ▸ (Nat.mod_eq_of_lt h).symm)))
theorem col_lt {l : ℕ} (hl : l < 8448) : col l < 8256 := by
  unfold col; split_ifs <;> omega
theorem col_q {e : ℕ} (h : e < 512) : col (7168 + e) = e := by
  unfold col; split_ifs <;> omega
theorem col_kv {e : ℕ} (h : e < 256) : col (7680 + e) = 512 + e := by
  unfold col; split_ifs <;> omega

/-- A scale of the weight comes out of the sum. -/
theorem up_scale {n : ℕ} (w : BitVec 32) (v g u : Fin n → EReal) (c : EReal) (h0 : 0 ≤ c) (h1 : c ≠ ⊤) : up w v g (fun e => u e * c) = up w v g u * c := by
  unfold up
  rw [mul_comm _ c, Soft.mul_sum h0 h1]
  refine Finset.sum_congr rfl fun e _ => ?_
  rw [← mul_assoc, mul_comm]
theorem scale_pos : (0 : EReal) ≤ Ideal.ofBits .f32 1033096506#32 := by
  simp [Ideal.ofBits, Ideal.ieee]
  rw [← EReal.coe_mul]
  exact EReal.coe_nonneg.mpr (by norm_num)
theorem scale_top : Ideal.ofBits .f32 1033096506#32 ≠ (⊤ : EReal) := by
  simp [Ideal.ofBits, Ideal.ieee]
  rw [← EReal.coe_mul]
  exact EReal.coe_ne_top _

end Cert.Proj

namespace Cert.Kernel4Ideal.Gen
open Cert.Proj

theorem pay1_apply (x : Vec Ideal S1024x2048 .f32) (g : Vec Ideal S1x2048 .f32) (r : Fin 1024) (k : Fin 2048) :
    (k0_pay1 x g (ix2 r k) : EReal) = nrm 1157627904#32 (fun k => (x (ix2 r k) : EReal)) (fun k => (g (ix2 0 k) : EReal)) k := by
  pointwise [k0_pay1]
  rfl

theorem pay2_apply (x : Vec Ideal S1024x2048 .f32) (g : Vec Ideal S1x2048 .f32) (r : Fin 1024) (k : Fin 2048) :
    (k0_pay2 x g (ix2 r k) : EReal) = nrm 1157627904#32 (fun k => (x (ix2 r k) : EReal)) (fun k => (g (ix2 0 k) : EReal)) k := by
  rw [← pay1_apply]
  unfold k0_pay2
  generalize k0_pay1 x g = h
  pointwise []

theorem pay3_apply (x : Vec Ideal S1024x2048 .f32) (g : Vec Ideal S1x2048 .f32) (w : Vec Ideal S2048x768 .bf16) (r : Fin 1024) (l : Fin 768) :
    (k0_pay3 x g w (ix2 r l) : EReal) = ∑ y, nrm 1157627904#32 (fun k => (x (ix2 r k) : EReal)) (fun k => (g (ix2 0 k) : EReal)) y * (w (ix2 y l) : EReal) := by
  have e := pay1_apply x g r
  simp only [← e]
  clear e
  unfold k0_pay3
  generalize k0_pay1 x g = h
  pointwise []

theorem pay4_apply (h : Vec Ideal S1024x2048 .bf16) (w : Vec Ideal S2048x768 .bf16) (r : Fin 1024) (l : Fin 768) :
    (k0_pay4 h w (ix2 r l) : EReal) = ∑ y, (h (ix2 r y) : EReal) * (w (ix2 y l) : EReal) := by
  pointwise [k0_pay4]

theorem pay5_apply (h : Vec Ideal S1024x2048 .bf16) (w : Vec Ideal S2048x768 .bf16) (r : Fin 1024) (l : Fin 768) :
    (k0_pay5 h w (ix2 r l) : EReal) = ∑ y, (h (ix2 r y) : EReal) * (w (ix2 y l) : EReal) := by
  rw [← pay4_apply]
  unfold k0_pay5
  generalize k0_pay4 h w = p
  pointwise []

theorem pay6_apply (h : Vec Ideal S1024x2048 .bf16) (w : Vec Ideal S2048x768 .bf16) (g : Vec Ideal S1x512 .f32) (u : Vec Ideal S512x2048 .bf16) (r : Fin 1024) (n : Fin 2048) :
    (k0_pay6 h w g u (ix2 r n) : EReal) = up 1140850688#32 (fun e : Fin 512 => ∑ y, (h (ix2 r y) : EReal) * (w (ix2 y ⟨256 + e.val, by omega⟩) : EReal)) (fun e => (g (ix2 0 e) : EReal)) (fun e => (u (ix2 e n) : EReal)) := by
  have e : ∀ l, _ := pay4_apply h w r
  simp only [← e]
  clear e
  unfold k0_pay6
  generalize k0_pay4 h w = p
  pointwise []
  rfl

theorem pay7_apply (h : Vec Ideal S1024x2048 .bf16) (w : Vec Ideal S2048x768 .bf16) (g : Vec Ideal S1x256 .f32) (u : Vec Ideal S256x2048 .bf16) (r : Fin 1024) (n : Fin 2048) :
    (k0_pay7 h w g u (ix2 r n) : EReal) = up 1132462080#32 (fun e : Fin 256 => ∑ y, (h (ix2 r y) : EReal) * (w (ix2 y ⟨e.val, by omega⟩) : EReal)) (fun e => (g (ix2 0 e) : EReal)) (fun e => (u (ix2 e n) : EReal)) := by
  have e : ∀ l, _ := pay4_apply h w r
  simp only [← e]
  clear e
  unfold k0_pay7
  generalize k0_pay4 h w = p
  pointwise []
  rfl

end Cert.Kernel4Ideal.Gen
end
-- ==== Proof.PKern.lean ====
module

public import proofs.«01_k».proof.Proof.Proj

@[expose] public section

set_option maxRecDepth 16384

noncomputable section

open Idealize.ShloMosaic Idealize.ShloMosaic.TcCoe Idealize.SL.Sem

/-!
  THE INPUT PROJECTION'S RESULTS, index by index, in exact arithmetic.
-/

namespace Cert.Kernel4Ideal.Gen
open Cert.Proj
variable (m : (ℓ : Loc nD τ sig) → Buf (Elt Ideal) ℓ) (c : Dev nD)

/-- The windows' blocks, by grid point. -/
theorem idxs : ∀ t : Fin grid0.N,
    win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 11 ∧ win0_7.index t (1 : Fin 2) = t.val % 11
    ∧ win0_8.index t (0 : Fin 2) = t.val / 11 ∧ win0_8.index t (1 : Fin 2) = 0
    ∧ win0_9.index t (0 : Fin 2) = t.val / 11 ∧ win0_9.index t (1 : Fin 2) = 0 := by
  decide +kernel

/-- The rows of the input, -/
def xrow (R : ℕ) (k : Fin 2048) : EReal := (V m c main_v23 : FVec Ideal S32768x2048 .f32) (ix2 (Fin.ofNat 32768 R) k)
/-- the gains, -/
def gpre (k : Fin 2048) : EReal := (V m c main_v24 : FVec Ideal S1x2048 .f32) (ix2 0 k)
def gq (k : Fin 512) : EReal := (V m c main_v25 : FVec Ideal S1x512 .f32) (ix2 0 k)
def gkv (k : Fin 256) : EReal := (V m c main_v26 : FVec Ideal S1x256 .f32) (ix2 0 k)
/-- and the weights, by column. -/
def win (l : ℕ) (y : Fin 2048) : EReal := (V m c main_v9 : FVec Ideal S2048x8448 .bf16) (ix2 y (Fin.ofNat 8448 l))
def wq (n : Fin 2048) (e : Fin 512) : EReal := (V m c main_v22 : FVec Ideal S512x2048 .bf16) (ix2 e n)
def wkv (n : Fin 2048) (e : Fin 256) : EReal := (V m c main_v27 : FVec Ideal S256x2048 .bf16) (ix2 e n)

theorem xblk_apply (t : Fin cfg0.N) (r : Fin 1024) (k : Fin 2048) : (xblk m c t (ix2 r k) : EReal) = xrow m c (t.val / 11 * 1024 + r.val) k := by
  have hI := idxs t
  have ht : t.val < 352 := lt_of_lt_of_eq t.isLt N_0
  unfold xrow xblk
  show V m c main_v23 _ = V m c main_v23 _
  congr 1
  blk_ext [hI]
  all_goals (simp [ix2, Fin.ofNat]; try omega)

theorem gblk_apply (t : Fin cfg0.N) (k : Fin 2048) : (gblk m c t (ix2 0 k) : EReal) = gpre m c k := by
  have hI := idxs t
  have ht : t.val < 352 := lt_of_lt_of_eq t.isLt N_0
  unfold gpre gblk
  show V m c main_v24 _ = V m c main_v24 _
  congr 1
  blk_ext [hI]

theorem wblk_apply (t : Fin cfg0.N) (y : Fin 2048) (l : Fin 768) : (wblk m c t (ix2 y l) : EReal) = win m c (t.val % 11 * 768 + l.val) y := by
  have hI := idxs t
  have ht : t.val < 352 := lt_of_lt_of_eq t.isLt N_0
  unfold win wblk
  show V m c main_v9 _ = V m c main_v9 _
  congr 1
  blk_ext [hI]
  all_goals (simp [ix2, Fin.ofNat]; try omega)

theorem gqblk_apply (t : Fin cfg0.N) (k : Fin 512) : (gqblk m c t (ix2 0 k) : EReal) = gq m c k := by
  have hI := idxs t
  have ht : t.val < 352 := lt_of_lt_of_eq t.isLt N_0
  unfold gq gqblk
  show V m c main_v25 _ = V m c main_v25 _
  congr 1
  blk_ext [hI]

theorem wqblk_apply (t : Fin cfg0.N) (e : Fin 512) (n : Fin 2048) : (wqblk m c t (ix2 e n) : EReal) = wq m c n e := by
  have hI := idxs t
  have ht : t.val < 352 := lt_of_lt_of_eq t.isLt N_0
  unfold wq wqblk
  show V m c main_v22 _ = V m c main_v22 _
  congr 1
  blk_ext [hI]

theorem gkblk_apply (t : Fin cfg0.N) (k : Fin 256) : (gkblk m c t (ix2 0 k) : EReal) = gkv m c k := by
  have hI := idxs t
  have ht : t.val < 352 := lt_of_lt_of_eq t.isLt N_0
  unfold gkv gkblk
  show V m c main_v26 _ = V m c main_v26 _
  congr 1
  blk_ext [hI]

theorem wkblk_apply (t : Fin cfg0.N) (e : Fin 256) (n : Fin 2048) : (wkblk m c t (ix2 e n) : EReal) = wkv m c n e := by
  have hI := idxs t
  have ht : t.val < 352 := lt_of_lt_of_eq t.isLt N_0
  unfold wkv wkblk
  show V m c main_v27 _ = V m c main_v27 _
  congr 1
  blk_ext [hI]

/-- What the scratch holds after a point. -/
theorem sh_rows (n : ℕ) (hn : n < cfg0.N) (r : Fin 1024) (k : Fin 2048) :
    (sh m c n hn (ix2 r k) : EReal) = nrm 1157627904#32 (xrow m c (n / 11 * 1024 + r.val)) (gpre m c) k := by
  induction n using Nat.strongRecOn with
  | ind n ih =>
    by_cases hA : n % 11 = 0
    · have e := sh_first m c ⟨n, hn⟩ hA
      dsimp only at e
      rw [e]
      refine (pay2_apply _ _ r k).trans ?_
      simp only [xblk_apply, gblk_apply]
    · have hl : n - 1 < cfg0.N := by omega
      have e := sh_next m c ⟨n, hn⟩ hA hl
      dsimp only at e
      rw [e, ih (n - 1) (by omega) hl, show (n - 1) / 11 = n / 11 by omega]

/-- The row's product with a column, -/
abbrev prow (R l : ℕ) : EReal := proj (xrow m c R) (gpre m c) (win m c) l

theorem ot_apply (t : Fin cfg0.N) (r : Fin 1024) (l : Fin 768) :
    (ot m c t (ix2 r l) : EReal) = prow m c (t.val / 11 * 1024 + r.val) (t.val % 11 * 768 + l.val) := by
  unfold ot prow proj
  by_cases h : t.val % 11 = 0
  · rw [if_pos h]
    refine (pay3_apply _ _ _ r l).trans ?_
    simp only [xblk_apply, gblk_apply, wblk_apply]
  · rw [if_neg h]
    refine (pay5_apply _ _ r l).trans ?_
    simp only [sh_rows, wblk_apply]

/-- the queries of a row, -/
def qrow (R : ℕ) (n : Fin 2048) : EReal := up 1140850688#32 (fun e : Fin 512 => prow m c R (7168 + e.val)) (gq m c) (wq m c n)
/-- and its keys and values. -/
def kvrow (R : ℕ) (n : Fin 2048) : EReal := up 1132462080#32 (fun e : Fin 256 => prow m c R (7680 + e.val)) (gkv m c) (wkv m c n)

theorem qt_apply (t : Fin cfg0.N) (h : t.val % 11 = 9) (r : Fin 1024) (n : Fin 2048) :
    (qt m c t (ix2 r n) : EReal) = qrow m c (t.val / 11 * 1024 + r.val) n := by
  unfold qt qrow prow proj
  refine (pay6_apply _ _ _ _ r n).trans ?_
  simp only [sh_rows, wblk_apply, gqblk_apply, wqblk_apply, h]
  simp only [← Nat.add_assoc]

theorem ql_apply (t : Fin cfg0.N) (h : t.val % 11 = 10) (r : Fin 1024) (n : Fin 2048) :
    (ql m c t (ix2 r n) : EReal) = qrow m c (t.val / 11 * 1024 + r.val) n := by
  unfold ql
  rw [if_pos h, qt_apply m c _ (by dsimp only; omega)]
  rw [show (t.val - 1) / 11 = t.val / 11 by omega]

theorem kt_apply (t : Fin cfg0.N) (h : t.val % 11 = 10) (r : Fin 1024) (n : Fin 2048) :
    (kt m c t (ix2 r n) : EReal) = kvrow m c (t.val / 11 * 1024 + r.val) n := by
  unfold kt kvrow prow proj
  refine (pay7_apply _ _ _ _ r n).trans ?_
  simp only [sh_rows, wblk_apply, gkblk_apply, wkblk_apply, h]

/-! ## The arrays after the run -/

/-- The results. -/
def G7 : Buf (Elt Ideal) ((c : Thread nD τ).loc main_v28_0) := fun i => prow m c (i 0).val (i 1).val
def G8 : Buf (Elt Ideal) ((c : Thread nD τ).loc main_v28_1) := fun i => qrow m c (i 0).val (Fin.ofNat 2048 (i 1).val)
def G9 : Buf (Elt Ideal) ((c : Thread nD τ).loc main_v28_2) := fun i => kvrow m c (i 0).val (Fin.ofNat 2048 (i 1).val)

/-- What a point writes back is its block of the result, and the written blocks cover the array. -/
theorem flushed7_eq (t : Fin cfg0.N) (hf : (cfg0.win 7).flush t = true) :
    (dats m 0 c).flushed 7 t = ((cfg0.win 7).blk t).view.read (Elt Ideal) (G7 m c) := by
  have hI := idxs t
  show (cfg0.win 7).cut (grid0.coords t) ((dats m 0 c).after 7 t) = _
  rw [after0_7]
  funext y
  have hy0 : (y 0).val < 1024 := (y 0).isLt
  have hy1 : (y 1).val < 768 := (y 1).isLt
  have hb0 : (((cfg0.win 7).blk t).view.emb y 0).val = win0_7.index t (0 : Fin 2) * 1024 + 1 * (y 0).val := rfl
  have hb1 : (((cfg0.win 7).blk t).view.emb y 1).val = win0_7.index t (1 : Fin 2) * 768 + 1 * (y 1).val := rfl
  have hx : (cfg0.win 7).xinj (grid0.coords t) y = ix2 ⟨(y 0).val, hy0⟩ ⟨(y 1).val, hy1⟩ := by
    funext a; apply Fin.ext
    match a with
    | ⟨0, _⟩ => rfl
    | ⟨1, _⟩ => rfl
  show ot m c t ((cfg0.win 7).xinj (grid0.coords t) y) = G7 m c (((cfg0.win 7).blk t).view.emb y)
  rw [hx]
  refine (ot_apply m c t ⟨(y 0).val, hy0⟩ ⟨(y 1).val, hy1⟩).trans ?_
  unfold G7
  rw [show (((cfg0.win 7).blk t).view.emb y 0).val = t.val / 11 * 1024 + (y 0).val by omega]
  rw [show (((cfg0.win 7).blk t).view.emb y 1).val = t.val % 11 * 768 + (y 1).val by omega]

theorem cover7 (i : S32768x8448.Idx) : ∃ t : Fin cfg0.N, (cfg0.win 7).flush t = true ∧ i ∈ ((cfg0.win 7).blk t).view.set := by
  have hi0 : (i 0).val < 32768 := (i 0).isLt
  have hi1 : (i 1).val < 8448 := (i 1).isLt
  have hlt : 11 * ((i 0).val / 1024) + (i 1).val / 768 < cfg0.N := lt_of_lt_of_eq (by omega) N_0.symm
  have hI := idxs ⟨11 * ((i 0).val / 1024) + (i 1).val / 768, hlt⟩
  refine ⟨⟨11 * ((i 0).val / 1024) + (i 1).val / 768, hlt⟩, flush0_7 _, ?_⟩
  generalize ht : (⟨11 * ((i 0).val / 1024) + (i 1).val / 768, hlt⟩ : Fin cfg0.N) = t at hI
  have hv : t.val = 11 * ((i 0).val / 1024) + (i 1).val / 768 := by rw [← ht]
  show i ∈ ((View.whole main_v28_0).slice (win0_7.rect t)).set
  rw [View.set_slice_whole, Rect.mem_set_unit]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 768 ≤ (i 1).val ∧ (i 1).val < win0_7.index t (1 : Fin 2) * 768 + 768; omega

theorem final7 : (dats m 0 c).arrAt 7 cfg0.N = G7 m c :=
  (dats m 0 c).arrAt_eq_of_cover 7 _ (fun t hf => flushed7_eq m c t hf) (fun i => cover7 i)

theorem flushed8_eq (t : Fin cfg0.N) (hf : (cfg0.win 8).flush t = true) :
    (dats m 0 c).flushed 8 t = ((cfg0.win 8).blk t).view.read (Elt Ideal) (G8 m c) := by
  have hl := (flush0_8 t).mp hf
  have hI := idxs t
  show (cfg0.win 8).cut (grid0.coords t) ((dats m 0 c).after 8 t) = _
  rw [after0_8]
  funext y
  have hy0 : (y 0).val < 1024 := (y 0).isLt
  have hy1 : (y 1).val < 2048 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 2048 + 1 * (y 1).val := rfl
  have hx : (cfg0.win 8).xinj (grid0.coords t) y = ix2 ⟨(y 0).val, hy0⟩ ⟨(y 1).val, hy1⟩ := by
    funext a; apply Fin.ext
    match a with
    | ⟨0, _⟩ => rfl
    | ⟨1, _⟩ => rfl
  show ql m c t ((cfg0.win 8).xinj (grid0.coords t) y) = G8 m c (((cfg0.win 8).blk t).view.emb y)
  rw [hx]
  refine (ql_apply m c t hl ⟨(y 0).val, hy0⟩ ⟨(y 1).val, hy1⟩).trans ?_
  unfold G8
  rw [show (((cfg0.win 8).blk t).view.emb y 0).val = t.val / 11 * 1024 + (y 0).val by omega]
  rw [show (Fin.ofNat 2048 (((cfg0.win 8).blk t).view.emb y 1).val) = ⟨(y 1).val, hy1⟩ from Fin.ext (by
    show (((cfg0.win 8).blk t).view.emb y 1).val % 2048 = (y 1).val; omega)]

theorem cover8 (i : S32768x2048.Idx) : ∃ t : Fin cfg0.N, (cfg0.win 8).flush t = true ∧ i ∈ ((cfg0.win 8).blk t).view.set := by
  have hi0 : (i 0).val < 32768 := (i 0).isLt
  have hi1 : (i 1).val < 2048 := (i 1).isLt
  have hlt : 11 * ((i 0).val / 1024) + 10 < cfg0.N := lt_of_lt_of_eq (by omega) N_0.symm
  have hI := idxs ⟨11 * ((i 0).val / 1024) + 10, hlt⟩
  refine ⟨⟨11 * ((i 0).val / 1024) + 10, hlt⟩, (flush0_8 _).mpr (by dsimp only; omega), ?_⟩
  generalize ht : (⟨11 * ((i 0).val / 1024) + 10, hlt⟩ : Fin cfg0.N) = t at hI
  have hv : t.val = 11 * ((i 0).val / 1024) + 10 := by rw [← ht]
  show i ∈ ((View.whole main_v28_1).slice (win0_8.rect t)).set
  rw [View.set_slice_whole, Rect.mem_set_unit]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 2048 ≤ (i 1).val ∧ (i 1).val < win0_8.index t (1 : Fin 2) * 2048 + 2048; omega

theorem final8 : (dats m 0 c).arrAt 8 cfg0.N = G8 m c :=
  (dats m 0 c).arrAt_eq_of_cover 8 _ (fun t hf => flushed8_eq m c t hf) (fun i => cover8 i)

theorem flushed9_eq (t : Fin cfg0.N) (hf : (cfg0.win 9).flush t = true) :
    (dats m 0 c).flushed 9 t = ((cfg0.win 9).blk t).view.read (Elt Ideal) (G9 m c) := by
  have hl := (flush0_9 t).mp hf
  have hI := idxs t
  show (cfg0.win 9).cut (grid0.coords t) ((dats m 0 c).after 9 t) = _
  rw [after0_9]
  funext y
  have hy0 : (y 0).val < 1024 := (y 0).isLt
  have hy1 : (y 1).val < 2048 := (y 1).isLt
  have hb0 : (((cfg0.win 9).blk t).view.emb y 0).val = win0_9.index t (0 : Fin 2) * 1024 + 1 * (y 0).val := rfl
  have hb1 : (((cfg0.win 9).blk t).view.emb y 1).val = win0_9.index t (1 : Fin 2) * 2048 + 1 * (y 1).val := rfl
  have hx : (cfg0.win 9).xinj (grid0.coords t) y = ix2 ⟨(y 0).val, hy0⟩ ⟨(y 1).val, hy1⟩ := by
    funext a; apply Fin.ext
    match a with
    | ⟨0, _⟩ => rfl
    | ⟨1, _⟩ => rfl
  show kt m c t ((cfg0.win 9).xinj (grid0.coords t) y) = G9 m c (((cfg0.win 9).blk t).view.emb y)
  rw [hx]
  refine (kt_apply m c t hl ⟨(y 0).val, hy0⟩ ⟨(y 1).val, hy1⟩).trans ?_
  unfold G9
  rw [show (((cfg0.win 9).blk t).view.emb y 0).val = t.val / 11 * 1024 + (y 0).val by omega]
  rw [show (Fin.ofNat 2048 (((cfg0.win 9).blk t).view.emb y 1).val) = ⟨(y 1).val, hy1⟩ from Fin.ext (by
    show (((cfg0.win 9).blk t).view.emb y 1).val % 2048 = (y 1).val; omega)]

theorem cover9 (i : S32768x2048.Idx) : ∃ t : Fin cfg0.N, (cfg0.win 9).flush t = true ∧ i ∈ ((cfg0.win 9).blk t).view.set := by
  have hi0 : (i 0).val < 32768 := (i 0).isLt
  have hi1 : (i 1).val < 2048 := (i 1).isLt
  have hlt : 11 * ((i 0).val / 1024) + 10 < cfg0.N := lt_of_lt_of_eq (by omega) N_0.symm
  have hI := idxs ⟨11 * ((i 0).val / 1024) + 10, hlt⟩
  refine ⟨⟨11 * ((i 0).val / 1024) + 10, hlt⟩, (flush0_9 _).mpr (by dsimp only; omega), ?_⟩
  generalize ht : (⟨11 * ((i 0).val / 1024) + 10, hlt⟩ : Fin cfg0.N) = t at hI
  have hv : t.val = 11 * ((i 0).val / 1024) + 10 := by rw [← ht]
  show i ∈ ((View.whole main_v28_2).slice (win0_9.rect t)).set
  rw [View.set_slice_whole, Rect.mem_set_unit]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 2048 ≤ (i 1).val ∧ (i 1).val < win0_9.index t (1 : Fin 2) * 2048 + 2048; omega

theorem final9 : (dats m 0 c).arrAt 9 cfg0.N = G9 m c :=
  (dats m 0 c).arrAt_eq_of_cover 9 _ (fun t hf => flushed9_eq m c t hf) (fun i => cover9 i)

/-! ## The run -/

variable (ρ : Dev nD → PrngReg)

theorem kept0 (r : PUnit × MemSt nD τ sig (Elt Ideal)) (h : Pipeline.FramePost cfgs (dats m) 0 (V m) r) :
    r.2.mem ((c : Thread nD τ).loc main_arg0) = m ((c : Thread nD τ).loc main_arg0) :=
  ((h c).2 main_arg0 (Pipeline.mem_restRefs_of main_arg0 (by decide) (by decide))).trans (V_main_arg0 m c)
theorem kept1 (r : PUnit × MemSt nD τ sig (Elt Ideal)) (h : Pipeline.FramePost cfgs (dats m) 0 (V m) r) :
    r.2.mem ((c : Thread nD τ).loc main_arg1) = m ((c : Thread nD τ).loc main_arg1) :=
  ((h c).2 main_arg1 (Pipeline.mem_restRefs_of main_arg1 (by decide) (by decide))).trans (V_main_arg1 m c)
theorem kept2 (r : PUnit × MemSt nD τ sig (Elt Ideal)) (h : Pipeline.FramePost cfgs (dats m) 0 (V m) r) :
    r.2.mem ((c : Thread nD τ).loc main_arg2) = m ((c : Thread nD τ).loc main_arg2) :=
  ((h c).2 main_arg2 (Pipeline.mem_restRefs_of main_arg2 (by decide) (by decide))).trans (V_main_arg2 m c)
theorem kept3 (r : PUnit × MemSt nD τ sig (Elt Ideal)) (h : Pipeline.FramePost cfgs (dats m) 0 (V m) r) :
    r.2.mem ((c : Thread nD τ).loc main_arg3) = m ((c : Thread nD τ).loc main_arg3) :=
  ((h c).2 main_arg3 (Pipeline.mem_restRefs_of main_arg3 (by decide) (by decide))).trans (V_main_arg3 m c)
theorem kept4 (r : PUnit × MemSt nD τ sig (Elt Ideal)) (h : Pipeline.FramePost cfgs (dats m) 0 (V m) r) :
    r.2.mem ((c : Thread nD τ).loc main_arg4) = m ((c : Thread nD τ).loc main_arg4) :=
  ((h c).2 main_arg4 (Pipeline.mem_restRefs_of main_arg4 (by decide) (by decide))).trans (V_main_arg4 m c)
theorem kept5 (r : PUnit × MemSt nD τ sig (Elt Ideal)) (h : Pipeline.FramePost cfgs (dats m) 0 (V m) r) :
    r.2.mem ((c : Thread nD τ).loc main_arg5) = m ((c : Thread nD τ).loc main_arg5) :=
  ((h c).2 main_arg5 (Pipeline.mem_restRefs_of main_arg5 (by decide) (by decide))).trans (V_main_arg5 m c)
theorem kept6 (r : PUnit × MemSt nD τ sig (Elt Ideal)) (h : Pipeline.FramePost cfgs (dats m) 0 (V m) r) :
    r.2.mem ((c : Thread nD τ).loc main_arg6) = m ((c : Thread nD τ).loc main_arg6) :=
  ((h c).2 main_arg6 (Pipeline.mem_restRefs_of main_arg6 (by decide) (by decide))).trans (V_main_arg6 m c)

/-- The run leaves the results and the arguments as they were. -/
theorem run : θ_run defs (onTc (τ := τ) (main (F := Ideal))) ⟨m, fun _ => 0, ρ⟩ fun r => ∀ c : Dev nD,
      r.2.mem ((c.tc : Thread nD τ).loc main_v28_0) = G7 m c
      ∧ r.2.mem ((c.tc : Thread nD τ).loc main_v28_1) = G8 m c
      ∧ r.2.mem ((c.tc : Thread nD τ).loc main_v28_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 7).trans (final7 m c), ((h c).1 8).trans (final8 m c), ((h c).1 9).trans (final9 m c), kept0 m c r h, kept1 m c r h, kept2 m c r h, kept3 m c r h, kept4 m c r h, kept5 m c r h, kept6 m c r h⟩)
    (run_main m ρ)

end Cert.Kernel4Ideal.Gen
end
-- ==== Proof.POps.lean ====
module

public import proofs.«01_k».proof.Proof.PKern

@[expose] public section

set_option maxRecDepth 16384

noncomputable section

open Idealize.ShloMosaic Idealize.ShloMosaic.TcCoe Idealize.SL.Sem

/-!
  THE INPUT PROJECTION'S OPERANDS, of the program's arguments.
-/

namespace Cert.Kernel4Ideal.Gen
open Cert.Proj
variable (m : (ℓ : Loc nD τ sig) → Buf (Elt Ideal) ℓ) (c : Dev nD)

theorem xrow_eq (R : Fin 32768) (k : Fin 2048) : xrow m c R.val k = ((m ((c.tc : Thread nD τ).loc main_arg0) : FVec Ideal S16x2048x2048 .f32) (ix3 ⟨R.val / 2048, by omega⟩ ⟨R.val % 2048, by omega⟩ k) : EReal) := by
  unfold xrow
  rw [show Fin.ofNat 32768 R.val = R from Fin.ext (Nat.mod_eq_of_lt R.isLt)]
  entry_read
  pointwise

theorem gpre_eq (k : Fin 2048) : gpre m c k = ((m ((c.tc : Thread nD τ).loc main_arg1) : FVec Ideal S2048 .f32) (ix1 k) : EReal) := by
  unfold gpre
  entry_read
  pointwise

theorem gq_eq (k : Fin 512) : gq m c k = ((m ((c.tc : Thread nD τ).loc main_arg3) : FVec Ideal S512 .f32) (ix1 k) : EReal) := by
  unfold gq
  entry_read
  pointwise

theorem gkv_eq (k : Fin 256) : gkv m c k = ((m ((c.tc : Thread nD τ).loc main_arg5) : FVec Ideal S256 .f32) (ix1 k) : EReal) := by
  unfold gkv
  entry_read
  pointwise

theorem wkv_eq (n : Fin 2048) (e : Fin 256) : wkv m c n e = ((m ((c.tc : Thread nD τ).loc main_arg6) : FVec Ideal S256x2048 .f32) (ix2 e n) : EReal) := by
  unfold wkv
  entry_read
  pointwise

/-- The two weights whose columns the program reorders. -/
abbrev arg2 : (⟨2, ![2048, 8256]⟩ : Shape).Idx → EReal := m ((c.tc : Thread nD τ).loc main_arg2)
abbrev arg4 : (⟨2, ![512, 1536]⟩ : Shape).Idx → EReal := m ((c.tc : Thread nD τ).loc main_arg4)

theorem v0_apply (y : Fin 2048) (k : Fin 64) : (V m c main_v0 : FVec Ideal S2048x64 .f32) (ix2 y k) = arg2 m c (ix2 y ⟨768 + k.val, by omega⟩) := by
  entry_read
  pointwise

theorem v3_apply (y : Fin 2048) (k : Fin 64) : (V m c main_v3 : FVec Ideal S2048x64 .f32) (ix2 y k) = arg2 m c (ix2 y ⟨768 + (k.val + 32) % 64, by omega⟩) := by
  entry_read
  pointwise
  by_cases h : k.val < 32
  · rw [dif_pos h]
    refine congrArg (arg2 m c) (congrArg (ix2 y) (Fin.ext ?_))
    dsimp only; omega
  · rw [dif_neg h]
    refine congrArg (arg2 m c) (congrArg (ix2 y) (Fin.ext ?_))
    dsimp only; omega

theorem v4_apply (y : Fin 2048) (k : Fin 4096) : (V m c main_v4 : FVec Ideal S2048x4096 .f32) (ix2 y k) = arg2 m c (ix2 y ⟨4160 + k.val, by omega⟩) := by
  entry_read
  pointwise

theorem v5_apply (y : Fin 2048) (k : Fin 3072) : (V m c main_v5 : FVec Ideal S2048x3072 .f32) (ix2 y k) = arg2 m c (ix2 y ⟨832 + k.val, by omega⟩) := by
  entry_read
  pointwise

theorem v6_apply (y : Fin 2048) (k : Fin 768) : (V m c main_v6 : FVec Ideal S2048x768 .f32) (ix2 y k) = arg2 m c (ix2 y ⟨k.val, by omega⟩) := by
  entry_read
  pointwise

theorem v7_apply (y : Fin 2048) (k : Fin 256) : (V m c main_v7 : FVec Ideal S2048x256 .f32) (ix2 y k) = arg2 m c (ix2 y ⟨3904 + k.val, by omega⟩) := by
  entry_read
  pointwise

set_option maxHeartbeats 4000000 in
theorem v8_eq : (V m c main_v8 : FVec Ideal S2048x8448 .f32) = concatenate S2048x8448 1 [⟨S2048x4096, (V m c main_v4 : FVec Ideal S2048x4096 .f32)⟩, ⟨S2048x3072, (V m c main_v5 : FVec Ideal S2048x3072 .f32)⟩, ⟨S2048x768, (V m c main_v6 : FVec Ideal S2048x768 .f32)⟩, ⟨S2048x256, (V m c main_v7 : FVec Ideal S2048x256 .f32)⟩, ⟨S2048x64, (V m c main_v0 : FVec Ideal S2048x64 .f32)⟩, ⟨S2048x64, (V m c main_v0 : FVec Ideal S2048x64 .f32)⟩, ⟨S2048x64, (V m c main_v3 : FVec Ideal S2048x64 .f32)⟩, ⟨S2048x64, (V m c main_v3 : FVec Ideal S2048x64 .f32)⟩] concatenates_S2048x4096_S2048x3072_S2048x768_S2048x256_S2048x64_S2048x64_S2048x64_S2048x64_S2048x8448_d1 := rfl

set_option maxHeartbeats 4000000 in
/-- A column of the reordered input weight. -/
theorem win_eq (l : Fin 8448) (y : Fin 2048) : win m c l.val y = arg2 m c (ix2 y (Fin.ofNat 8256 (col l.val))) := by
  have hl := l.isLt
  unfold win
  rw [show Fin.ofNat 8448 l.val = l from Fin.ext (Nat.mod_eq_of_lt l.isLt)]
  show (V m c main_v8 : FVec Ideal S2048x8448 .f32) (ix2 y l) = _
  rw [v8_eq]
  have hv0 := v0_apply m c y
  have hv3 := v3_apply m c y
  have hv4 := v4_apply m c y
  have hv5 := v5_apply m c y
  have hv6 := v6_apply m c y
  have hv7 := v7_apply m c y
  generalize (V m c main_v0 : FVec Ideal S2048x64 .f32) = v0 at hv0 ⊢
  generalize (V m c main_v3 : FVec Ideal S2048x64 .f32) = v3 at hv3 ⊢
  generalize (V m c main_v4 : FVec Ideal S2048x4096 .f32) = v4 at hv4 ⊢
  generalize (V m c main_v5 : FVec Ideal S2048x3072 .f32) = v5 at hv5 ⊢
  generalize (V m c main_v6 : FVec Ideal S2048x768 .f32) = v6 at hv6 ⊢
  generalize (V m c main_v7 : FVec Ideal S2048x256 .f32) = v7 at hv7 ⊢
  generalize arg2 m c = f at hv0 hv3 hv4 hv5 hv6 hv7 ⊢
  pointwise
  simp only [hv0, hv3, hv4, hv5, hv6, hv7]
  by_cases c0 : l.val < 4096
  · rw [dif_pos c0]; exact col_at _ y _ (col0 c0)
  rw [dif_neg c0]
  by_cases c1 : l.val - 4096 < 3072
  · rw [dif_pos c1]; exact col_at _ y _ (col1 c0 c1)
  rw [dif_neg c1]
  by_cases c2 : l.val - 4096 - 3072 < 768
  · rw [dif_pos c2]; exact col_at _ y _ (col2 c0 c1 c2)
  rw [dif_neg c2]
  by_cases c3 : l.val - 4096 - 3072 - 768 < 256
  · rw [dif_pos c3]; exact col_at _ y _ (col3 c0 c1 c2 c3)
  rw [dif_neg c3]
  by_cases c4 : l.val - 4096 - 3072 - 768 - 256 < 64
  · rw [dif_pos c4]; exact col_at _ y _ (col4 c0 c1 c2 c3 c4)
  rw [dif_neg c4]
  by_cases c5 : l.val - 4096 - 3072 - 768 - 256 - 64 < 64
  · rw [dif_pos c5]; exact col_at _ y _ (col5 c0 c1 c2 c3 c4 c5)
  rw [dif_neg c5]
  by_cases c6 : l.val - 4096 - 3072 - 768 - 256 - 64 - 64 < 64
  · rw [dif_pos c6]; exact col_at _ y _ (col6 c0 c1 c2 c3 c4 c5 c6)
  rw [dif_neg c6]
  exact col_at _ y _ (col7 c0 c1 c2 c3 c4 c5 c6 hl)

theorem v18_apply (e : Fin 512) (k : Fin 1024) : (V m c main_v18 : FVec Ideal S512x1024 .f32) (ix2 e k) = arg4 m c (ix2 e ⟨k.val / 128 * 192 + k.val % 128, by omega⟩) * Ideal.ofBits .f32 1033096506#32 := by
  entry_read
  pointwise

theorem v19_apply (e : Fin 512) (k : Fin 512) : (V m c main_v19 : FVec Ideal S512x512 .f32) (ix2 e k) = arg4 m c (ix2 e ⟨k.val / 64 * 192 + (128 + k.val % 64), by omega⟩) * Ideal.ofBits .f32 1033096506#32 := by
  entry_read
  pointwise

theorem v20_apply (e : Fin 512) (k : Fin 512) : (V m c main_v20 : FVec Ideal S512x512 .f32) (ix2 e k) = arg4 m c (ix2 e ⟨k.val / 64 * 192 + (128 + (k.val + 32) % 64), by omega⟩) * Ideal.ofBits .f32 1033096506#32 := by
  entry_read
  pointwise
  by_cases h : k.val % 64 < 32
  · rw [dif_pos h]
    simp only [show (k.val + 32) % 64 = 32 + k.val % 64 by omega]
  · rw [dif_neg h]
    simp only [show (k.val + 32) % 64 = k.val % 64 - 32 by omega]

set_option maxHeartbeats 4000000 in
theorem v21_eq : (V m c main_v21 : FVec Ideal S512x2048 .f32) = concatenate S512x2048 1 [⟨S512x1024, (V m c main_v18 : FVec Ideal S512x1024 .f32)⟩, ⟨S512x512, (V m c main_v19 : FVec Ideal S512x512 .f32)⟩, ⟨S512x512, (V m c main_v20 : FVec Ideal S512x512 .f32)⟩] concatenates_S512x1024_S512x512_S512x512_S512x2048_d1 := rfl

/-- A column of the reordered and scaled weight of q. -/
theorem wq_eq (n : Fin 2048) (e : Fin 512) : wq m c n e = arg4 m c (ix2 e (Fin.ofNat 1536 (qcol n.val))) * Ideal.ofBits .f32 1033096506#32 := by
  have hn := n.isLt
  unfold wq
  show (V m c main_v21 : FVec Ideal S512x2048 .f32) (ix2 e n) = _
  rw [v21_eq]
  have hv18 := v18_apply m c e
  have hv19 := v19_apply m c e
  have hv20 := v20_apply m c e
  generalize (V m c main_v18 : FVec Ideal S512x1024 .f32) = v18 at hv18 ⊢
  generalize (V m c main_v19 : FVec Ideal S512x512 .f32) = v19 at hv19 ⊢
  generalize (V m c main_v20 : FVec Ideal S512x512 .f32) = v20 at hv20 ⊢
  pointwise
  simp only [hv18, hv19, hv20]
  by_cases c0 : n.val < 1024
  · rw [dif_pos c0]; refine congrArg (· * _) (congrArg (arg4 m c) (congrArg (ix2 e) (Fin.ext ?_))); simp only [Fin.val_ofNat]; unfold qcol; repeat' split
    all_goals omega
  rw [dif_neg c0]
  by_cases c1 : n.val - 1024 < 512
  · rw [dif_pos c1]; refine congrArg (· * _) (congrArg (arg4 m c) (congrArg (ix2 e) (Fin.ext ?_))); simp only [Fin.val_ofNat]; unfold qcol; repeat' split
    all_goals omega
  rw [dif_neg c1]
  refine congrArg (· * _) (congrArg (arg4 m c) (congrArg (ix2 e) (Fin.ext ?_))); simp only [Fin.val_ofNat]; unfold qcol; repeat' split
  all_goals omega

end Cert.Kernel4Ideal.Gen
end
-- ==== Proof.PRef.lean ====
module

public import proofs.«01_k».proof.Proof.Proj
public import proofs.«01_k».proof.Proof.Gen.Reference4Ideal.Read

@[expose] public section

set_option maxRecDepth 16384

noncomputable section

open Idealize.ShloMosaic Idealize.ShloMosaic.TcCoe Idealize.SL.Sem

/-!
  THE PROJECTIONS' REFERENCE in exact arithmetic, row by row.
-/

namespace Cert.Reference4Ideal.Read
open Cert.Reference4Ideal Cert.Reference4Ideal.Gen Cert.Proj

variable (x0 : (⟨S16x2048x2048, .f32⟩ : BufTy).Contents (Elt Ideal)) (x1 : (⟨S2048, .f32⟩ : BufTy).Contents (Elt Ideal)) (x2 : (⟨S2048x8256, .f32⟩ : BufTy).Contents (Elt Ideal)) (x3 : (⟨S512, .f32⟩ : BufTy).Contents (Elt Ideal)) (x4 : (⟨S512x1536, .f32⟩ : BufTy).Contents (Elt Ideal)) (x5 : (⟨S256, .f32⟩ : BufTy).Contents (Elt Ideal)) (x6 : (⟨S256x2048, .f32⟩ : BufTy).Contents (Elt Ideal))

theorem v12_apply (b : Fin 16) (q : Fin 2048) (k : Fin 2048) :
    (val_main_v12 (F := Ideal) x0 x1 (ix3 b q k) : EReal) = nrm 1157627904#32 (fun k => (x0 (ix3 b q k) : EReal)) (fun k => (x1 (ix1 k) : EReal)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- A weight by column. -/
def byCol (w : (⟨S2048x8256, .f32⟩ : BufTy).Contents (Elt Ideal)) (l : ℕ) (y : Fin 2048) : EReal := w (ix2 y (Fin.ofNat 8256 l))
/-- A row's projection onto one column. -/
def prj (b : Fin 16) (q : Fin 2048) (l : ℕ) : EReal := proj (fun k => (x0 (ix3 b q k) : EReal)) (fun k => (x1 (ix1 k) : EReal)) (byCol x2) l

theorem v13_apply (b : Fin 16) (q : Fin 2048) (l : Fin 8256) : (val_main_v13 (F := Ideal) x0 x1 x2 (ix3 b q l) : EReal) = prj x0 x1 x2 b q l.val := by
  have e := v12_apply x0 x1 b q
  unfold prj proj byCol
  simp only [← e, Fin.ofNat_val_eq_self]
  clear e
  unfold val_main_v13
  generalize val_main_v12 (F := Ideal) x0 x1 = h
  pointwise []

theorem v18_apply (b : Fin 16) (q : Fin 2048) (k : Fin 4096) : (val_main_v18 (F := Ideal) x0 x1 x2 (ix3 b q k) : EReal) = val_main_v13 (F := Ideal) x0 x1 x2 (ix3 b q ⟨4160 + k.val, by omega⟩) := by
  unfold val_main_v18
  generalize val_main_v13 (F := Ideal) x0 x1 x2 = p
  pointwise []

theorem v50_apply (b : Fin 16) (q : Fin 2048) (k : Fin 3072) : (val_main_v50 (F := Ideal) x0 x1 x2 (ix3 b q k) : EReal) = val_main_v13 (F := Ideal) x0 x1 x2 (ix3 b q ⟨832 + k.val, by omega⟩) := by
  unfold val_main_v50 val_main_v17
  generalize val_main_v13 (F := Ideal) x0 x1 x2 = p
  pointwise []

theorem v14_apply (b : Fin 16) (q : Fin 2048) (k : Fin 512) : (val_main_v14 (F := Ideal) x0 x1 x2 (ix3 b q k) : EReal) = val_main_v13 (F := Ideal) x0 x1 x2 (ix3 b q ⟨k.val, by omega⟩) := by
  unfold val_main_v14
  generalize val_main_v13 (F := Ideal) x0 x1 x2 = p
  pointwise []

theorem v15_apply (b : Fin 16) (q : Fin 2048) (k : Fin 256) : (val_main_v15 (F := Ideal) x0 x1 x2 (ix3 b q k) : EReal) = val_main_v13 (F := Ideal) x0 x1 x2 (ix3 b q ⟨512 + k.val, by omega⟩) := by
  unfold val_main_v15
  generalize val_main_v13 (F := Ideal) x0 x1 x2 = p
  pointwise []

theorem v51_apply (b : Fin 16) (q : Fin 2048) (k : Fin 256) : (val_main_v51 (F := Ideal) x0 x1 x2 (ix3 b q k) : EReal) = val_main_v13 (F := Ideal) x0 x1 x2 (ix3 b q ⟨832 + (3072 + k.val), by omega⟩) := by
  unfold val_main_v51 val_main_v17
  generalize val_main_v13 (F := Ideal) x0 x1 x2 = p
  pointwise []

theorem v16_apply (b : Fin 16) (q : Fin 2048) (k : Fin 64) : (val_main_v16 (F := Ideal) x0 x1 x2 (ix3 b q k) : EReal) = val_main_v13 (F := Ideal) x0 x1 x2 (ix3 b q ⟨768 + k.val, by omega⟩) := by
  unfold val_main_v16
  generalize val_main_v13 (F := Ideal) x0 x1 x2 = p
  pointwise []

theorem v54_apply (b : Fin 16) (q : Fin 2048) (k : Fin 64) : (val_main_v54 (F := Ideal) x0 x1 x2 (ix3 b q k) : EReal) = val_main_v13 (F := Ideal) x0 x1 x2 (ix3 b q ⟨768 + (k.val + 32) % 64, by omega⟩) := by
  unfold val_main_v54 val_main_v52 val_main_v53 val_main_v16
  generalize val_main_v13 (F := Ideal) x0 x1 x2 = p
  pointwise []
  by_cases h : k.val < 32
  · rw [dif_pos h]
    refine congrArg p (congrArg (ix3 b q) (Fin.ext ?_))
    dsimp only; omega
  · rw [dif_neg h]
    refine congrArg p (congrArg (ix3 b q) (Fin.ext ?_))
    dsimp only; omega

set_option maxHeartbeats 4000000 in
theorem v55_apply (b : Fin 16) (q : Fin 2048) (l : Fin 8448) : (val_main_v55 (F := Ideal) x0 x1 x2 (ix3 b q l) : EReal) = val_main_v13 (F := Ideal) x0 x1 x2 (ix3 b q (Fin.ofNat 8256 (col l.val))) := by
  have hl := l.isLt
  have hv18 := v18_apply x0 x1 x2 b q
  have hv50 := v50_apply x0 x1 x2 b q
  have hv14 := v14_apply x0 x1 x2 b q
  have hv15 := v15_apply x0 x1 x2 b q
  have hv51 := v51_apply x0 x1 x2 b q
  have hv16 := v16_apply x0 x1 x2 b q
  have hv54 := v54_apply x0 x1 x2 b q
  unfold val_main_v55
  generalize val_main_v18 (F := Ideal) x0 x1 x2 = v18 at hv18 ⊢
  generalize val_main_v50 (F := Ideal) x0 x1 x2 = v50 at hv50 ⊢
  generalize val_main_v14 (F := Ideal) x0 x1 x2 = v14 at hv14 ⊢
  generalize val_main_v15 (F := Ideal) x0 x1 x2 = v15 at hv15 ⊢
  generalize val_main_v51 (F := Ideal) x0 x1 x2 = v51 at hv51 ⊢
  generalize val_main_v16 (F := Ideal) x0 x1 x2 = v16 at hv16 ⊢
  generalize val_main_v54 (F := Ideal) x0 x1 x2 = v54 at hv54 ⊢
  generalize val_main_v13 (F := Ideal) x0 x1 x2 = p at hv18 hv50 hv14 hv15 hv51 hv16 hv54 ⊢
  pointwise []
  simp only [hv18, hv50, hv14, hv15, hv51, hv16, hv54]
  by_cases c0 : l.val < 4096
  · rw [dif_pos c0]; exact rcol_at p b q _ (rcol0 c0)
  rw [dif_neg c0]
  by_cases c1 : l.val - 4096 < 3072
  · rw [dif_pos c1]; exact rcol_at p b q _ (rcol1 c0 c1)
  rw [dif_neg c1]
  by_cases c2 : l.val - 4096 - 3072 < 512
  · rw [dif_pos c2]; exact rcol_at p b q _ (rcol2 c0 c1 c2)
  rw [dif_neg c2]
  by_cases c3 : l.val - 4096 - 3072 - 512 < 256
  · rw [dif_pos c3]; exact rcol_at p b q _ (rcol3 c0 c1 c2 c3)
  rw [dif_neg c3]
  by_cases c4 : l.val - 4096 - 3072 - 512 - 256 < 256
  · rw [dif_pos c4]; exact rcol_at p b q _ (rcol4 c0 c1 c2 c3 c4)
  rw [dif_neg c4]
  by_cases c5 : l.val - 4096 - 3072 - 512 - 256 - 256 < 64
  · rw [dif_pos c5]; exact rcol_at p b q _ (rcol5 c0 c1 c2 c3 c4 c5)
  rw [dif_neg c5]
  by_cases c6 : l.val - 4096 - 3072 - 512 - 256 - 256 - 64 < 64
  · rw [dif_pos c6]; exact rcol_at p b q _ (rcol6 c0 c1 c2 c3 c4 c5 c6)
  rw [dif_neg c6]
  by_cases c7 : l.val - 4096 - 3072 - 512 - 256 - 256 - 64 - 64 < 64
  · rw [dif_pos c7]; exact rcol_at p b q _ (rcol7 c0 c1 c2 c3 c4 c5 c6 c7)
  rw [dif_neg c7]
  exact rcol_at p b q _ (rcol8 c0 c1 c2 c3 c4 c5 c6 c7 hl)

/-- The first result at an element, -/
theorem v66_apply' (R : Fin 32768) (l : Fin 8448) : (val_main_v66 (F := Ideal) x0 x1 x2 (ix2 R l) : EReal) = prj x0 x1 x2 ⟨R.val / 2048, by omega⟩ ⟨R.val % 2048, by omega⟩ (col l.val) := by
  have e := v55_apply x0 x1 x2 ⟨R.val / 2048, by omega⟩ ⟨R.val % 2048, by omega⟩ l
  rw [v13_apply, Fin.val_ofNat, Nat.mod_eq_of_lt (col_lt l.isLt)] at e
  rw [← e]
  clear e
  unfold val_main_v66 val_main_v65
  generalize val_main_v55 (F := Ideal) x0 x1 x2 = p
  pointwise []

theorem v31_apply (b : Fin 16) (q : Fin 2048) (e : Fin 512) :
    (val_main_v31 (F := Ideal) x0 x1 x2 x3 (ix3 b q e) : EReal) = nrm 1140850688#32 (fun e : Fin 512 => prj x0 x1 x2 b q e.val) (fun e => (x3 (ix1 e) : EReal)) e := by
  have h : ∀ e : Fin 512, _ = prj x0 x1 x2 b q e.val := fun e => (v14_apply x0 x1 x2 b q e).trans (v13_apply x0 x1 x2 b q ⟨e.val, by omega⟩)
  simp only [← h]
  clear h
  unfold val_main_v31 val_main_v28 val_main_v27 val_main_v26 val_main_v25 val_main_v23 val_main_v21 val_main_v20 val_main_v19
  generalize val_main_v14 (F := Ideal) x0 x1 x2 = p
  pointwise [val_main_v30, val_main_v29, val_main_v24, val_main_v22, val_main_cst_2, val_main_cst_3, val_main_cst_4]
  rfl

theorem v32_apply (b : Fin 16) (q : Fin 2048) (n : Fin 1536) :
    (val_main_v32 (F := Ideal) x0 x1 x2 x3 x4 (ix3 b q n) : EReal) = up 1140850688#32 (fun e : Fin 512 => prj x0 x1 x2 b q e.val) (fun e => (x3 (ix1 e) : EReal)) (fun e => (x4 (ix2 e n) : EReal)) := by
  have e := v31_apply x0 x1 x2 x3 b q
  unfold up
  simp only [← e]
  clear e
  unfold val_main_v32
  generalize val_main_v31 (F := Ideal) x0 x1 x2 x3 = p
  pointwise []

theorem v61_apply (b : Fin 16) (q : Fin 2048) (k : Fin 1024) : (val_main_v61 (F := Ideal) x0 x1 x2 x3 x4 (ix3 b q k) : EReal) = (val_main_v32 (F := Ideal) x0 x1 x2 x3 x4 (ix3 b q ⟨k.val / 128 * 192 + k.val % 128, by omega⟩) : EReal) * Ideal.ofBits .f32 1033096506#32 := by
  unfold val_main_v61 val_main_v57 val_main_v35 val_main_v33
  generalize val_main_v32 (F := Ideal) x0 x1 x2 x3 x4 = p
  pointwise [val_main_v34, val_main_cst_5]

theorem v62_apply (b : Fin 16) (q : Fin 2048) (k : Fin 512) : (val_main_v62 (F := Ideal) x0 x1 x2 x3 x4 (ix3 b q k) : EReal) = (val_main_v32 (F := Ideal) x0 x1 x2 x3 x4 (ix3 b q ⟨k.val / 64 * 192 + (128 + k.val % 64), by omega⟩) : EReal) * Ideal.ofBits .f32 1033096506#32 := by
  unfold val_main_v62 val_main_v56 val_main_v35 val_main_v33
  generalize val_main_v32 (F := Ideal) x0 x1 x2 x3 x4 = p
  pointwise [val_main_v34, val_main_cst_5]

theorem v63_apply (b : Fin 16) (q : Fin 2048) (k : Fin 512) : (val_main_v63 (F := Ideal) x0 x1 x2 x3 x4 (ix3 b q k) : EReal) = (val_main_v32 (F := Ideal) x0 x1 x2 x3 x4 (ix3 b q ⟨k.val / 64 * 192 + (128 + (k.val + 32) % 64), by omega⟩) : EReal) * Ideal.ofBits .f32 1033096506#32 := by
  unfold val_main_v63 val_main_v60 val_main_v59 val_main_v58 val_main_v56 val_main_v35 val_main_v33
  generalize val_main_v32 (F := Ideal) x0 x1 x2 x3 x4 = p
  pointwise [val_main_v34, val_main_cst_5]
  by_cases h : k.val % 64 < 32
  · rw [dif_pos h]
    simp only [show (k.val + 32) % 64 = 32 + k.val % 64 by omega]
  · rw [dif_neg h]
    simp only [show (k.val + 32) % 64 = k.val % 64 - 32 by omega]

theorem v64_apply (b : Fin 16) (q : Fin 2048) (n : Fin 2048) : (val_main_v64 (F := Ideal) x0 x1 x2 x3 x4 (ix3 b q n) : EReal) = (val_main_v32 (F := Ideal) x0 x1 x2 x3 x4 (ix3 b q (Fin.ofNat 1536 (qcol n.val))) : EReal) * Ideal.ofBits .f32 1033096506#32 := by
  have hn := n.isLt
  have hv61 := v61_apply x0 x1 x2 x3 x4 b q
  have hv62 := v62_apply x0 x1 x2 x3 x4 b q
  have hv63 := v63_apply x0 x1 x2 x3 x4 b q
  unfold val_main_v64
  generalize val_main_v61 (F := Ideal) x0 x1 x2 x3 x4 = v61 at hv61 ⊢
  generalize val_main_v62 (F := Ideal) x0 x1 x2 x3 x4 = v62 at hv62 ⊢
  generalize val_main_v63 (F := Ideal) x0 x1 x2 x3 x4 = v63 at hv63 ⊢
  generalize val_main_v32 (F := Ideal) x0 x1 x2 x3 x4 = p at hv61 hv62 hv63 ⊢
  pointwise []
  simp only [hv61, hv62, hv63]
  by_cases c0 : n.val < 1024
  · rw [dif_pos c0]; refine congrArg (· * _) (congrArg p (congrArg (ix3 b q) (Fin.ext ?_))); simp only [Fin.val_ofNat]; unfold qcol; repeat' split
    all_goals omega
  rw [dif_neg c0]
  by_cases c1 : n.val - 1024 < 512
  · rw [dif_pos c1]; refine congrArg (· * _) (congrArg p (congrArg (ix3 b q) (Fin.ext ?_))); simp only [Fin.val_ofNat]; unfold qcol; repeat' split
    all_goals omega
  rw [dif_neg c1]
  refine congrArg (· * _) (congrArg p (congrArg (ix3 b q) (Fin.ext ?_))); simp only [Fin.val_ofNat]; unfold qcol; repeat' split
  all_goals omega

/-- the second -/
theorem v68_apply' (R : Fin 32768) (n : Fin 2048) : (val_main_v68 (F := Ideal) x0 x1 x2 x3 x4 (ix2 R n) : EReal) = up 1140850688#32 (fun e : Fin 512 => prj x0 x1 x2 ⟨R.val / 2048, by omega⟩ ⟨R.val % 2048, by omega⟩ e.val) (fun e => (x3 (ix1 e) : EReal)) (fun e => (x4 (ix2 e (Fin.ofNat 1536 (qcol n.val))) : EReal)) * Ideal.ofBits .f32 1033096506#32 := by
  rw [← v32_apply, ← v64_apply]
  unfold val_main_v68 val_main_v67
  generalize val_main_v64 (F := Ideal) x0 x1 x2 x3 x4 = p
  pointwise []

theorem v48_apply (b : Fin 16) (q : Fin 2048) (e : Fin 256) :
    (val_main_v48 (F := Ideal) x0 x1 x2 x5 (ix3 b q e) : EReal) = nrm 1132462080#32 (fun e : Fin 256 => prj x0 x1 x2 b q (512 + e.val)) (fun e => (x5 (ix1 e) : EReal)) e := by
  have h : ∀ e : Fin 256, _ = prj x0 x1 x2 b q (512 + e.val) := fun e => (v15_apply x0 x1 x2 b q e).trans (v13_apply x0 x1 x2 b q ⟨512 + e.val, by omega⟩)
  simp only [← h]
  clear h
  unfold val_main_v48 val_main_v45 val_main_v44 val_main_v43 val_main_v42 val_main_v40 val_main_v38 val_main_v37 val_main_v36
  generalize val_main_v15 (F := Ideal) x0 x1 x2 = p
  pointwise [val_main_v47, val_main_v46, val_main_v41, val_main_v39, val_main_cst_6, val_main_cst_7, val_main_cst_8]
  rfl

/-- and the third. -/
theorem v70_apply' (R : Fin 32768) (n : Fin 2048) : (val_main_v70 (F := Ideal) x0 x1 x2 x5 x6 (ix2 R n) : EReal) = up 1132462080#32 (fun e : Fin 256 => prj x0 x1 x2 ⟨R.val / 2048, by omega⟩ ⟨R.val % 2048, by omega⟩ (512 + e.val)) (fun e => (x5 (ix1 e) : EReal)) (fun e => (x6 (ix2 e n) : EReal)) := by
  have e := v48_apply x0 x1 x2 x5 ⟨R.val / 2048, by omega⟩ ⟨R.val % 2048, by omega⟩
  unfold up
  simp only [← e]
  clear e
  unfold val_main_v70 val_main_v69 val_main_v49
  generalize val_main_v48 (F := Ideal) x0 x1 x2 x5 = p
  pointwise []

end Cert.Reference4Ideal.Read
end
-- ==== Proof.PEq.lean ====
module

public import proofs.«01_k».proof.Proof.POps
public import proofs.«01_k».proof.Proof.PRef

@[expose] public section

set_option maxRecDepth 16384

noncomputable section

open Idealize.ShloMosaic Idealize.ShloMosaic.TcCoe Idealize.SL.Sem

/-!
  THE PROJECTIONS, kernel against reference: the reordered columns of the kernel's weights are the reference's columns, and the scale of the kernel's weight comes out of the sum.
-/

namespace Cert.Kernel4Ideal.Gen
open Cert.Kernel4Ideal Cert.Proj

variable (m : (ℓ : Loc nD τ sig) → Buf (Elt Ideal) ℓ) (c : Dev nD)

/-- A row's projection in the kernel is the reference's, at the column the kernel's is of. -/
theorem prow_eq (R : Fin 32768) (l : ℕ) (hl : l < 8448) : prow m c R.val l = Cert.Reference4Ideal.Read.prj (m ((c.tc : Thread nD τ).loc main_arg0)) (m ((c.tc : Thread nD τ).loc main_arg1)) (m ((c.tc : Thread nD τ).loc main_arg2)) ⟨R.val / 2048, by omega⟩ ⟨R.val % 2048, by omega⟩ (col l) := by
  have e0 : xrow m c R.val = _ := funext fun k => xrow_eq m c R k
  have e1 : gpre m c = _ := funext fun k => gpre_eq m c k
  have e2 : ∀ y, win m c l y = _ := fun y => win_eq m c ⟨l, hl⟩ y
  unfold prow Cert.Reference4Ideal.Read.prj proj Cert.Reference4Ideal.Read.byCol
  rw [e0, e1]
  exact Finset.sum_congr rfl fun y _ => congrArg (_ * ·) (e2 y)

theorem first_eq (R : Fin 32768) (l : Fin 8448) : (Cert.Reference4Ideal.Read.val_main_v66 (F := Ideal) (m ((c.tc : Thread nD τ).loc main_arg0)) (m ((c.tc : Thread nD τ).loc main_arg1)) (m ((c.tc : Thread nD τ).loc main_arg2)) (ix2 R l) : EReal) = prow m c R.val l.val :=
  (Cert.Reference4Ideal.Read.v66_apply' _ _ _ R l).trans (prow_eq m c R l.val l.isLt).symm

theorem second_eq (R : Fin 32768) (n : Fin 2048) : (Cert.Reference4Ideal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 R n) : EReal) = qrow m c R.val n := by
  refine (Cert.Reference4Ideal.Read.v68_apply' _ _ _ _ _ R n).trans ?_
  rw [← up_scale _ _ _ _ _ scale_pos scale_top]
  have e0 : (fun e : Fin 512 => prow m c R.val (7168 + e.val)) = _ := funext fun e => (prow_eq m c R (7168 + e.val) (by omega)).trans (by rw [col_q e.isLt])
  have e1 : gq m c = _ := funext fun k => gq_eq m c k
  have e2 : wq m c n = _ := funext fun e => wq_eq m c n e
  unfold qrow
  rw [e0, e1, e2]

theorem third_eq (R : Fin 32768) (n : Fin 2048) : (Cert.Reference4Ideal.Read.val_main_v70 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (ix2 R n) : EReal) = kvrow m c R.val n := by
  refine (Cert.Reference4Ideal.Read.v70_apply' _ _ _ _ _ R n).trans ?_
  have e0 : (fun e : Fin 256 => prow m c R.val (7680 + e.val)) = _ := funext fun e => (prow_eq m c R (7680 + e.val) (by omega)).trans (by rw [col_kv e.isLt])
  have e1 : gkv m c = _ := funext fun k => gkv_eq m c k
  have e2 : wkv m c n = _ := funext fun e => wkv_eq m c n e
  unfold kvrow
  rw [e0, e1, e2]

end Cert.Kernel4Ideal.Gen
end
-- ==== Proof.PSame.lean ====
module

public import proofs.«01_k».proof.Defs
public import proofs.«01_k».proof.Proof.Gen.Kernel4
public import proofs.«01_k».proof.Proof.Gen.Kernel4Ideal.Frame
public import proofs.«01_k».proof.Proof.PFrame

@[expose] public section

set_option maxRecDepth 16384

noncomputable section

open Idealize.ShloMosaic Idealize.SL.Sem

/-!
  THE PROJECTIONS' PROGRAM AS PRINTED has the text of the one printed for exact arithmetic, so its frame is read off the other's run.
-/

namespace Cert.Kernel4.Same

/-- The two programs' bodies, -/
theorem body : Cert.Kernel4.defs₀ (F := Bits) = Cert.Kernel4Ideal.defs₀ (F := Bits) := by
  unfold Cert.Kernel4.defs₀ Cert.Kernel4Ideal.defs₀
  refine congrArg Defs.onTc (funext fun l => funext fun x => ?_)
  match l, x with
  | 0, (t, s) =>
    show Cert.Kernel4.cc0_in_proj (F := Bits) _ _ _ _ _ _ _ _ _ _ _ _ _ _ _ _ _ _ _ _ _ _ _ = Cert.Kernel4Ideal.cc0_in_proj (F := Bits) _ _ _ _ _ _ _ _ _ _ _ _ _ _ _ _ _ _ _ _ _ _ _
    rfl

/-- and with the pipeline around them. -/
theorem table : Cert.Kernel4.defs (F := Bits) = Cert.Kernel4Ideal.defs (F := Bits) := by
  unfold Cert.Kernel4.defs Cert.Kernel4Ideal.defs
  exact congrArg (Pipeline.defs Cert.Kernel4.pcfgs) body

theorem frame : (haveI := Cert.Kernel4.Gen.facts; Cert.quiescent_Kernel4) := fun m ρ _ => by
  have h := Cert.Kernel4Ideal.Gen.frame (F := Bits) m ρ
  rw [← table] at h
  exact (θ_run Cert.Kernel4.defs _ _).mono (fun _ h => h) h

end Cert.Kernel4.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Kern
public import proofs.«01_k».proof.Proof.Ref2
public import Idealize.ShloMosaic.Adequacy
public import Idealize.ShloMosaic.Init
public import proofs.«01_k».proof.Proof.FKern
public import proofs.«01_k».proof.Proof.FRef
public import proofs.«01_k».proof.Proof.FSame
public import proofs.«01_k».proof.Proof.XEq
public import proofs.«01_k».proof.Proof.XSame
public import proofs.«01_k».proof.Proof.PEq
public import proofs.«01_k».proof.Proof.PSame
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read

@[expose] public section

noncomputable section

namespace Cert.Proof

open Idealize.ShloMosaic Idealize.SL.Sem Cert.Kernel

/-- The side conditions of the precondition's operations. -/
theorem preFacts : Cert.Pre_finite.Facts where
  concatenates_S32768x1536_S32768x2048_S32768x64_S32768x3648_d1 := by decide
  bcast_S_S32768x3648 := by decide

theorem top_word : Ideal.ofBits .f32 2139095040#32 = (⊤ : EReal) := by
  simp [Ideal.ofBits, Ideal.ieee]

/-- Where the precondition holds, the number under it is finite. -/
theorem finite_of (x : EReal) (h : BitVec.ofBool (decide ((FloatOps.absf (F := Ideal) (φ := .f32) x : EReal) < Ideal.ofBits .f32 2139095040#32)) = 1#1) : x ≠ ⊤ ∧ x ≠ ⊥ := by
  rw [top_word] at h
  constructor
  · rintro rfl
    revert h
    simp [FloatOps.absf]
  · rintro rfl
    revert h
    simp [FloatOps.absf]

section
variable (x0 : FVec Ideal Cert.Pre_finite.S32768x1536 .f32) (x1 : FVec Ideal Cert.Pre_finite.S32768x2048 .f32) (x2 : FVec Ideal Cert.Pre_finite.S32768x64 .f32) (x3 : IVec Cert.Pre_finite.S16x2048 32)
    (h : (haveI := preFacts; Cert.Pre_finite.fn (F := Ideal) x0 x1 x2 x3) = fun _ => 1#1)

include h

/-- The precondition at one element: the arguments laid side by side are finite there. -/
theorem finite_at (r : Fin 32768) (j : Fin 3648) :
    (if h : j.val < 1536 then x0 (ix2 r ⟨j.val, h⟩) else if h : j.val - 1536 < 2048 then x1 (ix2 r ⟨j.val - 1536, h⟩) else x2 (ix2 r ⟨j.val - 1536 - 2048, by omega⟩) : EReal) ≠ ⊤
    ∧ (if h : j.val < 1536 then x0 (ix2 r ⟨j.val, h⟩) else if h : j.val - 1536 < 2048 then x1 (ix2 r ⟨j.val - 1536, h⟩) else x2 (ix2 r ⟨j.val - 1536 - 2048, by omega⟩) : EReal) ≠ ⊥ := by
  refine finite_of _ ?_
  have h1 := congrFun h (ix2 r j)
  rw [← h1]
  unfold Cert.Pre_finite.fn
  pointwise

/-- Read under the precondition: the queries are finite. -/
theorem finite0 (i : Cert.Pre_finite.S32768x1536.Idx) : (x0 i : EReal) ≠ ⊤ ∧ (x0 i : EReal) ≠ ⊥ := by
  obtain ⟨r, d, rfl⟩ : ∃ (r : Fin 32768) (d : Fin 1536), i = ix2 r d := ⟨i 0, i 1, eq_ix2 i⟩
  have e := finite_at x0 x1 x2 x3 h r ⟨d.val, by omega⟩
  simpa using e

/-- The keys and values are finite. -/
theorem finite1 (i : Cert.Pre_finite.S32768x2048.Idx) : (x1 i : EReal) ≠ ⊤ ∧ (x1 i : EReal) ≠ ⊥ := by
  obtain ⟨r, d, rfl⟩ : ∃ (r : Fin 32768) (d : Fin 2048), i = ix2 r d := ⟨i 0, i 1, eq_ix2 i⟩
  have e := finite_at x0 x1 x2 x3 h r ⟨1536 + d.val, by omega⟩
  simpa using e

/-- The rotary keys are finite. -/
theorem finite2 (i : Cert.Pre_finite.S32768x64.Idx) : (x2 i : EReal) ≠ ⊤ ∧ (x2 i : EReal) ≠ ⊥ := by
  obtain ⟨r, d, rfl⟩ : ∃ (r : Fin 32768) (d : Fin 64), i = ix2 r d := ⟨i 0, i 1, eq_ix2 i⟩
  have e := finite_at x0 x1 x2 x3 h r ⟨3584 + d.val, by omega⟩
  rw [dif_neg (by show ¬ 3584 + d.val < 1536; omega), dif_neg (by show ¬ 3584 + d.val - 1536 < 2048; omega)] at e
  have e1 : (⟨3584 + d.val - 1536 - 2048, by omega⟩ : Fin 64) = d := Fin.ext (by show 3584 + d.val - 1536 - 2048 = d.val; omega)
  simpa only [e1] using e

end

/-- Kernel and reference leave the same array: the attention of the queries, keys and values, head by head. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : (haveI := preFacts; Cert.Pre_KernelIdeal_finite m))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v87 m' c = Cert.KernelIdeal.Value.G10 m c := by
  have f0 := finite0 _ _ _ _ (hp c)
  have f1 := finite1 _ _ _ _ (hp c)
  have f2 := finite2 _ _ _ _ (hp c)
  refine (Cert.ReferenceIdeal.Read.val_main_v87_eq m' c).trans ?_
  rw [h0, h1, h2, h3]
  funext i
  obtain ⟨R, l, rfl⟩ : ∃ (R : Fin 32768) (l : Fin 1024), i = ix2 R l := ⟨i 0, i 1, eq_ix2 i⟩
  exact (Cert.ReferenceIdeal.Read.result_eq _ _ _ _ f0 f1 f2 R l).trans (Cert.KernelIdeal.Gen.G10_attn m c f0 f1 f2 R l).symm

theorem algebraic : (haveI := Cert.KernelIdeal.Gen.facts; haveI := Cert.ReferenceIdeal.Gen.facts; haveI := preFacts; Cert.algebraic_KernelIdeal_ReferenceIdeal_pre_finite) :=
  fun m ρ m' ρ' hp hag => ⟨fun c => Cert.KernelIdeal.Value.G10 m c, Cert.KernelIdeal.Value.run m ρ,
    (θ_run _ _ _).mono (fun _ h c => ⟨(h c).1.trans (value_eq m m' c hp (hag c).1 (hag c).2.1 (hag c).2.2.1 (hag c).2.2.2), (h c).2⟩) (Cert.ReferenceIdeal.Value.run (F := Ideal) m' ρ')⟩

theorem frame_ri : (haveI := Cert.ReferenceIdeal.Gen.facts; Cert.quiescent_ReferenceIdeal) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The feed-forward kernel and its reference leave the same array: the feed-forward part of each row. -/
theorem value2_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Value.res_main_v34 m' c = Cert.Kernel2Ideal.Gen.G6 m c := by
  refine (Cert.Reference2Ideal.Read.val_main_v34_eq m' c).trans ?_
  rw [h0, h1, h2, h3, h4, h5]
  funext i
  obtain ⟨R, n, rfl⟩ : ∃ (R : Fin 32768) (n : Fin 2048), i = ix2 R n := ⟨i 0, i 1, eq_ix2 i⟩
  refine (Cert.Reference2Ideal.Read.v34_apply _ _ _ _ _ _ R n).trans ?_
  have e0 : Cert.Kernel2Ideal.Gen.xrow m c R.val = _ := funext fun k => Cert.Kernel2Ideal.Gen.xrow_eq m c R k
  have e1 : Cert.Kernel2Ideal.Gen.gpre m c = _ := funext fun k => Cert.Kernel2Ideal.Gen.gpre_eq m c k
  have e5 : Cert.Kernel2Ideal.Gen.gpost m c = _ := funext fun k => Cert.Kernel2Ideal.Gen.gpost_eq m c k
  have e2 : Cert.Kernel2Ideal.Gen.uGate m c = _ := funext fun j => funext fun k => Cert.Kernel2Ideal.Gen.uGate_eq m c j k
  have e3 : Cert.Kernel2Ideal.Gen.uUp m c = _ := funext fun j => funext fun k => Cert.Kernel2Ideal.Gen.uUp_eq m c j k
  have e4 : Cert.Kernel2Ideal.Gen.uDown m c = _ := funext fun j => funext fun k => Cert.Kernel2Ideal.Gen.uDown_eq m c j k
  have en : Fin.ofNat 2048 n.val = n := Fin.ext (Nat.mod_eq_of_lt n.isLt)
  show _ = Cert.Ffn.row (Cert.Kernel2Ideal.Gen.xrow m c R.val) (Cert.Kernel2Ideal.Gen.gpre m c) (Cert.Kernel2Ideal.Gen.gpost m c) (Cert.Kernel2Ideal.Gen.uGate m c) (Cert.Kernel2Ideal.Gen.uUp m c) (Cert.Kernel2Ideal.Gen.uDown m c) (Fin.ofNat 2048 n.val)
  rw [e0, e1, e2, e3, e4, e5, en]
  rfl

theorem algebraic2 : (haveI := Cert.Kernel2Ideal.Gen.facts; haveI := Cert.Reference2Ideal.Gen.facts; Cert.algebraic_Kernel2Ideal_Reference2Ideal) :=
  fun m ρ m' ρ' _ hag => ⟨fun c => Cert.Kernel2Ideal.Gen.G6 m c, Cert.Kernel2Ideal.Gen.run m ρ,
    (θ_run _ _ _).mono (fun _ h c => ⟨(h c).1.trans (value2_eq m m' c (hag c).1 (hag c).2.1 (hag c).2.2.1 (hag c).2.2.2.1 (hag c).2.2.2.2.1 (hag c).2.2.2.2.2), (h c).2⟩) (Cert.Reference2Ideal.Value.run (F := Ideal) m' ρ')⟩

theorem frame_r2 : (haveI := Cert.Reference2Ideal.Gen.facts; Cert.quiescent_Reference2Ideal) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The cross-attention kernel and its reference leave the same array: the cross-attention part of each row. -/
theorem value3_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    Cert.Reference3Ideal.Value.res_main_v50 m' c = Cert.Kernel3Ideal.Gen.G6 m c := by
  refine (Cert.Reference3Ideal.Read.val_main_v50_eq m' c).trans ?_
  rw [h0, h1, h2, h3, h4, h5]
  funext i
  obtain ⟨R, n, rfl⟩ : ∃ (R : Fin 32768) (n : Fin 2048), i = ix2 R n := ⟨i 0, i 1, eq_ix2 i⟩
  refine (Cert.Reference3Ideal.Read.v50_apply _ _ _ _ _ _ R n).trans ?_
  refine (Cert.Reference3Ideal.Read.v49_apply _ _ _ _ _ _ _ _ n).trans ?_
  have e0 : Cert.Kernel3Ideal.Gen.xrow m c R.val = _ := funext fun k => Cert.Kernel3Ideal.Gen.xrow_eq m c R k
  have e1 : Cert.Kernel3Ideal.Gen.gpre m c = _ := funext fun k => Cert.Kernel3Ideal.Gen.gpre_eq m c k
  have e5 : Cert.Kernel3Ideal.Gen.gpost m c = _ := funext fun k => Cert.Kernel3Ideal.Gen.gpost_eq m c k
  have e4 : Cert.Kernel3Ideal.Gen.wo m c = _ := funext fun l => funext fun k => Cert.Kernel3Ideal.Gen.wo_eq m c l k
  have en : Fin.ofNat 2048 n.val = n := Fin.ext (Nat.mod_eq_of_lt n.isLt)
  show _ = Cert.Xat.outRow (Cert.Kernel3Ideal.Gen.xrow m c R.val) (Cert.Kernel3Ideal.Gen.gpost m c) (Cert.Kernel3Ideal.Gen.wo m c) (fun l => Cert.Xat.kh (Cert.Xat.kq (Cert.Kernel3Ideal.Gen.xrow m c R.val) (Cert.Kernel3Ideal.Gen.gpre m c) (Cert.Kernel3Ideal.Gen.wq m c)) (Cert.Kernel3Ideal.Gen.mem m c (R.val / 2048)) (l.val / 256) ⟨l.val % 256, by omega⟩) (Fin.ofNat 2048 n.val)
  rw [e0, e1, e4, e5, en]
  refine congrArg (fun o => Cert.Xat.outRow _ _ _ o n) (funext fun l => ?_)
  exact Cert.Xat.head_eq m c _ _ ⟨R.val / 2048, by omega⟩ ⟨R.val % 2048, by omega⟩ ⟨l.val / 256, by omega⟩ ⟨l.val % 256, by omega⟩

theorem algebraic3 : (haveI := Cert.Kernel3Ideal.Gen.facts; haveI := Cert.Reference3Ideal.Gen.facts; Cert.algebraic_Kernel3Ideal_Reference3Ideal) :=
  fun m ρ m' ρ' _ hag => ⟨fun c => Cert.Kernel3Ideal.Gen.G6 m c, Cert.Kernel3Ideal.Gen.run m ρ,
    (θ_run _ _ _).mono (fun _ h c => ⟨(h c).1.trans (value3_eq m m' c (hag c).1 (hag c).2.1 (hag c).2.2.1 (hag c).2.2.2.1 (hag c).2.2.2.2.1 (hag c).2.2.2.2.2), (h c).2⟩) (Cert.Reference3Ideal.Value.run (F := Ideal) m' ρ')⟩

theorem frame_r3 : (haveI := Cert.Reference3Ideal.Gen.facts; Cert.quiescent_Reference3Ideal) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The projections' kernel and its reference leave the same three arrays. -/
theorem value4_0 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Value.res_main_v66 m' c = Cert.Kernel4Ideal.Gen.G7 m c := by
  refine (Cert.Reference4Ideal.Read.val_main_v66_eq m' c).trans ?_
  rw [h0, h1, h2]
  funext i
  obtain ⟨R, l, rfl⟩ : ∃ (R : Fin 32768) (l : Fin 8448), i = ix2 R l := ⟨i 0, i 1, eq_ix2 i⟩
  exact Cert.Kernel4Ideal.Gen.first_eq m c R l

theorem value4_1 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) :
    Cert.Reference4Ideal.Value.res_main_v68 m' c = Cert.Kernel4Ideal.Gen.G8 m c := by
  refine (Cert.Reference4Ideal.Read.val_main_v68_eq m' c).trans ?_
  rw [h0, h1, h2, h3, h4]
  funext i
  obtain ⟨R, n, rfl⟩ : ∃ (R : Fin 32768) (n : Fin 2048), i = ix2 R n := ⟨i 0, i 1, eq_ix2 i⟩
  have en : Fin.ofNat 2048 n.val = n := Fin.ext (Nat.mod_eq_of_lt n.isLt)
  show _ = Cert.Kernel4Ideal.Gen.qrow m c R.val (Fin.ofNat 2048 n.val)
  rw [en]
  exact Cert.Kernel4Ideal.Gen.second_eq m c R n

theorem value4_2 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (h6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) :
    Cert.Reference4Ideal.Read.val_main_v70 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) = Cert.Kernel4Ideal.Gen.G9 m c := by
  rw [h0, h1, h2, h5, h6]
  funext i
  obtain ⟨R, n, rfl⟩ : ∃ (R : Fin 32768) (n : Fin 2048), i = ix2 R n := ⟨i 0, i 1, eq_ix2 i⟩
  have en : Fin.ofNat 2048 n.val = n := Fin.ext (Nat.mod_eq_of_lt n.isLt)
  show _ = Cert.Kernel4Ideal.Gen.kvrow m c R.val (Fin.ofNat 2048 n.val)
  rw [en]
  exact Cert.Kernel4Ideal.Gen.third_eq m c R n

theorem algebraic4 : (haveI := Cert.Kernel4Ideal.Gen.facts; haveI := Cert.Reference4Ideal.Gen.facts; Cert.algebraic_Kernel4Ideal_Reference4Ideal) :=
  fun m ρ m' ρ' _ hag => ⟨fun c => Cert.Kernel4Ideal.Gen.G7 m c, fun c => Cert.Kernel4Ideal.Gen.G8 m c, fun c => Cert.Kernel4Ideal.Gen.G9 m c, Cert.Kernel4Ideal.Gen.run m ρ,
    (θ_run _ _ _).mono (fun _ h c => ⟨(h c).1.trans (value4_0 m m' c (hag c).1 (hag c).2.1 (hag c).2.2.1),
      (h c).2.1.trans (value4_1 m m' c (hag c).1 (hag c).2.1 (hag c).2.2.1 (hag c).2.2.2.1 (hag c).2.2.2.2.1),
      (h c).2.2.1.trans ((Cert.Reference4Ideal.Read.val_main_v70_eq (F := Ideal) _ _ _ _ _).trans (value4_2 m m' c (hag c).1 (hag c).2.1 (hag c).2.2.1 (hag c).2.2.2.2.2.1 (hag c).2.2.2.2.2.2)),
      (h c).2.2.2⟩) (Cert.Reference4Ideal.Value.run (F := Ideal) m' ρ')⟩

theorem frame_r4 : (haveI := Cert.Reference4Ideal.Gen.facts; Cert.quiescent_Reference4Ideal) := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, preFacts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  Cert.Kernel2.Same.frame, fun m ρ _ => Cert.Kernel2Ideal.Gen.frame m ρ, frame_r2,
  Cert.Kernel3.Same.frame, fun m ρ _ => Cert.Kernel3Ideal.Gen.frame m ρ, frame_r3,
  Cert.Kernel4.Same.frame, fun m ρ _ => Cert.Kernel4Ideal.Gen.frame m ρ, frame_r4,
  IdealRules.named_const.statement Cert.KernelIdeal.κ "neg" .f32 0xF149F2CA#32 ⊥ rfl,
  algebraic, trivial, algebraic2, trivial, algebraic3, trivial, algebraic4⟩

end Cert.Proof

end
